-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputReferenceIdeal (m : (ℓ : Loc Cert.OutputReferenceIdeal.nD Cert.OutputReferenceIdeal.τ Cert.OutputReferenceIdeal.sig) → Buf (Elt Ideal) ℓ) : Prop :=
  True

def Pre_Experts [hPre_tokens : Cert.Pre_tokens.Facts] (m : (ℓ : Loc Cert.Experts.nD Cert.Experts.τ Cert.Experts.sig) → Buf (Elt Bits) ℓ) : Prop :=
  ∀ c : Dev Cert.Experts.nD,
    (Cert.Pre_tokens.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))) = (fun _ => 1#1)

def Pre_ExpertsIdeal [hPre_tokens : Cert.Pre_tokens.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tokens.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tokens [hPre_tokens : Cert.Pre_tokens.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tokens.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7)) (m ((c.tc : Thread Cert.ExpertsReferenceIdeal.nD Cert.ExpertsReferenceIdeal.τ).loc Cert.ExpertsReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5)
      ∧ r.2.mem ((c.tc : Thread Cert.Output.nD Cert.Output.τ).loc Cert.Output.main_arg6) = m ((c.tc : Thread Cert.Output.nD Cert.Output.τ).loc Cert.Output.main_arg6)
      ∧ r.2.mem ((c.tc : Thread Cert.Output.nD Cert.Output.τ).loc Cert.Output.main_arg7) = m ((c.tc : Thread Cert.Output.nD Cert.Output.τ).loc Cert.Output.main_arg7)
      ∧ r.2.mem ((c.tc : Thread Cert.Output.nD Cert.Output.τ).loc Cert.Output.main_arg8) = m ((c.tc : Thread Cert.Output.nD Cert.Output.τ).loc Cert.Output.main_arg8))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
      ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
      ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8))
      ∧ r.2.sem = fun _ => 0)

def quiescent_OutputReferenceIdeal [hOutputReferenceIdeal : Cert.OutputReferenceIdeal.Facts] : Prop :=
  ∀ (m : (ℓ : Loc Cert.OutputReferenceIdeal.nD Cert.OutputReferenceIdeal.τ Cert.OutputReferenceIdeal.sig) → Buf (Elt Ideal) ℓ) (g : Dev Cert.OutputReferenceIdeal.nD → PrngReg), Pre_OutputReferenceIdeal m →
    θ_run (Cert.OutputReferenceIdeal.defs (F := Ideal)) (onTc (τ := Cert.OutputReferenceIdeal.τ) (Cert.OutputReferenceIdeal.main (F := Ideal))) ⟨m, fun _ => 0, g⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1)
      ∧ r.2.mem ((c.tc : Thread Cert.OutputReferenceIdeal.nD Cert.OutputReferenceIdeal.τ).loc Cert.OutputReferenceIdeal.main_arg2) = m ((c.tc : Thread Cert.OutputReferenceIdeal.nD Cert.OutputReferenceIdeal.τ).loc Cert.OutputReferenceIdeal.main_arg2)
      ∧ r.2.mem ((c.tc : Thread Cert.OutputReferenceIdeal.nD Cert.OutputReferenceIdeal.τ).loc Cert.OutputReferenceIdeal.main_arg3) = m ((c.tc : Thread Cert.OutputReferenceIdeal.nD Cert.OutputReferenceIdeal.τ).loc Cert.OutputReferenceIdeal.main_arg3)
      ∧ r.2.mem ((c.tc : Thread Cert.OutputReferenceIdeal.nD Cert.OutputReferenceIdeal.τ).loc Cert.OutputReferenceIdeal.main_arg4) = m ((c.tc : Thread Cert.OutputReferenceIdeal.nD Cert.OutputReferenceIdeal.τ).loc Cert.OutputReferenceIdeal.main_arg4)
      ∧ r.2.mem ((c.tc : Thread Cert.OutputReferenceIdeal.nD Cert.OutputReferenceIdeal.τ).loc Cert.OutputReferenceIdeal.main_arg5) = m ((c.tc : Thread Cert.OutputReferenceIdeal.nD Cert.OutputReferenceIdeal.τ).loc Cert.OutputReferenceIdeal.main_arg5)
      ∧ r.2.mem ((c.tc : Thread Cert.OutputReferenceIdeal.nD Cert.OutputReferenceIdeal.τ).loc Cert.OutputReferenceIdeal.main_arg6) = m ((c.tc : Thread Cert.OutputReferenceIdeal.nD Cert.OutputReferenceIdeal.τ).loc Cert.OutputReferenceIdeal.main_arg6)
      ∧ r.2.mem ((c.tc : Thread Cert.OutputReferenceIdeal.nD Cert.OutputReferenceIdeal.τ).loc Cert.OutputReferenceIdeal.main_arg7) = m ((c.tc : Thread Cert.OutputReferenceIdeal.nD Cert.OutputReferenceIdeal.τ).loc Cert.OutputReferenceIdeal.main_arg7)
      ∧ r.2.mem ((c.tc : Thread Cert.OutputReferenceIdeal.nD Cert.OutputReferenceIdeal.τ).loc Cert.OutputReferenceIdeal.main_arg8) = m ((c.tc : Thread Cert.OutputReferenceIdeal.nD Cert.OutputReferenceIdeal.τ).loc Cert.OutputReferenceIdeal.main_arg8))
      ∧ r.2.sem = fun _ => 0)

def quiescent_Experts [hExperts : Cert.Experts.Facts] [hPre_tokens : Cert.Pre_tokens.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] [hPre_tokens : Cert.Pre_tokens.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0)

def quiescent_ExpertsReferenceIdeal_pre_tokens [hExpertsReferenceIdeal : Cert.ExpertsReferenceIdeal.Facts] [hPre_tokens : Cert.Pre_tokens.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tokens m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7)
      ∧ r.2.mem ((c.tc : Thread Cert.ExpertsReferenceIdeal.nD Cert.ExpertsReferenceIdeal.τ).loc Cert.ExpertsReferenceIdeal.main_arg8) = m ((c.tc : Thread Cert.ExpertsReferenceIdeal.nD Cert.ExpertsReferenceIdeal.τ).loc Cert.ExpertsReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Output_OutputIdeal : Prop :=
  True

def algebraic_OutputIdeal_OutputReferenceIdeal [hOutputIdeal : Cert.OutputIdeal.Facts] [hOutputReferenceIdeal : Cert.OutputReferenceIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputReferenceIdeal.nD Cert.OutputReferenceIdeal.τ Cert.OutputReferenceIdeal.sig) → Buf (Elt Ideal) ℓ) (g' : Dev Cert.OutputReferenceIdeal.nD → PrngReg), Pre_OutputIdeal m →
    (∀ c : Dev Cert.OutputIdeal.nD,
      m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
      ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
      ∧ m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
      ∧ m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)
      ∧ m' ((c.tc : Thread Cert.OutputReferenceIdeal.nD Cert.OutputReferenceIdeal.τ).loc Cert.OutputReferenceIdeal.main_arg4) = m ((c.tc : Thread Cert.OutputIdeal.nD Cert.OutputIdeal.τ).loc Cert.OutputIdeal.main_arg4)
      ∧ m' ((c.tc : Thread Cert.OutputReferenceIdeal.nD Cert.OutputReferenceIdeal.τ).loc Cert.OutputReferenceIdeal.main_arg5) = m ((c.tc : Thread Cert.OutputIdeal.nD Cert.OutputIdeal.τ).loc Cert.OutputIdeal.main_arg5)
      ∧ m' ((c.tc : Thread Cert.OutputReferenceIdeal.nD Cert.OutputReferenceIdeal.τ).loc Cert.OutputReferenceIdeal.main_arg6) = m ((c.tc : Thread Cert.OutputIdeal.nD Cert.OutputIdeal.τ).loc Cert.OutputIdeal.main_arg6)
      ∧ m' ((c.tc : Thread Cert.OutputReferenceIdeal.nD Cert.OutputReferenceIdeal.τ).loc Cert.OutputReferenceIdeal.main_arg7) = m ((c.tc : Thread Cert.OutputIdeal.nD Cert.OutputIdeal.τ).loc Cert.OutputIdeal.main_arg7)
      ∧ m' ((c.tc : Thread Cert.OutputReferenceIdeal.nD Cert.OutputReferenceIdeal.τ).loc Cert.OutputReferenceIdeal.main_arg8) = m ((c.tc : Thread Cert.OutputIdeal.nD Cert.OutputIdeal.τ).loc Cert.OutputIdeal.main_arg8)) →
    ∃ (v0 : (c : Dev Cert.OutputIdeal.nD) → Buf (Elt Ideal) ((c.tc : Thread Cert.OutputIdeal.nD Cert.OutputIdeal.τ).loc Cert.OutputIdeal.main_v10_0)) (v1 : (c : Dev Cert.OutputIdeal.nD) → Buf (Elt Ideal) ((c.tc : Thread Cert.OutputIdeal.nD Cert.OutputIdeal.τ).loc Cert.OutputIdeal.main_v10_1)) (v2 : (c : Dev Cert.OutputIdeal.nD) → Buf (Elt Ideal) ((c.tc : Thread Cert.OutputIdeal.nD Cert.OutputIdeal.τ).loc Cert.OutputIdeal.main_v10_2)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v10_0) = v0 c
          ∧ r.2.mem ((c.tc : Thread Cert.OutputIdeal.nD Cert.OutputIdeal.τ).loc Cert.OutputIdeal.main_v10_1) = v1 c
          ∧ r.2.mem ((c.tc : Thread Cert.OutputIdeal.nD Cert.OutputIdeal.τ).loc Cert.OutputIdeal.main_v10_2) = v2 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
          ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
          ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
          ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8))
      ∧ θ_run (Cert.OutputReferenceIdeal.defs (F := Ideal)) (onTc (τ := Cert.OutputReferenceIdeal.τ) (Cert.OutputReferenceIdeal.main (F := Ideal))) ⟨m', fun _ => 0, g'⟩ (fun r => ∀ c : Dev Cert.OutputReferenceIdeal.nD,
          r.2.mem ((c.tc : Thread Cert.OutputReferenceIdeal.nD Cert.OutputReferenceIdeal.τ).loc Cert.OutputReferenceIdeal.main_v75) = v0 c
          ∧ r.2.mem ((c.tc : Thread Cert.OutputReferenceIdeal.nD Cert.OutputReferenceIdeal.τ).loc Cert.OutputReferenceIdeal.main_v76) = v1 c
          ∧ r.2.mem ((c.tc : Thread Cert.OutputReferenceIdeal.nD Cert.OutputReferenceIdeal.τ).loc Cert.OutputReferenceIdeal.main_v77) = v2 c
          ∧ r.2.mem ((c.tc : Thread Cert.OutputReferenceIdeal.nD Cert.OutputReferenceIdeal.τ).loc Cert.OutputReferenceIdeal.main_arg0) = m' ((c.tc : Thread Cert.OutputReferenceIdeal.nD Cert.OutputReferenceIdeal.τ).loc Cert.OutputReferenceIdeal.main_arg0)
          ∧ r.2.mem ((c.tc : Thread Cert.OutputReferenceIdeal.nD Cert.OutputReferenceIdeal.τ).loc Cert.OutputReferenceIdeal.main_arg1) = m' ((c.tc : Thread Cert.OutputReferenceIdeal.nD Cert.OutputReferenceIdeal.τ).loc Cert.OutputReferenceIdeal.main_arg1)
          ∧ r.2.mem ((c.tc : Thread Cert.OutputReferenceIdeal.nD Cert.OutputReferenceIdeal.τ).loc Cert.OutputReferenceIdeal.main_arg2) = m' ((c.tc : Thread Cert.OutputReferenceIdeal.nD Cert.OutputReferenceIdeal.τ).loc Cert.OutputReferenceIdeal.main_arg2)
          ∧ r.2.mem ((c.tc : Thread Cert.OutputReferenceIdeal.nD Cert.OutputReferenceIdeal.τ).loc Cert.OutputReferenceIdeal.main_arg3) = m' ((c.tc : Thread Cert.OutputReferenceIdeal.nD Cert.OutputReferenceIdeal.τ).loc Cert.OutputReferenceIdeal.main_arg3)
          ∧ r.2.mem ((c.tc : Thread Cert.OutputReferenceIdeal.nD Cert.OutputReferenceIdeal.τ).loc Cert.OutputReferenceIdeal.main_arg4) = m' ((c.tc : Thread Cert.OutputReferenceIdeal.nD Cert.OutputReferenceIdeal.τ).loc Cert.OutputReferenceIdeal.main_arg4)
          ∧ r.2.mem ((c.tc : Thread Cert.OutputReferenceIdeal.nD Cert.OutputReferenceIdeal.τ).loc Cert.OutputReferenceIdeal.main_arg5) = m' ((c.tc : Thread Cert.OutputReferenceIdeal.nD Cert.OutputReferenceIdeal.τ).loc Cert.OutputReferenceIdeal.main_arg5)
          ∧ r.2.mem ((c.tc : Thread Cert.OutputReferenceIdeal.nD Cert.OutputReferenceIdeal.τ).loc Cert.OutputReferenceIdeal.main_arg6) = m' ((c.tc : Thread Cert.OutputReferenceIdeal.nD Cert.OutputReferenceIdeal.τ).loc Cert.OutputReferenceIdeal.main_arg6)
          ∧ r.2.mem ((c.tc : Thread Cert.OutputReferenceIdeal.nD Cert.OutputReferenceIdeal.τ).loc Cert.OutputReferenceIdeal.main_arg7) = m' ((c.tc : Thread Cert.OutputReferenceIdeal.nD Cert.OutputReferenceIdeal.τ).loc Cert.OutputReferenceIdeal.main_arg7)
          ∧ r.2.mem ((c.tc : Thread Cert.OutputReferenceIdeal.nD Cert.OutputReferenceIdeal.τ).loc Cert.OutputReferenceIdeal.main_arg8) = m' ((c.tc : Thread Cert.OutputReferenceIdeal.nD Cert.OutputReferenceIdeal.τ).loc Cert.OutputReferenceIdeal.main_arg8))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_tokens : Cert.Pre_tokens.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)
      ∧ m' ((c.tc : Thread Cert.ExpertsReferenceIdeal.nD Cert.ExpertsReferenceIdeal.τ).loc Cert.ExpertsReferenceIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v11)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v11) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v37) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7)
          ∧ r.2.mem ((c.tc : Thread Cert.ExpertsReferenceIdeal.nD Cert.ExpertsReferenceIdeal.τ).loc Cert.ExpertsReferenceIdeal.main_arg8) = m' ((c.tc : Thread Cert.ExpertsReferenceIdeal.nD Cert.ExpertsReferenceIdeal.τ).loc Cert.ExpertsReferenceIdeal.main_arg8))

def Claim : Prop :=
  ∃ (hKernel : Cert.Kernel.Facts) (hKernelIdeal : Cert.KernelIdeal.Facts) (hReferenceIdeal : Cert.ReferenceIdeal.Facts) (hOutput : Cert.Output.Facts) (hOutputIdeal : Cert.OutputIdeal.Facts) (hOutputReferenceIdeal : Cert.OutputReferenceIdeal.Facts) (hExperts : Cert.Experts.Facts) (hExpertsIdeal : Cert.ExpertsIdeal.Facts) (hExpertsReferenceIdeal : Cert.ExpertsReferenceIdeal.Facts) (hPre_finite : Cert.Pre_finite.Facts) (hPre_tokens : Cert.Pre_tokens.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Output (hOutput := hOutput)
    ∧ quiescent_OutputIdeal (hOutputIdeal := hOutputIdeal)
    ∧ quiescent_OutputReferenceIdeal (hOutputReferenceIdeal := hOutputReferenceIdeal)
    ∧ quiescent_Experts (hExperts := hExperts) (hPre_tokens := hPre_tokens)
    ∧ quiescent_ExpertsIdeal (hExpertsIdeal := hExpertsIdeal) (hPre_tokens := hPre_tokens)
    ∧ quiescent_ExpertsReferenceIdeal (hExpertsReferenceIdeal := hExpertsReferenceIdeal)
    ∧ quiescent_ExpertsReferenceIdeal_pre_tokens (hExpertsReferenceIdeal := hExpertsReferenceIdeal) (hPre_tokens := hPre_tokens)
    ∧ preserves_Kernel_KernelIdeal
    ∧ algebraic_KernelIdeal_ReferenceIdeal_pre_finite (hKernelIdeal := hKernelIdeal) (hReferenceIdeal := hReferenceIdeal) (hPre_finite := hPre_finite)
    ∧ preserves_Output_OutputIdeal
    ∧ algebraic_OutputIdeal_OutputReferenceIdeal (hOutputIdeal := hOutputIdeal) (hOutputReferenceIdeal := hOutputReferenceIdeal)
    ∧ preserves_Experts_ExpertsIdeal
    ∧ algebraic_ExpertsIdeal_ExpertsReferenceIdeal (hExpertsIdeal := hExpertsIdeal) (hExpertsReferenceIdeal := hExpertsReferenceIdeal) (hPre_tokens := hPre_tokens)
-- ==== Pre_finite.lean ====
abbrev S32x256x1024 : Shape := ⟨3, ![32, 256, 1024]⟩
abbrev S8x1024 : Shape := ⟨2, ![8, 1024]⟩
abbrev S1024 : Shape := ⟨1, ![1024]⟩
abbrev S1x1024 : Shape := ⟨2, ![1, 1024]⟩
abbrev S1x1024x6144 : Shape := ⟨3, ![1, 1024, 6144]⟩
abbrev S1x6144 : Shape := ⟨2, ![1, 6144]⟩
abbrev S1x1024x3072 : Shape := ⟨3, ![1, 1024, 3072]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x6144 : S_.BroadcastsInDim S1x1024x6144 (![] : Fin 0 → Fin S1x1024x6144.rank)
  reducesTo_S1x1024x6144_S_d0_1_2 : S1x1024x6144.ReducesTo [0, 1, 2] S_
  bcast_S_S1x6144 : S_.BroadcastsInDim S1x6144 (![] : Fin 0 → Fin S1x6144.rank)
  reducesTo_S1x6144_S_d0_1 : S1x6144.ReducesTo [0, 1] S_
  bcast_S_S1x1024x3072 : S_.BroadcastsInDim S1x1024x3072 (![] : Fin 0 → Fin S1x1024x3072.rank)
  reducesTo_S1x1024x3072_S_d0_1_2 : S1x1024x3072.ReducesTo [0, 1, 2] S_

variable [Facts]

def fn_part1 {F : FTy → Type} [FloatOps F] (main_arg6 : FVec F S1x1024x3072 .f32) (main_v13 : IVec S_ 1) (main_v16 : IVec S1x6144 1) : IVec S_ 1 :=
  let main_c_5 : IVec S_ 1 := constantI S_ 1 1#1
  let main_v17 : IVec S_ 1 := (fun x v => Host.reduce IntOp.andi x v reducesTo_S1x6144_S_d0_1 h_S_) main_v16 main_c_5
  let main_v18 : IVec S_ 1 := andi main_v13 main_v17
  let main_v19 : FVec F S1x1024x3072 .f32 := Host.absf main_arg6
  let main_cst_6 : FVec F S_ .f32 := constant S_ .f32 0x7F800000#32
  let main_v20 : FVec F S1x1024x3072 .f32 := broadcastInDim S1x1024x3072 ![] bcast_S_S1x1024x3072 main_cst_6
  let main_v21 : IVec S1x1024x3072 1 := cmpf .olt main_v19 main_v20
  let main_c_7 : IVec S_ 1 := constantI S_ 1 1#1
  let main_v22 : IVec S_ 1 := (fun x v => Host.reduce IntOp.andi x v reducesTo_S1x1024x3072_S_d0_1_2 h_S_) main_v21 main_c_7
  let main_v23 : IVec S_ 1 := andi main_v18 main_v22
  main_v23

def fn {F : FTy → Type} [FloatOps F] (main_arg0 : FVec F S32x256x1024 .f32) (main_arg1 : FVec F S8x1024 .f32) (main_arg2 : FVec F S1024 .f32) (main_arg3 : FVec F S1x1024 .f32) (main_arg4 : FVec F S1x1024x6144 .f32) (main_arg5 : FVec F S1x6144 .f32) (main_arg6 : FVec F S1x1024x3072 .f32) : IVec S_ 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1x1024 .f32 := Host.absf main_arg3
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x6144 .f32 := Host.absf main_arg4
  let main_cst_2 : FVec F S_ .f32 := constant S_ .f32 0x7F800000#32
  let main_v10 : FVec F S1x1024x6144 .f32 := broadcastInDim S1x1024x6144 ![] bcast_S_S1x1024x6144 main_cst_2
  let main_v11 : IVec S1x1024x6144 1 := cmpf .olt main_v9 main_v10
  let main_c_3 : IVec S_ 1 := constantI S_ 1 1#1
  let main_v12 : IVec S_ 1 := (fun x v => Host.reduce IntOp.andi x v reducesTo_S1x1024x6144_S_d0_1_2 h_S_) main_v11 main_c_3
  let main_v13 : IVec S_ 1 := andi main_v8 main_v12
  let main_v14 : FVec F S1x6144 .f32 := Host.absf main_arg5
  let main_cst_4 : FVec F S_ .f32 := constant S_ .f32 0x7F800000#32
  let main_v15 : FVec F S1x6144 .f32 := broadcastInDim S1x6144 ![] bcast_S_S1x6144 main_cst_4
  let main_v16 : IVec S1x6144 1 := cmpf .olt main_v14 main_v15
  fn_part1 (F := F) main_arg6 main_v13 main_v16
-- ==== Pre_tokens.lean ====
abbrev S16x1024 : Shape := ⟨2, ![16, 1024]⟩
abbrev S8192x1024 : Shape := ⟨2, ![8192, 1024]⟩
abbrev S1x16x1024x2816 : Shape := ⟨4, ![1, 16, 1024, 2816]⟩
abbrev S1x16x2816x1024 : Shape := ⟨4, ![1, 16, 2816, 1024]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel

variable [Facts]

def fn {F : FTy → Type} [FloatOps F] (main_arg0 : IVec S16x1024 32) (main_arg1 : IVec S16x1024 32) (main_arg2 : FVec F S16x1024 .f32) (main_arg3 : FVec F S16x1024 .f32) (main_arg4 : FVec F S8192x1024 .f32) (main_arg5 : FVec F S8192x1024 .f32) (main_arg6 : FVec F S1x16x1024x2816 .f32) (main_arg7 : FVec F S1x16x1024x2816 .f32) (main_arg8 : FVec F S1x16x2816x1024 .f32) : IVec S_ 1 :=
  let main_c : IVec S_ 32 := constantI S_ 32 0#32
  let main_v0 : IVec S16x1024 32 := broadcastInDim S16x1024 ![] bcast_S_S16x1024 main_c
  let main_v1 : IVec S16x1024 1 := cmpi .sge main_arg0 main_v0
  let main_c_0 : IVec S_ 32 := constantI S_ 32 8192#32
  let main_v2 : IVec S16x1024 32 := broadcastInDim S16x1024 ![] bcast_S_S16x1024 main_c_0
  let main_v3 : IVec S16x1024 1 := cmpi .slt main_arg0 main_v2
  let main_v4 : IVec S16x1024 1 := andi main_v1 main_v3
  let main_c_1 : IVec S_ 1 := constantI S_ 1 1#1
  let main_v5 : IVec S_ 1 := (fun x v => Host.reduce IntOp.andi x v reducesTo_S16x1024_S_d0_1 h_S_) main_v4 main_c_1
  let main_c_2 : IVec S_ 32 := constantI S_ 32 0#32
  let main_v6 : IVec S16x1024 32 := broadcastInDim S16x1024 ![] bcast_S_S16x1024 main_c_2
  let main_v7 : IVec S16x1024 1 := cmpi .sge main_arg1 main_v6
  let main_c_3 : IVec S_ 32 := constantI S_ 32 8192#32
  let main_v8 : IVec S16x1024 32 := broadcastInDim S16x1024 ![] bcast_S_S16x1024 main_c_3
  let main_v9 : IVec S16x1024 1 := cmpi .slt main_arg1 main_v8
  let main_v10 : IVec S16x1024 1 := andi main_v7 main_v9
  let main_c_4 : IVec S_ 1 := constantI S_ 1 1#1
  let main_v11 : IVec S_ 1 := (fun x v => Host.reduce IntOp.andi x v reducesTo_S16x1024_S_d0_1 h_S_) main_v10 main_c_4
  let main_v12 : IVec S_ 1 := andi main_v5 main_v11
  main_v12
-- ==== Kernel.lean ====
abbrev S32x256x1024 : Shape := ⟨3, ![32, 256, 1024]⟩
abbrev S8x1024 : Shape := ⟨2, ![8, 1024]⟩
abbrev S1024 : Shape := ⟨1, ![1024]⟩
abbrev S1x1024 : Shape := ⟨2, ![1, 1024]⟩
abbrev S1x1024x6144 : Shape := ⟨3, ![1, 1024, 6144]⟩
abbrev S1x6144 : Shape := ⟨2, ![1, 6144]⟩
abbrev S1x1024x3072 : Shape := ⟨3, ![1, 1024, 3072]⟩
abbrev S_ : Shape := ⟨0, ![]⟩
abbrev S16x1024 : Shape := ⟨2, ![16, 1024]⟩
abbrev S1 : Shape := ⟨1, ![1]⟩
abbrev S1024x6144 : Shape := ⟨2, ![1024, 6144]⟩
abbrev S6144 : Shape := ⟨1, ![6144]⟩
abbrev S16x6144 : Shape := ⟨2, ![16, 6144]⟩
abbrev S1024x1024 : Shape := ⟨2, ![1024, 1024]⟩
abbrev S16x1x6144 : Shape := ⟨3, ![16, 1, 6144]⟩
abbrev S1024x3072 : Shape := ⟨2, ![1024, 3072]⟩
abbrev S32x256x1536 : Shape := ⟨3, ![32, 256, 1536]⟩
abbrev S32x8x256x64 : Shape := ⟨4, ![32, 8, 256, 64]⟩
abbrev S2x256x1024 : Shape := ⟨3, ![2, 256, 1024]⟩
abbrev S1x1x6144 : Shape := ⟨3, ![1, 1, 6144]⟩
abbrev S2x256x1536 : Shape := ⟨3, ![2, 256, 1536]⟩
abbrev S2x8x256x64 : Shape := ⟨4, ![2, 8, 256, 64]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩
abbrev S512x512 : Shape := ⟨2, ![512, 512]⟩
abbrev S2x256x512 : Shape := ⟨3, ![2, 256, 512]⟩
abbrev S512x1536 : Shape := ⟨2, ![512, 1536]⟩
abbrev S256x64 : Shape := ⟨2, ![256, 64]⟩
abbrev S1x1x256x64 : Shape := ⟨4, ![1, 1, 256, 64]⟩
abbrev S32x256x512 : Shape := ⟨3, ![32, 256, 512]⟩
abbrev S1x256x1536 : Shape := ⟨3, ![1, 256, 1536]⟩
abbrev S1x256x512 : Shape := ⟨3, ![1, 256, 512]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 29
  | .vmem => 24
  | .smem => 0
  | _ => 0

abbrev bufTy : (tb : Table) → Fin (tcTables nBuf tb) → BufTy
  | .hbm, ⟨0, _⟩ => ⟨S32x256x1024, .f32⟩
  | .hbm, ⟨1, _⟩ => ⟨S8x1024, .f32⟩
  | .hbm, ⟨2, _⟩ => ⟨S1024, .f32⟩
  | .hbm, ⟨3, _⟩ => ⟨S1x1024, .f32⟩
  | .hbm, ⟨4, _⟩ => ⟨S1x1024x6144, .f32⟩
  | .hbm, ⟨5, _⟩ => ⟨S1x6144, .f32⟩
  | .hbm, ⟨6, _⟩ => ⟨S1x1024x3072, .f32⟩
  | .hbm, ⟨7, _⟩ => ⟨S_, .f32⟩
  | .hbm, ⟨8, _⟩ => ⟨S16x1024, .f32⟩
  | .hbm, ⟨9, _⟩ => ⟨S_, .i32⟩
  | .hbm, ⟨10, _⟩ => ⟨S1, .i32⟩
  | .hbm, ⟨11, _⟩ => ⟨S16x1024, .f32⟩
  | .hbm, ⟨12, _⟩ => ⟨S_, .i32⟩
  | .hbm, ⟨13, _⟩ => ⟨S1, .i32⟩
  | .hbm, ⟨14, _⟩ => ⟨S16x1024, .f32⟩
  | .hbm, ⟨15, _⟩ => ⟨S1024x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x1x6144, .f32⟩
  | .hbm, ⟨20, _⟩ => ⟨S1024x3072, .f32⟩
  | .hbm, ⟨21, _⟩ => ⟨S1024x3072, .bf16⟩
  | .hbm, ⟨22, _⟩ => ⟨S1024, .f32⟩
  | .hbm, ⟨23, _⟩ => ⟨S1x1024, .f32⟩
  | .hbm, ⟨24, _⟩ => ⟨S32x256x1536, .f32⟩
  | .hbm, ⟨25, _⟩ => ⟨S32x256x1536, .f32⟩
  | .hbm, ⟨26, _⟩ => ⟨S32x8x256x64, .f32⟩
  | .hbm, ⟨27, _⟩ => ⟨S32x8x256x64, .f32⟩
  | .hbm, ⟨28, _⟩ => ⟨S32x256x512, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | .local _ .vmem, ⟨7, _⟩ => ⟨S2x256x1024, .f32⟩
  | .local _ .vmem, ⟨8, _⟩ => ⟨S2x256x1024, .f32⟩
  | .local _ .vmem, ⟨9, _⟩ => ⟨S1x1x6144, .f32⟩
  | .local _ .vmem, ⟨10, _⟩ => ⟨S1x1024, .f32⟩
  | .local _ .vmem, ⟨11, _⟩ => ⟨S1024x3072, .bf16⟩
  | .local _ .vmem, ⟨12, _⟩ => ⟨S2x256x1536, .f32⟩
  | .local _ .vmem, ⟨13, _⟩ => ⟨S2x256x1536, .f32⟩
  | .local _ .vmem, ⟨14, _⟩ => ⟨S2x256x1536, .f32⟩
  | .local _ .vmem, ⟨15, _⟩ => ⟨S2x256x1536, .f32⟩
  | .local _ .vmem, ⟨16, _⟩ => ⟨S2x8x256x64, .f32⟩
  | .local _ .vmem, ⟨17, _⟩ => ⟨S2x8x256x64, .f32⟩
  | .local _ .vmem, ⟨18, _⟩ => ⟨S2x8x256x64, .f32⟩
  | .local _ .vmem, ⟨19, _⟩ => ⟨S2x8x256x64, .f32⟩
  | .local _ .vmem, ⟨20, _⟩ => ⟨S1x256x1536, .f32⟩
  | .local _ .vmem, ⟨21, _⟩ => ⟨S1x256x1536, .f32⟩
  | .local _ .vmem, ⟨22, _⟩ => ⟨S1x256x512, .f32⟩
  | .local _ .vmem, ⟨23, _⟩ => ⟨S1x256x512, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev main_v15 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc1_transform_5 (i : grid1.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S2x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1x6144 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x3072 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2x256x1536 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2x256x1536 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x8x256x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2x8x256x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x256x1536 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]
-- ==== ReferenceIdeal.lean ====
abbrev S32x256x1024 : Shape := ⟨3, ![32, 256, 1024]⟩
abbrev S8x1024 : Shape := ⟨2, ![8, 1024]⟩
abbrev S1024 : Shape := ⟨1, ![1024]⟩
abbrev S1x1024 : Shape := ⟨2, ![1, 1024]⟩
abbrev S1x1024x6144 : Shape := ⟨3, ![1, 1024, 6144]⟩
abbrev S1x6144 : Shape := ⟨2, ![1, 6144]⟩
abbrev S1x1024x3072 : Shape := ⟨3, ![1, 1024, 3072]⟩
abbrev S1x1x1024 : Shape := ⟨3, ![1, 1, 1024]⟩
abbrev S_ : Shape := ⟨0, ![]⟩
abbrev S1024x6144 : Shape := ⟨2, ![1024, 6144]⟩
abbrev S1x1x6144 : Shape := ⟨3, ![1, 1, 6144]⟩
abbrev S6144 : Shape := ⟨1, ![6144]⟩
abbrev S32x256 : Shape := ⟨2, ![32, 256]⟩
abbrev S32x256x1 : Shape := ⟨3, ![32, 256, 1]⟩
abbrev S1024x3072 : Shape := ⟨2, ![1024, 3072]⟩
abbrev S32x256x3072 : Shape := ⟨3, ![32, 256, 3072]⟩
abbrev S32x256x512 : Shape := ⟨3, ![32, 256, 512]⟩
abbrev S32x256x1536 : Shape := ⟨3, ![32, 256, 1536]⟩
abbrev S32x256x8x64 : Shape := ⟨4, ![32, 256, 8, 64]⟩
abbrev S32x8x256x64 : Shape := ⟨4, ![32, 8, 256, 64]⟩
abbrev S32x8x256x256 : Shape := ⟨4, ![32, 8, 256, 256]⟩
abbrev S32x8x256 : Shape := ⟨3, ![32, 8, 256]⟩
abbrev S32x8x256x1 : Shape := ⟨4, ![32, 8, 256, 1]⟩

abbrev nBuf : Space → Nat
  | .hbm => 85
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S8x1024, .f32⟩
  | .hbm, ⟨2, _⟩ => ⟨S1024, .f32⟩
  | .hbm, ⟨3, _⟩ => ⟨S1x1024, .f32⟩
  | .hbm, ⟨4, _⟩ => ⟨S1x1024x6144, .f32⟩
  | .hbm, ⟨5, _⟩ => ⟨S1x6144, .f32⟩
  | .hbm, ⟨6, _⟩ => ⟨S1x1024x3072, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S_, .f32⟩
  | .hbm, ⟨11, _⟩ => ⟨S1x1x1024, .f32⟩
  | .hbm, ⟨12, _⟩ => ⟨S1x1x1024, .f32⟩
  | .hbm, ⟨13, _⟩ => ⟨S_, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S1024x6144, .f32⟩
  | .hbm, ⟨18, _⟩ => ⟨S1x1x6144, .f32⟩
  | .hbm, ⟨19, _⟩ => ⟨S6144, .f32⟩
  | .hbm, ⟨20, _⟩ => ⟨S1x1x6144, .f32⟩
  | .hbm, ⟨21, _⟩ => ⟨S1x1x6144, .f32⟩
  | .hbm, ⟨22, _⟩ => ⟨S1x1x1024, .f32⟩
  | .hbm, ⟨23, _⟩ => ⟨S1x1x1024, .f32⟩
  | .hbm, ⟨24, _⟩ => ⟨S1x1x1024, .f32⟩
  | .hbm, ⟨25, _⟩ => ⟨S1x1x1024, .f32⟩
  | .hbm, ⟨26, _⟩ => ⟨S1x1x1024, .f32⟩
  | .hbm, ⟨27, _⟩ => ⟨S1x1x1024, .f32⟩
  | .hbm, ⟨28, _⟩ => ⟨S1024, .f32⟩
  | .hbm, ⟨29, _⟩ => ⟨S32x256x1024, .f32⟩
  | .hbm, ⟨30, _⟩ => ⟨S_, .f32⟩
  | .hbm, ⟨31, _⟩ => ⟨S32x256, .f32⟩
  | .hbm, ⟨32, _⟩ => ⟨S32x256x1, .f32⟩
  | .hbm, ⟨33, _⟩ => ⟨S_, .f32⟩
  | .hbm, ⟨34, _⟩ => ⟨S32x256x1, .f32⟩
  | .hbm, ⟨35, _⟩ => ⟨S32x256x1, .f32⟩
  | .hbm, ⟨36, _⟩ => ⟨S_, .f32⟩
  | .hbm, ⟨37, _⟩ => ⟨S32x256x1, .f32⟩
  | .hbm, ⟨38, _⟩ => ⟨S32x256x1, .f32⟩
  | .hbm, ⟨39, _⟩ => ⟨S32x256x1, .f32⟩
  | .hbm, ⟨40, _⟩ => ⟨S32x256x1024, .f32⟩
  | .hbm, ⟨41, _⟩ => ⟨S32x256x1024, .f32⟩
  | .hbm, ⟨42, _⟩ => ⟨S1x1x1024, .f32⟩
  | .hbm, ⟨43, _⟩ => ⟨S32x256x1024, .f32⟩
  | .hbm, ⟨44, _⟩ => ⟨S32x256x1024, .f32⟩
  | .hbm, ⟨45, _⟩ => ⟨S_, .f32⟩
  | .hbm, ⟨46, _⟩ => ⟨S1x1x1024, .f32⟩
  | .hbm, ⟨47, _⟩ => ⟨S1x1x1024, .f32⟩
  | .hbm, ⟨48, _⟩ => ⟨S32x256x1024, .f32⟩
  | .hbm, ⟨49, _⟩ => ⟨S32x256x1024, .f32⟩
  | .hbm, ⟨50, _⟩ => ⟨S32x256x1024, .f32⟩
  | .hbm, ⟨51, _⟩ => ⟨S32x256x1024, .f32⟩
  | .hbm, ⟨52, _⟩ => ⟨S1024x3072, .f32⟩
  | .hbm, ⟨53, _⟩ => ⟨S32x256x3072, .f32⟩
  | .hbm, ⟨54, _⟩ => ⟨S32x256x512, .f32⟩
  | .hbm, ⟨55, _⟩ => ⟨S32x256x512, .f32⟩
  | .hbm, ⟨56, _⟩ => ⟨S32x256x512, .f32⟩
  | .hbm, ⟨57, _⟩ => ⟨S32x256x1536, .f32⟩
  | .hbm, ⟨58, _⟩ => ⟨S32x256x8x64, .f32⟩
  | .hbm, ⟨59, _⟩ => ⟨S32x8x256x64, .f32⟩
  | .hbm, ⟨60, _⟩ => ⟨S_, .f32⟩
  | .hbm, ⟨61, _⟩ => ⟨S32x8x256x64, .f32⟩
  | .hbm, ⟨62, _⟩ => ⟨S32x8x256x64, .f32⟩
  | .hbm, ⟨63, _⟩ => ⟨S32x256x8x64, .f32⟩
  | .hbm, ⟨64, _⟩ => ⟨S32x8x256x64, .f32⟩
  | .hbm, ⟨65, _⟩ => ⟨S32x256x8x64, .f32⟩
  | .hbm, ⟨66, _⟩ => ⟨S32x8x256x64, .f32⟩
  | .hbm, ⟨67, _⟩ => ⟨S32x8x256x256, .f32⟩
  | .hbm, ⟨68, _⟩ => ⟨S_, .f32⟩
  | .hbm, ⟨69, _⟩ => ⟨S32x8x256, .f32⟩
  | .hbm, ⟨70, _⟩ => ⟨S_, .f32⟩
  | .hbm, ⟨71, _⟩ => ⟨S32x8x256, .f32⟩
  | .hbm, ⟨72, _⟩ => ⟨S32x8x256, .f32⟩
  | .hbm, ⟨73, _⟩ => ⟨S32x8x256x1, .f32⟩
  | .hbm, ⟨74, _⟩ => ⟨S32x8x256x256, .f32⟩
  | .hbm, ⟨75, _⟩ => ⟨S32x8x256x256, .f32⟩
  | .hbm, ⟨76, _⟩ => ⟨S32x8x256x256, .f32⟩
  | .hbm, ⟨77, _⟩ => ⟨S_, .f32⟩
  | .hbm, ⟨78, _⟩ => ⟨S32x8x256, .f32⟩
  | .hbm, ⟨79, _⟩ => ⟨S32x8x256x1, .f32⟩
  | .hbm, ⟨80, _⟩ => ⟨S32x8x256x256, .f32⟩
  | .hbm, ⟨81, _⟩ => ⟨S32x8x256x256, .f32⟩
  | .hbm, ⟨82, _⟩ => ⟨S32x8x256x64, .f32⟩
  | .hbm, ⟨83, _⟩ => ⟨S32x256x8x64, .f32⟩
  | .hbm, ⟨84, _⟩ => ⟨S32x256x512, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_6 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Output.lean ====
abbrev S32x256x512 : Shape := ⟨3, ![32, 256, 512]⟩
abbrev S32x256x1024 : Shape := ⟨3, ![32, 256, 1024]⟩
abbrev S16x1x6144 : Shape := ⟨3, ![16, 1, 6144]⟩
abbrev S1x512 : Shape := ⟨2, ![1, 512]⟩
abbrev S1x1024 : Shape := ⟨2, ![1, 1024]⟩
abbrev S1x1024x1024 : Shape := ⟨3, ![1, 1024, 1024]⟩
abbrev S1x1024x16 : Shape := ⟨3, ![1, 1024, 16]⟩
abbrev S512 : Shape := ⟨1, ![512]⟩
abbrev S1024 : Shape := ⟨1, ![1024]⟩
abbrev S1024x1024 : Shape := ⟨2, ![1024, 1024]⟩
abbrev S1024x16 : Shape := ⟨2, ![1024, 16]⟩
abbrev S16x1024 : Shape := ⟨2, ![16, 1024]⟩
abbrev S8192x1024 : Shape := ⟨2, ![8192, 1024]⟩
abbrev S65536x128 : Shape := ⟨2, ![65536, 128]⟩
abbrev S16x8192 : Shape := ⟨2, ![16, 8192]⟩
abbrev S2x256x512 : Shape := ⟨3, ![2, 256, 512]⟩
abbrev S2x256x1024 : Shape := ⟨3, ![2, 256, 1024]⟩
abbrev S1x1x6144 : Shape := ⟨3, ![1, 1, 6144]⟩
abbrev S512x1024 : Shape := ⟨2, ![512, 1024]⟩
abbrev S4096x128 : Shape := ⟨2, ![4096, 128]⟩
abbrev S16x512 : Shape := ⟨2, ![16, 512]⟩
abbrev S512x512 : Shape := ⟨2, ![512, 512]⟩
abbrev S1x6144 : Shape := ⟨2, ![1, 6144]⟩
abbrev S512x1 : Shape := ⟨2, ![512, 1]⟩
abbrev S512x128 : Shape := ⟨2, ![512, 128]⟩

abbrev nBuf : Space → Nat
  | .hbm => 22
  | .vmem => 18
  | .smem => 0
  | _ => 0

abbrev bufTy : (tb : Table) → Fin (tcTables nBuf tb) → BufTy
  | .hbm, ⟨0, _⟩ => ⟨S32x256x512, .f32⟩
  | .hbm, ⟨1, _⟩ => ⟨S32x256x512, .f32⟩
  | .hbm, ⟨2, _⟩ => ⟨S32x256x1024, .f32⟩
  | .hbm, ⟨3, _⟩ => ⟨S16x1x6144, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1x1024x1024, .f32⟩
  | .hbm, ⟨8, _⟩ => ⟨S1x1024x16, .f32⟩
  | .hbm, ⟨9, _⟩ => ⟨S512, .f32⟩
  | .hbm, ⟨10, _⟩ => ⟨S512, .f32⟩
  | .hbm, ⟨11, _⟩ => ⟨S1024, .f32⟩
  | .hbm, ⟨12, _⟩ => ⟨S1024x1024, .f32⟩
  | .hbm, ⟨13, _⟩ => ⟨S1024x1024, .bf16⟩
  | .hbm, ⟨14, _⟩ => ⟨S1024x16, .f32⟩
  | .hbm, ⟨15, _⟩ => ⟨S16x1024, .f32⟩
  | .hbm, ⟨16, _⟩ => ⟨S1x512, .f32⟩
  | .hbm, ⟨17, _⟩ => ⟨S1x512, .f32⟩
  | .hbm, ⟨18, _⟩ => ⟨S1x1024, .f32⟩
  | .hbm, ⟨19, _⟩ => ⟨S8192x1024, .f32⟩
  | .hbm, ⟨20, _⟩ => ⟨S65536x128, .f32⟩
  | .hbm, ⟨21, _⟩ => ⟨S16x8192, .f32⟩
  | .local _ .vmem, ⟨0, _⟩ => ⟨S2x256x512, .f32⟩
  | .local _ .vmem, ⟨1, _⟩ => ⟨S2x256x512, .f32⟩
  | .local _ .vmem, ⟨2, _⟩ => ⟨S2x256x512, .f32⟩
  | .local _ .vmem, ⟨3, _⟩ => ⟨S2x256x512, .f32⟩
  | .local _ .vmem, ⟨4, _⟩ => ⟨S2x256x1024, .f32⟩
  | .local _ .vmem, ⟨5, _⟩ => ⟨S2x256x1024, .f32⟩
  | .local _ .vmem, ⟨6, _⟩ => ⟨S1x1x6144, .f32⟩
  | .local _ .vmem, ⟨7, _⟩ => ⟨S1x512, .f32⟩
  | .local _ .vmem, ⟨8, _⟩ => ⟨S1x512, .f32⟩
  | .local _ .vmem, ⟨9, _⟩ => ⟨S1x1024, .f32⟩
  | .local _ .vmem, ⟨10, _⟩ => ⟨S1024x1024, .bf16⟩
  | .local _ .vmem, ⟨11, _⟩ => ⟨S16x1024, .f32⟩
  | .local _ .vmem, ⟨12, _⟩ => ⟨S512x1024, .f32⟩
  | .local _ .vmem, ⟨13, _⟩ => ⟨S512x1024, .f32⟩
  | .local _ .vmem, ⟨14, _⟩ => ⟨S4096x128, .f32⟩
  | .local _ .vmem, ⟨15, _⟩ => ⟨S4096x128, .f32⟩
  | .local _ .vmem, ⟨16, _⟩ => ⟨S16x512, .f32⟩
  | .local _ .vmem, ⟨17, _⟩ => ⟨S16x512, .f32⟩
  | _, _ => ⟨S32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutputReferenceIdeal.lean ====
abbrev S32x256x512 : Shape := ⟨3, ![32, 256, 512]⟩
abbrev S32x256x1024 : Shape := ⟨3, ![32, 256, 1024]⟩
abbrev S16x1x6144 : Shape := ⟨3, ![16, 1, 6144]⟩
abbrev S1x512 : Shape := ⟨2, ![1, 512]⟩
abbrev S1x1024 : Shape := ⟨2, ![1, 1024]⟩
abbrev S1x1024x1024 : Shape := ⟨3, ![1, 1024, 1024]⟩
abbrev S1x1024x16 : Shape := ⟨3, ![1, 1024, 16]⟩
abbrev S1x1x6144 : Shape := ⟨3, ![1, 1, 6144]⟩
abbrev S1x1x1024 : Shape := ⟨3, ![1, 1, 1024]⟩
abbrev S512 : Shape := ⟨1, ![512]⟩
abbrev S_ : Shape := ⟨0, ![]⟩
abbrev S32x256 : Shape := ⟨2, ![32, 256]⟩
abbrev S32x256x1 : Shape := ⟨3, ![32, 256, 1]⟩
abbrev S1x1x512 : Shape := ⟨3, ![1, 1, 512]⟩
abbrev S1024x1024 : Shape := ⟨2, ![1024, 1024]⟩
abbrev S1024 : Shape := ⟨1, ![1024]⟩
abbrev S8192x1024 : Shape := ⟨2, ![8192, 1024]⟩
abbrev S1024x16 : Shape := ⟨2, ![1024, 16]⟩
abbrev S8192x16 : Shape := ⟨2, ![8192, 16]⟩
abbrev S8192 : Shape := ⟨1, ![8192]⟩
abbrev S8192x1 : Shape := ⟨2, ![8192, 1]⟩
abbrev S65536x128 : Shape := ⟨2, ![65536, 128]⟩
abbrev S16x8192 : Shape := ⟨2, ![16, 8192]⟩

abbrev nBuf : Space → Nat
  | .hbm => 100
  | .vmem => 0
  | .smem => 0
  | _ => 0

abbrev bufTy : (tb : Table) → Fin (tcTables nBuf tb) → BufTy
  | .hbm, ⟨0, _⟩ => ⟨S32x256x512, .f32⟩
  | .hbm, ⟨1, _⟩ => ⟨S32x256x512, .f32⟩
  | .hbm, ⟨2, _⟩ => ⟨S32x256x1024, .f32⟩
  | .hbm, ⟨3, _⟩ => ⟨S16x1x6144, .f32⟩
  | .hbm, ⟨4, _⟩ => ⟨S1x512, .f32⟩
  | .hbm, ⟨5, _⟩ => ⟨S1x512, .f32⟩
  | .hbm, ⟨6, _⟩ => ⟨S1x1024, .f32⟩
  | .hbm, ⟨7, _⟩ => ⟨S1x1024x1024, .f32⟩
  | .hbm, ⟨8, _⟩ => ⟨S1x1024x16, .f32⟩
  | .hbm, ⟨9, _⟩ => ⟨S1x1x6144, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S512, .f32⟩
  | .hbm, ⟨17, _⟩ => ⟨S32x256x512, .f32⟩
  | .hbm, ⟨18, _⟩ => ⟨S_, .f32⟩
  | .hbm, ⟨19, _⟩ => ⟨S32x256, .f32⟩
  | .hbm, ⟨20, _⟩ => ⟨S32x256x1, .f32⟩
  | .hbm, ⟨21, _⟩ => ⟨S_, .f32⟩
  | .hbm, ⟨22, _⟩ => ⟨S32x256x1, .f32⟩
  | .hbm, ⟨23, _⟩ => ⟨S32x256x1, .f32⟩
  | .hbm, ⟨24, _⟩ => ⟨S_, .f32⟩
  | .hbm, ⟨25, _⟩ => ⟨S32x256x1, .f32⟩
  | .hbm, ⟨26, _⟩ => ⟨S32x256x1, .f32⟩
  | .hbm, ⟨27, _⟩ => ⟨S32x256x1, .f32⟩
  | .hbm, ⟨28, _⟩ => ⟨S32x256x512, .f32⟩
  | .hbm, ⟨29, _⟩ => ⟨S32x256x512, .f32⟩
  | .hbm, ⟨30, _⟩ => ⟨S1x1x512, .f32⟩
  | .hbm, ⟨31, _⟩ => ⟨S32x256x512, .f32⟩
  | .hbm, ⟨32, _⟩ => ⟨S32x256x512, .f32⟩
  | .hbm, ⟨33, _⟩ => ⟨S512, .f32⟩
  | .hbm, ⟨34, _⟩ => ⟨S32x256x512, .f32⟩
  | .hbm, ⟨35, _⟩ => ⟨S_, .f32⟩
  | .hbm, ⟨36, _⟩ => ⟨S32x256, .f32⟩
  | .hbm, ⟨37, _⟩ => ⟨S32x256x1, .f32⟩
  | .hbm, ⟨38, _⟩ => ⟨S_, .f32⟩
  | .hbm, ⟨39, _⟩ => ⟨S32x256x1, .f32⟩
  | .hbm, ⟨40, _⟩ => ⟨S32x256x1, .f32⟩
  | .hbm, ⟨41, _⟩ => ⟨S_, .f32⟩
  | .hbm, ⟨42, _⟩ => ⟨S32x256x1, .f32⟩
  | .hbm, ⟨43, _⟩ => ⟨S32x256x1, .f32⟩
  | .hbm, ⟨44, _⟩ => ⟨S32x256x1, .f32⟩
  | .hbm, ⟨45, _⟩ => ⟨S32x256x512, .f32⟩
  | .hbm, ⟨46, _⟩ => ⟨S32x256x512, .f32⟩
  | .hbm, ⟨47, _⟩ => ⟨S1x1x512, .f32⟩
  | .hbm, ⟨48, _⟩ => ⟨S32x256x512, .f32⟩
  | .hbm, ⟨49, _⟩ => ⟨S32x256x512, .f32⟩
  | .hbm, ⟨50, _⟩ => ⟨S32x256x1024, .f32⟩
  | .hbm, ⟨51, _⟩ => ⟨S1024x1024, .f32⟩
  | .hbm, ⟨52, _⟩ => ⟨S32x256x1024, .f32⟩
  | .hbm, ⟨53, _⟩ => ⟨S32x256x1024, .f32⟩
  | .hbm, ⟨54, _⟩ => ⟨S32x256x1024, .f32⟩
  | .hbm, ⟨55, _⟩ => ⟨S32x256x1024, .f32⟩
  | .hbm, ⟨56, _⟩ => ⟨S1024, .f32⟩
  | .hbm, ⟨57, _⟩ => ⟨S32x256x1024, .f32⟩
  | .hbm, ⟨58, _⟩ => ⟨S_, .f32⟩
  | .hbm, ⟨59, _⟩ => ⟨S32x256, .f32⟩
  | .hbm, ⟨60, _⟩ => ⟨S32x256x1, .f32⟩
  | .hbm, ⟨61, _⟩ => ⟨S_, .f32⟩
  | .hbm, ⟨62, _⟩ => ⟨S32x256x1, .f32⟩
  | .hbm, ⟨63, _⟩ => ⟨S32x256x1, .f32⟩
  | .hbm, ⟨64, _⟩ => ⟨S_, .f32⟩
  | .hbm, ⟨65, _⟩ => ⟨S32x256x1, .f32⟩
  | .hbm, ⟨66, _⟩ => ⟨S32x256x1, .f32⟩
  | .hbm, ⟨67, _⟩ => ⟨S32x256x1, .f32⟩
  | .hbm, ⟨68, _⟩ => ⟨S32x256x1024, .f32⟩
  | .hbm, ⟨69, _⟩ => ⟨S32x256x1024, .f32⟩
  | .hbm, ⟨70, _⟩ => ⟨S1x1x1024, .f32⟩
  | .hbm, ⟨71, _⟩ => ⟨S32x256x1024, .f32⟩
  | .hbm, ⟨72, _⟩ => ⟨S32x256x1024, .f32⟩
  | .hbm, ⟨73, _⟩ => ⟨S_, .f32⟩
  | .hbm, ⟨74, _⟩ => ⟨S1x1x1024, .f32⟩
  | .hbm, ⟨75, _⟩ => ⟨S1x1x1024, .f32⟩
  | .hbm, ⟨76, _⟩ => ⟨S32x256x1024, .f32⟩
  | .hbm, ⟨77, _⟩ => ⟨S32x256x1024, .f32⟩
  | .hbm, ⟨78, _⟩ => ⟨S32x256x1024, .f32⟩
  | .hbm, ⟨79, _⟩ => ⟨S32x256x1024, .f32⟩
  | .hbm, ⟨80, _⟩ => ⟨S8192x1024, .f32⟩
  | .hbm, ⟨81, _⟩ => ⟨S1024x16, .f32⟩
  | .hbm, ⟨82, _⟩ => ⟨S8192x16, .f32⟩
  | .hbm, ⟨83, _⟩ => ⟨S_, .f32⟩
  | .hbm, ⟨84, _⟩ => ⟨S8192, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S8192x1, .f32⟩
  | .hbm, ⟨89, _⟩ => ⟨S8192x16, .f32⟩
  | .hbm, ⟨90, _⟩ => ⟨S8192x16, .f32⟩
  | .hbm, ⟨91, _⟩ => ⟨S8192x16, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S8192x16, .f32⟩
  | .hbm, ⟨96, _⟩ => ⟨S8192x16, .f32⟩
  | .hbm, ⟨97, _⟩ => ⟨S8192x1024, .f32⟩
  | .hbm, ⟨98, _⟩ => ⟨S65536x128, .f32⟩
  | .hbm, ⟨99, _⟩ => ⟨S16x8192, .f32⟩
  | _, _ => ⟨S32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_9 : Ref sig .tc := ⟨.hbm, 83, rfl⟩
abbrev main_v64 : Ref sig .tc := ⟨.hbm, 84, rfl⟩
abbrev main_cst_10 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_11 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩

abbrev nD : Nat := 1
abbrev τ : Topo := Topo.v7x

variable {F : FTy → Type} [FloatOps F]
-- ==== Experts.lean ====
abbrev S16x1024 : Shape := ⟨2, ![16, 1024]⟩
abbrev S8192x1024 : Shape := ⟨2, ![8192, 1024]⟩
abbrev S1x16x1024x2816 : Shape := ⟨4, ![1, 16, 1024, 2816]⟩
abbrev S1x16x2816x1024 : Shape := ⟨4, ![1, 16, 2816, 1024]⟩
abbrev S1x16x1024 : Shape := ⟨3, ![1, 16, 1024]⟩
abbrev S2x16x1024 : Shape := ⟨3, ![2, 16, 1024]⟩
abbrev S1024x16 : Shape := ⟨2, ![1024, 16]⟩
abbrev S2048x16 : Shape := ⟨2, ![2048, 16]⟩
abbrev S65536x128 : Shape := ⟨2, ![65536, 128]⟩
abbrev S16x1024x2816 : Shape := ⟨3, ![16, 1024, 2816]⟩
abbrev S16x2816x1024 : Shape := ⟨3, ![16, 2816, 1024]⟩
abbrev S16x2112x1024 : Shape := ⟨3, ![16, 2112, 1024]⟩
abbrev S1x1024x256 : Shape := ⟨3, ![1, 1024, 256]⟩
abbrev S1x256x1024 : Shape := ⟨3, ![1, 256, 1024]⟩
abbrev S1x2112x1024 : Shape := ⟨3, ![1, 2112, 1024]⟩
abbrev S16384x128 : Shape := ⟨2, ![16384, 128]⟩
abbrev S2048x1024 : Shape := ⟨2, ![2048, 1024]⟩
abbrev S_ : Shape := ⟨0, ![]⟩
abbrev S1x1x1 : Shape := ⟨3, ![1, 1, 1]⟩
abbrev S8x128 : Shape := ⟨2, ![8, 128]⟩
abbrev S512x128 : Shape := ⟨2, ![512, 128]⟩
abbrev S2112x1024 : Shape := ⟨2, ![2112, 1024]⟩
abbrev S1024x256 : Shape := ⟨2, ![1024, 256]⟩
abbrev S256x1024 : Shape := ⟨2, ![256, 1024]⟩
abbrev S512x1024 : Shape := ⟨2, ![512, 1024]⟩
abbrev S512x256 : Shape := ⟨2, ![512, 256]⟩
abbrev S1x512x1024 : Shape := ⟨3, ![1, 512, 1024]⟩
abbrev S2048 : Shape := ⟨1, ![2048]⟩
abbrev S2048x1 : Shape := ⟨2, ![2048, 1]⟩
abbrev S1x2048x1024 : Shape := ⟨3, ![1, 2048, 1024]⟩

abbrev nBuf : Space → Nat
  | .hbm => 20
  | .vmem => 11
  | .smem => 1
  | _ => 0

abbrev bufTy : (tb : Table) → Fin (tcTables nBuf tb) → BufTy
  | .hbm, ⟨0, _⟩ => ⟨S16x1024, .i32⟩
  | .hbm, ⟨1, _⟩ => ⟨S16x1024, .i32⟩
  | .hbm, ⟨2, _⟩ => ⟨S16x1024, .f32⟩
  | .hbm, ⟨3, _⟩ => ⟨S16x1024, .f32⟩
  | .hbm, ⟨4, _⟩ => ⟨S8192x1024, .f32⟩
  | .hbm, ⟨5, _⟩ => ⟨S8192x1024, .f32⟩
  | .hbm, ⟨6, _⟩ => ⟨S1x16x1024x2816, .f32⟩
  | .hbm, ⟨7, _⟩ => ⟨S1x16x1024x2816, .f32⟩
  | .hbm, ⟨8, _⟩ => ⟨S1x16x2816x1024, .f32⟩
  | .hbm, ⟨9, _⟩ => ⟨S1x16x1024, .i32⟩
  | .hbm, ⟨10, _⟩ => ⟨S1x16x1024, .i32⟩
  | .hbm, ⟨11, _⟩ => ⟨S1024x16, .f32⟩
  | .hbm, ⟨12, _⟩ => ⟨S1024x16, .f32⟩
  | .hbm, ⟨13, _⟩ => ⟨S2048x16, .f32⟩
  | .hbm, ⟨14, _⟩ => ⟨S65536x128, .f32⟩
  | .hbm, ⟨15, _⟩ => ⟨S65536x128, .f32⟩
  | .hbm, ⟨16, _⟩ => ⟨S16x1024x2816, .f32⟩
  | .hbm, ⟨17, _⟩ => ⟨S16x1024x2816, .f32⟩
  | .hbm, ⟨18, _⟩ => ⟨S16x2816x1024, .f32⟩
  | .hbm, ⟨19, _⟩ => ⟨S16x2112x1024, .f32⟩
  | .local _ .vmem, ⟨0, _⟩ => ⟨S2048x16, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x256x1024, .f32⟩
  | .local _ .vmem, ⟨6, _⟩ => ⟨S1x256x1024, .f32⟩
  | .local _ .vmem, ⟨7, _⟩ => ⟨S1x2112x1024, .f32⟩
  | .local _ .vmem, ⟨8, _⟩ => ⟨S1x2112x1024, .f32⟩
  | .local _ .vmem, ⟨9, _⟩ => ⟨S16384x128, .f32⟩
  | .local _ .vmem, ⟨10, _⟩ => ⟨S2048x1024, .bf16⟩
  | .local _ .smem, ⟨0, _⟩ => ⟨S2x16x1024, .i32⟩
  | _, _ => ⟨S16x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 11], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_62 : BitVec 32 := 0#32
  let c1024_i32 : BitVec 32 := 1024#32
  let v95 : BitVec 32 := Scalar.addi c0_i32_62 c1024_i32
  let c1_i32 : BitVec 32 := 1#32
  ⟨c0_i32_62, v95, c1_i32⟩
def k0_off1 (i : grid0.Coords) (k0_t1 : Fin k0_t1_loop.trips) : Fin 3 → Nat :=
  let c0_163 : Index := 0#32
  let arg0 : BitVec 32 := BitVec.ofNat 32 (i 0).val
  let v261 : Index := Scalar.indexCast arg0
  let c0_i32_62 : BitVec 32 := 0#32
  let c1_i32 : BitVec 32 := 1#32
  let arg13 : BitVec 32 := Scf.iv c0_i32_62 c1_i32 k0_t1
  let v262 : Index := Scalar.indexCast arg13
  ![0, v261.toNat, v262.toNat]
def k0_mult1 (v263 : BitVec 32) : BitVec 32 :=
  let c8_i32 : BitVec 32 := 8#32
  let v264 : BitVec 32 := Scalar.muli v263 c8_i32
  v264

def k0_mult2 (k0_t1 : Fin k0_t1_loop.trips) : BitVec 32 :=
  let c0_i32_62 : BitVec 32 := 0#32
  let c1_i32 : BitVec 32 := 1#32
  let arg13 : BitVec 32 := Scf.iv c0_i32_62 c1_i32 k0_t1
  let c8_i32_164 : BitVec 32 := 8#32
  let v266 : BitVec 32 := Scalar.muli arg13 c8_i32_164
  v266
def k0_off2 (k0_t1 : Fin k0_t1_loop.trips) : Fin 2 → Nat :=
  let c0_i32_62 : BitVec 32 := 0#32
  let c1_i32 : BitVec 32 := 1#32
  let arg13 : BitVec 32 := Scf.iv c0_i32_62 c1_i32 k0_t1
  let c8_i32_164 : BitVec 32 := 8#32
  let v266 : BitVec 32 := Scalar.muli arg13 c8_i32_164
  let v267 : BitVec 32 := v266
  let c0_i32_165 : BitVec 32 := 0#32
  ![v267.toNat, 0]
def k0_off3 (v263 : BitVec 32) : Fin 2 → Nat :=
  let c8_i32 : BitVec 32 := 8#32
  let v264 : BitVec 32 := Scalar.muli v263 c8_i32
  let v265 : BitVec 32 := v264
  let c0_i32_166 : BitVec 32 := 0#32
  ![v265.toNat, 0]

def k0_chk1 (i : grid0.Coords) (v263 : BitVec 32) : Prop :=
  (∀ (k0_h1 : k0_cond1 i = 1#1), 8 ∣ (k0_mult1 v263).toNat) ∧
  (∀ (k0_h1 : k0_cond1 i = 1#1), ∀ a, (k0_off3 v263) a + S8x128.size a ≤ S65536x128.size a)
theorem k0_mult1_dvd : ∀ (i : grid0.Coords) (v263 : BitVec 32) (k0_hw1 : k0_chk1 i v263), ∀ (k0_h1 : k0_cond1 i = 1#1), 8 ∣ (k0_mult1 v263).toNat := fun i v263 k0_hw1 k0_h1 => k0_hw1.1 k0_h1
theorem k0_off3_inb : ∀ (i : grid0.Coords) (v263 : BitVec 32) (k0_hw1 : k0_chk1 i v263), ∀ (k0_h1 : k0_cond1 i = 1#1), ∀ a, (k0_off3 v263) a + S8x128.size a ≤ S65536x128.size a := fun i v263 k0_hw1 k0_h1 => k0_hw1.2 k0_h1

def k0_off4 (i : grid0.Coords) (k0_t1 : Fin k0_t1_loop.trips) : Fin 3 → Nat :=
  let c1_167 : Index := 1#32
  let arg0 : BitVec 32 := BitVec.ofNat 32 (i 0).val
  let v270 : Index := Scalar.indexCast arg0
  let c0_i32_62 : BitVec 32 := 0#32
  let c1_i32 : BitVec 32 := 1#32
  let arg13 : BitVec 32 := Scf.iv c0_i32_62 c1_i32 k0_t1
  let v271 : Index := Scalar.indexCast arg13
  ![1, v270.toNat, v271.toNat]
def k0_mult3 (v272 : BitVec 32) : BitVec 32 :=
  let c8_i32_169 : BitVec 32 := 8#32
  let v274 : BitVec 32 := Scalar.muli v272 c8_i32_169
  v274

def k0_mult4 (k0_t1 : Fin k0_t1_loop.trips) : BitVec 32 :=
  let c1024_i32_168 : BitVec 32 := 1024#32
  let c0_i32_62 : BitVec 32 := 0#32
  let c1_i32 : BitVec 32 := 1#32
  let arg13 : BitVec 32 := Scf.iv c0_i32_62 c1_i32 k0_t1
  let v273 : BitVec 32 := Scalar.addi c1024_i32_168 arg13
  let c8_i32_170 : BitVec 32 := 8#32
  let v276 : BitVec 32 := Scalar.muli v273 c8_i32_170
  v276
def k0_off5 (k0_t1 : Fin k0_t1_loop.trips) : Fin 2 → Nat :=
  let c1024_i32_168 : BitVec 32 := 1024#32
  let c0_i32_62 : BitVec 32 := 0#32
  let c1_i32 : BitVec 32 := 1#32
  let arg13 : BitVec 32 := Scf.iv c0_i32_62 c1_i32 k0_t1
  let v273 : BitVec 32 := Scalar.addi c1024_i32_168 arg13
  let c8_i32_170 : BitVec 32 := 8#32
  let v276 : BitVec 32 := Scalar.muli v273 c8_i32_170
  let v277 : BitVec 32 := v276
  let c0_i32_171 : BitVec 32 := 0#32
  ![v277.toNat, 0]
def k0_off6 (v272 : BitVec 32) : Fin 2 → Nat :=
  let c8_i32_169 : BitVec 32 := 8#32
  let v274 : BitVec 32 := Scalar.muli v272 c8_i32_169
  let v275 : BitVec 32 := v274
  let c0_i32_172 : BitVec 32 := 0#32
  ![v275.toNat, 0]

def k0_chk2 (i : grid0.Coords) (v272 : BitVec 32) : Prop :=
  (∀ (k0_h1 : k0_cond1 i = 1#1), 8 ∣ (k0_mult3 v272).toNat) ∧
  (∀ (k0_h1 : k0_cond1 i = 1#1), ∀ a, (k0_off6 v272) a + S8x128.size a ≤ S65536x128.size a)
theorem k0_mult3_dvd : ∀ (i : grid0.Coords) (v272 : BitVec 32) (k0_hw2 : k0_chk2 i v272), ∀ (k0_h1 : k0_cond1 i = 1#1), 8 ∣ (k0_mult3 v272).toNat := fun i v272 k0_hw2 k0_h1 => k0_hw2.1 k0_h1
theorem k0_off6_inb : ∀ (i : grid0.Coords) (v272 : BitVec 32) (k0_hw2 : k0_chk2 i v272), ∀ (k0_h1 : k0_cond1 i = 1#1), ∀ a, (k0_off6 v272) a + S8x128.size a ≤ S65536x128.size a := fun i v272 k0_hw2 k0_h1 => k0_hw2.2 k0_h1

@[reducible] def k0_t2_loop : Scf.Loop 32 :=
  let c0_i32_64 : BitVec 32 := 0#32
  let c1024_i32_65 : BitVec 32 := 1024#32
  let v96 : BitVec 32 := Scalar.addi c0_i32_64 c1024_i32_65
  let c1_i32_66 : BitVec 32 := 1#32
  ⟨c0_i32_64, v96, c1_i32_66⟩
def k0_mult5 : BitVec 32 :=
  let c0_i32_163 : BitVec 32 := 0#32
  c0_i32_163
def k0_mult6 (k0_t2 : Fin k0_t2_loop.trips) : BitVec 32 :=
  let c0_i32_64 : BitVec 32 := 0#32
  let c1_i32_66 : BitVec 32 := 1#32
  let arg13 : BitVec 32 := Scf.iv c0_i32_64 c1_i32_66 k0_t2
  let c8_i32 : BitVec 32 := 8#32
  let v262 : BitVec 32 := Scalar.muli arg13 c8_i32
  v262
def k0_off7 (k0_t2 : Fin k0_t2_loop.trips) : Fin 2 → Nat :=
  let c0_i32_64 : BitVec 32 := 0#32
  let c1_i32_66 : BitVec 32 := 1#32
  let arg13 : BitVec 32 := Scf.iv c0_i32_64 c1_i32_66 k0_t2
  let c8_i32 : BitVec 32 := 8#32
  let v262 : BitVec 32 := Scalar.muli arg13 c8_i32
  let v263 : BitVec 32 := v262
  let c0_i32_164 : BitVec 32 := 0#32
  ![v263.toNat, 0]
def k0_mult7 : BitVec 32 :=
  let c0_i32_167 : BitVec 32 := 0#32
  c0_i32_167
def k0_mult8 (k0_t2 : Fin k0_t2_loop.trips) : BitVec 32 :=
  let c1024_i32_166 : BitVec 32 := 1024#32
  let c0_i32_64 : BitVec 32 := 0#32
  let c1_i32_66 : BitVec 32 := 1#32
  let arg13 : BitVec 32 := Scf.iv c0_i32_64 c1_i32_66 k0_t2
  let v266 : BitVec 32 := Scalar.addi c1024_i32_166 arg13
  let c8_i32_168 : BitVec 32 := 8#32
  let v268 : BitVec 32 := Scalar.muli v266 c8_i32_168
  v268
def k0_off8 (k0_t2 : Fin k0_t2_loop.trips) : Fin 2 → Nat :=
  let c1024_i32_166 : BitVec 32 := 1024#32
  let c0_i32_64 : BitVec 32 := 0#32
  let c1_i32_66 : BitVec 32 := 1#32
  let arg13 : BitVec 32 := Scf.iv c0_i32_64 c1_i32_66 k0_t2
  let v266 : BitVec 32 := Scalar.addi c1024_i32_166 arg13
  let c8_i32_168 : BitVec 32 := 8#32
  let v268 : BitVec 32 := Scalar.muli v266 c8_i32_168
  let v269 : BitVec 32 := v268
  let c0_i32_169 : BitVec 32 := 0#32
  ![v269.toNat, 0]
def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2112x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsReferenceIdeal.lean ====
abbrev S16x1024 : Shape := ⟨2, ![16, 1024]⟩
abbrev S8192x1024 : Shape := ⟨2, ![8192, 1024]⟩
abbrev S1x16x1024x2816 : Shape := ⟨4, ![1, 16, 1024, 2816]⟩
abbrev S1x16x2816x1024 : Shape := ⟨4, ![1, 16, 2816, 1024]⟩
abbrev S_ : Shape := ⟨0, ![]⟩
abbrev S16x1024x1 : Shape := ⟨3, ![16, 1024, 1]⟩
abbrev S16x1024x1024 : Shape := ⟨3, ![16, 1024, 1024]⟩
abbrev S16x1024x2816 : Shape := ⟨3, ![16, 1024, 2816]⟩
abbrev S16x2816x1024 : Shape := ⟨3, ![16, 2816, 1024]⟩
abbrev S16x2048x1024 : Shape := ⟨3, ![16, 2048, 1024]⟩
abbrev S16x2112x1024 : Shape := ⟨3, ![16, 2112, 1024]⟩

abbrev nBuf : Space → Nat
  | .hbm => 69
  | .vmem => 0
  | .smem => 0
  | _ => 0

abbrev bufTy : (tb : Table) → Fin (tcTables nBuf tb) → BufTy
  | .hbm, ⟨0, _⟩ => ⟨S16x1024, .i32⟩
  | .hbm, ⟨1, _⟩ => ⟨S16x1024, .i32⟩
  | .hbm, ⟨2, _⟩ => ⟨S16x1024, .f32⟩
  | .hbm, ⟨3, _⟩ => ⟨S16x1024, .f32⟩
  | .hbm, ⟨4, _⟩ => ⟨S8192x1024, .f32⟩
  | .hbm, ⟨5, _⟩ => ⟨S8192x1024, .f32⟩
  | .hbm, ⟨6, _⟩ => ⟨S1x16x1024x2816, .f32⟩
  | .hbm, ⟨7, _⟩ => ⟨S1x16x1024x2816, .f32⟩
  | .hbm, ⟨8, _⟩ => ⟨S1x16x2816x1024, .f32⟩
  | .hbm, ⟨9, _⟩ => ⟨S_, .i32⟩
  | .hbm, ⟨10, _⟩ => ⟨S16x1024, .i32⟩
  | .hbm, ⟨11, _⟩ => ⟨S16x1024, .i1⟩
  | .hbm, ⟨12, _⟩ => ⟨S_, .i32⟩
  | .hbm, ⟨13, _⟩ => ⟨S16x1024, .i32⟩
  | .hbm, ⟨14, _⟩ => ⟨S16x1024, .i32⟩
  | .hbm, ⟨15, _⟩ => ⟨S16x1024, .i32⟩
  | .hbm, ⟨16, _⟩ => ⟨S16x1024x1, .i32⟩
  | .hbm, ⟨17, _⟩ => ⟨S16x1024x1024, .f32⟩
  | .hbm, ⟨18, _⟩ => ⟨S16x1024x2816, .f32⟩
  | .hbm, ⟨19, _⟩ => ⟨S16x1024x2816, .f32⟩
  | .hbm, ⟨20, _⟩ => ⟨S16x1024x2816, .f32⟩
  | .hbm, ⟨21, _⟩ => ⟨S16x1024x2816, .f32⟩
  | .hbm, ⟨22, _⟩ => ⟨S_, .f32⟩
  | .hbm, ⟨23, _⟩ => ⟨S16x1024x2816, .f32⟩
  | .hbm, ⟨24, _⟩ => ⟨S16x1024x2816, .f32⟩
  | .hbm, ⟨25, _⟩ => ⟨S_, .f32⟩
  | .hbm, ⟨26, _⟩ => ⟨S16x1024x2816, .f32⟩
  | .hbm, ⟨27, _⟩ => ⟨S16x1024x2816, .f32⟩
  | .hbm, ⟨28, _⟩ => ⟨S16x1024x2816, .f32⟩
  | .hbm, ⟨29, _⟩ => ⟨S16x1024x2816, .f32⟩
  | .hbm, ⟨30, _⟩ => ⟨S16x1024x2816, .f32⟩
  | .hbm, ⟨31, _⟩ => ⟨S16x1024x2816, .f32⟩
  | .hbm, ⟨32, _⟩ => ⟨S16x2816x1024, .f32⟩
  | .hbm, ⟨33, _⟩ => ⟨S16x1024x1024, .f32⟩
  | .hbm, ⟨34, _⟩ => ⟨S16x1024x1, .f32⟩
  | .hbm, ⟨35, _⟩ => ⟨S16x1024x1024, .f32⟩
  | .hbm, ⟨36, _⟩ => ⟨S16x1024x1024, .f32⟩
  | .hbm, ⟨37, _⟩ => ⟨S_, .i32⟩
  | .hbm, ⟨38, _⟩ => ⟨S16x1024, .i32⟩
  | .hbm, ⟨39, _⟩ => ⟨S16x1024, .i1⟩
  | .hbm, ⟨40, _⟩ => ⟨S_, .i32⟩
  | .hbm, ⟨41, _⟩ => ⟨S16x1024, .i32⟩
  | .hbm, ⟨42, _⟩ => ⟨S16x1024, .i32⟩
  | .hbm, ⟨43, _⟩ => ⟨S16x1024, .i32⟩
  | .hbm, ⟨44, _⟩ => ⟨S16x1024x1, .i32⟩
  | .hbm, ⟨45, _⟩ => ⟨S16x1024x1024, .f32⟩
  | .hbm, ⟨46, _⟩ => ⟨S16x1024x2816, .f32⟩
  | .hbm, ⟨47, _⟩ => ⟨S16x1024x2816, .f32⟩
  | .hbm, ⟨48, _⟩ => ⟨S16x1024x2816, .f32⟩
  | .hbm, ⟨49, _⟩ => ⟨S16x1024x2816, .f32⟩
  | .hbm, ⟨50, _⟩ => ⟨S_, .f32⟩
  | .hbm, ⟨51, _⟩ => ⟨S16x1024x2816, .f32⟩
  | .hbm, ⟨52, _⟩ => ⟨S16x1024x2816, .f32⟩
  | .hbm, ⟨53, _⟩ => ⟨S_, .f32⟩
  | .hbm, ⟨54, _⟩ => ⟨S16x1024x2816, .f32⟩
  | .hbm, ⟨55, _⟩ => ⟨S16x1024x2816, .f32⟩
  | .hbm, ⟨56, _⟩ => ⟨S16x1024x2816, .f32⟩
  | .hbm, ⟨57, _⟩ => ⟨S16x1024x2816, .f32⟩
  | .hbm, ⟨58, _⟩ => ⟨S16x1024x2816, .f32⟩
  | .hbm, ⟨59, _⟩ => ⟨S16x1024x2816, .f32⟩
  | .hbm, ⟨60, _⟩ => ⟨S16x2816x1024, .f32⟩
  | .hbm, ⟨61, _⟩ => ⟨S16x1024x1024, .f32⟩
  | .hbm, ⟨62, _⟩ => ⟨S16x1024x1, .f32⟩
  | .hbm, ⟨63, _⟩ => ⟨S16x1024x1024, .f32⟩
  | .hbm, ⟨64, _⟩ => ⟨S16x1024x1024, .f32⟩
  | .hbm, ⟨65, _⟩ => ⟨S16x2048x1024, .f32⟩
  | .hbm, ⟨66, _⟩ => ⟨S_, .i32⟩
  | .hbm, ⟨67, _⟩ => ⟨S_, .f32⟩
  | .hbm, ⟨68, _⟩ => ⟨S16x2112x1024, .f32⟩
  | _, _ => ⟨S16x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_1 : Ref sig .tc := ⟨.hbm, 37, rfl⟩
abbrev main_v18 : Ref sig .tc := ⟨.hbm, 38, rfl⟩
abbrev main_v19 : Ref sig .tc := ⟨.hbm, 39, rfl⟩
abbrev main_c_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_3 : Ref sig .tc := ⟨.hbm, 66, rfl⟩
abbrev main_call2_v0 : Ref sig .tc := ⟨.hbm, 67, rfl⟩
abbrev main_v37 : Ref sig .tc := ⟨.hbm, 68, rfl⟩

abbrev nD : Nat := 1
abbrev τ : Topo := Topo.v7x

variable {F : FTy → Type} [FloatOps F]
-- ==== Proof.Bits.lean ====
module

public import proofs.«01_k».proof.Defs
public import proofs.«01_k».proof.Proof.Gen.Experts
public import proofs.«01_k».proof.Proof.Gen.ExpertsIdeal
public import proofs.«01_k».proof.Proof.Gen.Pre_tokens
public import Idealize.ShloMosaic.Lib.Tactic

@[expose] public section

set_option maxRecDepth 16384
set_option maxHeartbeats 400000

noncomputable section

/-! # The program as printed and its idealization have one text

Read at bits, the second is the first, so a frame of the second at every instance is a frame of the first. -/

open Idealize.ShloMosaic Idealize.SL.Sem

namespace Cert.Proof

/-- The precondition, of the idealized program's arguments read at bits. -/
def PreBits [hPre_tokens : Cert.Pre_tokens.Facts] (m : (ℓ : Loc Cert.ExpertsIdeal.nD Cert.ExpertsIdeal.τ Cert.ExpertsIdeal.sig) → Buf (Elt Bits) ℓ) : Prop :=
  ∀ c : Dev Cert.ExpertsIdeal.nD,
    (Cert.Pre_tokens.fn (F := Bits) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))) = (fun _ => 1#1)

/-- The frame of the idealized program's text read at bits. -/
def FrameBits [hExpertsIdeal : Cert.ExpertsIdeal.Facts] [hPre_tokens : Cert.Pre_tokens.Facts] : Prop :=
  ∀ (m : (ℓ : Loc Cert.ExpertsIdeal.nD Cert.ExpertsIdeal.τ Cert.ExpertsIdeal.sig) → Buf (Elt Bits) ℓ) (g : Dev Cert.ExpertsIdeal.nD → PrngReg), PreBits m →
    θ_run (Cert.ExpertsIdeal.defs (F := Bits)) (onTc (τ := Cert.ExpertsIdeal.τ) (Cert.ExpertsIdeal.main (F := Bits))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

/-- The two frames are one statement. -/
theorem frame_bits_eq : @Cert.quiescent_Experts Cert.Experts.Gen.facts Cert.Pre_tokens.Gen.facts
    = @FrameBits Cert.ExpertsIdeal.Gen.facts Cert.Pre_tokens.Gen.facts := by
  sl_kernel_rfl

end Cert.Proof

end
-- ==== Proof.Output.Body.lean ====
module

public import proofs.«01_k».proof.Proof.Gen.OutputIdeal.Skeleton
public import proofs.«01_k».proof.Proof.Gen.OutputIdeal.Frame
public import Idealize.ShloMosaic.Lib.Claim
public import Idealize.ShloMosaic.Lib.Pointwise

@[expose] public section

set_option maxRecDepth 16384

noncomputable section

/-! # The body of the out-projection's kernel

What one grid point leaves in the three output buffers, and the run of the body to it. The second norm's rows are
stored through eight rectangles of stride eight: row `8 r + j` of the buffer is row `r` of the block's `j`-th 128 columns. -/

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.OutputIdeal Cert.OutputIdeal.Gen

namespace Cert.OutputIdeal.Body

variable {F : FTy → Type} [FloatOps F]

local notation "𝕄" => MT nD τ sig Unit (Elt F) ℕ (UR sig nD τ) ℕ

/-! ## The rectangles read and written -/

abbrev rHead : Rect S2x256x512 := Rect.unit (s := S2x256x512) ![0, 0, 0] S2x256x512.size inb_S2x256x512_S2x256x512_0_0_0
abbrev rTok : Rect S2x256x1024 := Rect.unit (s := S2x256x1024) ![0, 0, 0] S2x256x1024.size inb_S2x256x1024_S2x256x1024_0_0_0
abbrev rMod : Rect S1x1x6144 := Rect.unit (s := S1x1x6144) ![0, 0, 0] S1x1x6144.size inb_S1x1x6144_S1x1x6144_0_0_0
abbrev rGain : Rect S1x512 := Rect.unit (s := S1x512) ![0, 0] S1x512.size inb_S1x512_S1x512_0_0
abbrev rTop : Rect S1024x1024 := Rect.unit (s := S1024x1024) ![0, 0] S512x1024.size inb_S1024x1024_S512x1024_0_0
abbrev rBot : Rect S1024x1024 := Rect.unit (s := S1024x1024) ![512, 0] S512x1024.size inb_S1024x1024_S512x1024_512_0
abbrev rGain2 : Rect S1x1024 := Rect.unit (s := S1x1024) ![0, 0] S1x1024.size inb_S1x1024_S1x1024_0_0
abbrev rX1 : Rect S512x1024 := Rect.unit (s := S512x1024) ![0, 0] S512x1024.size inb_S512x1024_S512x1024_0_0
abbrev rRouter : Rect S16x1024 := Rect.unit (s := S16x1024) ![0, 0] S16x1024.size inb_S16x1024_S16x1024_0_0
abbrev rAff : Rect S16x512 := Rect.unit (s := S16x512) ![0, 0] S16x512.size inb_S16x512_S16x512_0_0
abbrev row0 : Rect S4096x128 := ⟨(⟨![0, 0], S512x128.size, ![8, 1], inb_S4096x128_S512x128_0_0_s_8_1⟩ : LoadRect S4096x128), spos_8_1⟩
abbrev row1 : Rect S4096x128 := ⟨(⟨![1, 0], S512x128.size, ![8, 1], inb_S4096x128_S512x128_1_0_s_8_1⟩ : LoadRect S4096x128), spos_8_1⟩
abbrev row2 : Rect S4096x128 := ⟨(⟨![2, 0], S512x128.size, ![8, 1], inb_S4096x128_S512x128_2_0_s_8_1⟩ : LoadRect S4096x128), spos_8_1⟩
abbrev row3 : Rect S4096x128 := ⟨(⟨![3, 0], S512x128.size, ![8, 1], inb_S4096x128_S512x128_3_0_s_8_1⟩ : LoadRect S4096x128), spos_8_1⟩
abbrev row4 : Rect S4096x128 := ⟨(⟨![4, 0], S512x128.size, ![8, 1], inb_S4096x128_S512x128_4_0_s_8_1⟩ : LoadRect S4096x128), spos_8_1⟩
abbrev row5 : Rect S4096x128 := ⟨(⟨![5, 0], S512x128.size, ![8, 1], inb_S4096x128_S512x128_5_0_s_8_1⟩ : LoadRect S4096x128), spos_8_1⟩
abbrev row6 : Rect S4096x128 := ⟨(⟨![6, 0], S512x128.size, ![8, 1], inb_S4096x128_S512x128_6_0_s_8_1⟩ : LoadRect S4096x128), spos_8_1⟩
abbrev row7 : Rect S4096x128 := ⟨(⟨![7, 0], S512x128.size, ![8, 1], inb_S4096x128_S512x128_7_0_s_8_1⟩ : LoadRect S4096x128), spos_8_1⟩

/-! ## What the body leaves -/

/-- The rows after the residual, as the body binds them. -/
def x1Pay (x0 : Vec F S2x256x512 .f32) (x1 : Vec F S2x256x512 .f32) (x2 : Vec F S2x256x1024 .f32) (x3 : Vec F S1x1x6144 .f32) (x4 : Vec F S1x512 .f32) (x5 : Vec F S1x512 .f32) (x6 : Vec F S1x1024 .f32) (x7 : Vec F S1024x1024 .bf16) (x8 : Vec F S16x1024 .f32) : FVec F S512x1024 .f32 :=
  k0_pay15 (k0_pay8 (View.ld x2 rTok)) (k0_pay10 (View.ld x3 rMod)) (k0_pay13 (View.ld x0 rHead) (View.ld x4 rGain)) (k0_pay14 (View.ld x1 rHead)) (View.ld x5 rGain) (View.ld x7 rTop) (View.ld x7 rBot)

/-- The rows after the second norm and its modulation. -/
def h2Pay (x0 : Vec F S2x256x512 .f32) (x1 : Vec F S2x256x512 .f32) (x2 : Vec F S2x256x1024 .f32) (x3 : Vec F S1x1x6144 .f32) (x4 : Vec F S1x512 .f32) (x5 : Vec F S1x512 .f32) (x6 : Vec F S1x1024 .f32) (x7 : Vec F S1024x1024 .bf16) (x8 : Vec F S16x1024 .f32) : FVec F S512x1024 .f32 :=
  k0_pay16 (k0_pay8 (View.ld x2 rTok)) (k0_pay10 (View.ld x3 rMod)) (k0_pay11 (View.ld x3 rMod)) (k0_pay12 (View.ld x3 rMod)) (k0_pay13 (View.ld x0 rHead) (View.ld x4 rGain)) (k0_pay14 (View.ld x1 rHead)) (View.ld x5 rGain) (View.ld x7 rTop) (View.ld x7 rBot) (View.ld x6 rGain2)

/-- The first output's buffer. -/
def x1Of (x0 : Vec F S2x256x512 .f32) (x1 : Vec F S2x256x512 .f32) (x2 : Vec F S2x256x1024 .f32) (x3 : Vec F S1x1x6144 .f32) (x4 : Vec F S1x512 .f32) (x5 : Vec F S1x512 .f32) (x6 : Vec F S1x1024 .f32) (x7 : Vec F S1024x1024 .bf16) (x8 : Vec F S16x1024 .f32) : Vec F S512x1024 .f32 := View.canon [⟨rX1, x1Pay x0 x1 x2 x3 x4 x5 x6 x7 x8⟩]

/-- The slice of a block of rows that store `j` writes. -/
def slice0 (h : FVec F S512x1024 .f32) : FVec F S512x128 .f32 := extractStridedSlice S512x128 ![0, 0] h slices_S512x1024_o0_0_S512x128
def slice1 (h : FVec F S512x1024 .f32) : FVec F S512x128 .f32 := extractStridedSlice S512x128 ![0, 128] h slices_S512x1024_o0_128_S512x128

/-- The second output's eight stores, the last one first. -/
def pieces (h : FVec F S512x1024 .f32) : List (View.Piece (Elt F) S4096x128 .f32) :=
  [⟨row7, k0_pay6 h⟩, ⟨row6, k0_pay5 h⟩, ⟨row5, k0_pay4 h⟩, ⟨row4, k0_pay3 h⟩, ⟨row3, k0_pay2 h⟩, ⟨row2, k0_pay1 h⟩, ⟨row1, slice1 h⟩, ⟨row0, slice0 h⟩]

/-- The second output's buffer. -/
def rowsOf (x0 : Vec F S2x256x512 .f32) (x1 : Vec F S2x256x512 .f32) (x2 : Vec F S2x256x1024 .f32) (x3 : Vec F S1x1x6144 .f32) (x4 : Vec F S1x512 .f32) (x5 : Vec F S1x512 .f32) (x6 : Vec F S1x1024 .f32) (x7 : Vec F S1024x1024 .bf16) (x8 : Vec F S16x1024 .f32) : Vec F S4096x128 .f32 := View.canon (pieces (h2Pay x0 x1 x2 x3 x4 x5 x6 x7 x8))

/-- The third output's buffer. -/
def affOf (x0 : Vec F S2x256x512 .f32) (x1 : Vec F S2x256x512 .f32) (x2 : Vec F S2x256x1024 .f32) (x3 : Vec F S1x1x6144 .f32) (x4 : Vec F S1x512 .f32) (x5 : Vec F S1x512 .f32) (x6 : Vec F S1x1024 .f32) (x7 : Vec F S1024x1024 .bf16) (x8 : Vec F S16x1024 .f32) : Vec F S16x512 .f32 := View.canon [⟨rAff, k0_pay7 (h2Pay x0 x1 x2 x3 x4 x5 x6 x7 x8) (View.ld x8 rRouter)⟩]

/-! ## The stores cover the buffers -/

theorem cover_x1 (p : Vec F S512x1024 .f32) (y : S512x1024.Idx) :
    ∃ q ∈ ([⟨rX1, p⟩] : List (View.Piece (Elt F) S512x1024 .f32)), y ∈ q.1.set :=
  View.cover_of_tiled [⟨rX1, p⟩] S512x1024.size (by rfl) y

theorem cover_aff (p : Vec F S16x512 .f32) (y : S16x512.Idx) :
    ∃ q ∈ ([⟨rAff, p⟩] : List (View.Piece (Elt F) S16x512 .f32)), y ∈ q.1.set :=
  View.cover_of_tiled [⟨rAff, p⟩] S16x512.size (by rfl) y

theorem mem_row0 (y : S4096x128.Idx) (h : (y 0).val % 8 = 0) : y ∈ row0.set := by
  have h0 := (y 0).isLt; have h1 := (y 1).isLt
  rw [← Rect.map_emb_univ]
  refine Finset.mem_map.mpr ⟨ix2 ⟨(y 0).val / 8, by change (y 0).val < 4096 at h0; change _ < 512; omega⟩ ⟨(y 1).val, h1⟩, Finset.mem_univ _, ?_⟩
  funext a; apply Fin.ext; fin_cases a
  · change 0 + 8 * ((y 0).val / 8) = (y 0).val; omega
  · change 0 + 1 * (y 1).val = (y 1).val; omega

theorem mem_row1 (y : S4096x128.Idx) (h : (y 0).val % 8 = 1) : y ∈ row1.set := by
  have h0 := (y 0).isLt; have h1 := (y 1).isLt
  rw [← Rect.map_emb_univ]
  refine Finset.mem_map.mpr ⟨ix2 ⟨(y 0).val / 8, by change (y 0).val < 4096 at h0; change _ < 512; omega⟩ ⟨(y 1).val, h1⟩, Finset.mem_univ _, ?_⟩
  funext a; apply Fin.ext; fin_cases a
  · change 1 + 8 * ((y 0).val / 8) = (y 0).val; omega
  · change 0 + 1 * (y 1).val = (y 1).val; omega

theorem mem_row2 (y : S4096x128.Idx) (h : (y 0).val % 8 = 2) : y ∈ row2.set := by
  have h0 := (y 0).isLt; have h1 := (y 1).isLt
  rw [← Rect.map_emb_univ]
  refine Finset.mem_map.mpr ⟨ix2 ⟨(y 0).val / 8, by change (y 0).val < 4096 at h0; change _ < 512; omega⟩ ⟨(y 1).val, h1⟩, Finset.mem_univ _, ?_⟩
  funext a; apply Fin.ext; fin_cases a
  · change 2 + 8 * ((y 0).val / 8) = (y 0).val; omega
  · change 0 + 1 * (y 1).val = (y 1).val; omega

theorem mem_row3 (y : S4096x128.Idx) (h : (y 0).val % 8 = 3) : y ∈ row3.set := by
  have h0 := (y 0).isLt; have h1 := (y 1).isLt
  rw [← Rect.map_emb_univ]
  refine Finset.mem_map.mpr ⟨ix2 ⟨(y 0).val / 8, by change (y 0).val < 4096 at h0; change _ < 512; omega⟩ ⟨(y 1).val, h1⟩, Finset.mem_univ _, ?_⟩
  funext a; apply Fin.ext; fin_cases a
  · change 3 + 8 * ((y 0).val / 8) = (y 0).val; omega
  · change 0 + 1 * (y 1).val = (y 1).val; omega

theorem mem_row4 (y : S4096x128.Idx) (h : (y 0).val % 8 = 4) : y ∈ row4.set := by
  have h0 := (y 0).isLt; have h1 := (y 1).isLt
  rw [← Rect.map_emb_univ]
  refine Finset.mem_map.mpr ⟨ix2 ⟨(y 0).val / 8, by change (y 0).val < 4096 at h0; change _ < 512; omega⟩ ⟨(y 1).val, h1⟩, Finset.mem_univ _, ?_⟩
  funext a; apply Fin.ext; fin_cases a
  · change 4 + 8 * ((y 0).val / 8) = (y 0).val; omega
  · change 0 + 1 * (y 1).val = (y 1).val; omega

theorem mem_row5 (y : S4096x128.Idx) (h : (y 0).val % 8 = 5) : y ∈ row5.set := by
  have h0 := (y 0).isLt; have h1 := (y 1).isLt
  rw [← Rect.map_emb_univ]
  refine Finset.mem_map.mpr ⟨ix2 ⟨(y 0).val / 8, by change (y 0).val < 4096 at h0; change _ < 512; omega⟩ ⟨(y 1).val, h1⟩, Finset.mem_univ _, ?_⟩
  funext a; apply Fin.ext; fin_cases a
  · change 5 + 8 * ((y 0).val / 8) = (y 0).val; omega
  · change 0 + 1 * (y 1).val = (y 1).val; omega

theorem mem_row6 (y : S4096x128.Idx) (h : (y 0).val % 8 = 6) : y ∈ row6.set := by
  have h0 := (y 0).isLt; have h1 := (y 1).isLt
  rw [← Rect.map_emb_univ]
  refine Finset.mem_map.mpr ⟨ix2 ⟨(y 0).val / 8, by change (y 0).val < 4096 at h0; change _ < 512; omega⟩ ⟨(y 1).val, h1⟩, Finset.mem_univ _, ?_⟩
  funext a; apply Fin.ext; fin_cases a
  · change 6 + 8 * ((y 0).val / 8) = (y 0).val; omega
  · change 0 + 1 * (y 1).val = (y 1).val; omega

theorem mem_row7 (y : S4096x128.Idx) (h : (y 0).val % 8 = 7) : y ∈ row7.set := by
  have h0 := (y 0).isLt; have h1 := (y 1).isLt
  rw [← Rect.map_emb_univ]
  refine Finset.mem_map.mpr ⟨ix2 ⟨(y 0).val / 8, by change (y 0).val < 4096 at h0; change _ < 512; omega⟩ ⟨(y 1).val, h1⟩, Finset.mem_univ _, ?_⟩
  funext a; apply Fin.ext; fin_cases a
  · change 7 + 8 * ((y 0).val / 8) = (y 0).val; omega
  · change 0 + 1 * (y 1).val = (y 1).val; omega

theorem cover_rows (p0 p1 p2 p3 p4 p5 p6 p7 : Vec F S512x128 .f32) (y : S4096x128.Idx) :
    ∃ q ∈ ([⟨row7, p7⟩, ⟨row6, p6⟩, ⟨row5, p5⟩, ⟨row4, p4⟩, ⟨row3, p3⟩, ⟨row2, p2⟩, ⟨row1, p1⟩, ⟨row0, p0⟩] : List (View.Piece (Elt F) S4096x128 .f32)), y ∈ q.1.set := by
  have h : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  rcases h with h | h | h | h | h | h | h | h
  · exact ⟨⟨row0, p0⟩, by simp, mem_row0 y h⟩
  · exact ⟨⟨row1, p1⟩, by simp, mem_row1 y h⟩
  · exact ⟨⟨row2, p2⟩, by simp, mem_row2 y h⟩
  · exact ⟨⟨row3, p3⟩, by simp, mem_row3 y h⟩
  · exact ⟨⟨row4, p4⟩, by simp, mem_row4 y h⟩
  · exact ⟨⟨row5, p5⟩, by simp, mem_row5 y h⟩
  · exact ⟨⟨row6, p6⟩, by simp, mem_row6 y h⟩
  · exact ⟨⟨row7, p7⟩, by simp, mem_row7 y h⟩

/-! ## The run of the body -/

set_option maxHeartbeats 1000000 in
/-- On staging buffers holding the inputs the body runs to the continuation with the inputs as they were and the outputs
    at what is stated above. -/
theorem body_run (c : Dev nD) (E : Set ℕ) (i : grid0.Coords) (a1 : Memref sig .tc .vmem S2x256x512 .f32) (h1 : a1.IsWhole) (a2 : Memref sig .tc .vmem S2x256x512 .f32) (h2 : a2.IsWhole) (a3 : Memref sig .tc .vmem S2x256x1024 .f32) (h3 : a3.IsWhole) (a4 : Memref sig .tc .vmem S1x1x6144 .f32) (h4 : a4.IsWhole) (a5 : Memref sig .tc .vmem S1x512 .f32) (h5 : a5.IsWhole) (a6 : Memref sig .tc .vmem S1x512 .f32) (h6 : a6.IsWhole) (a7 : Memref sig .tc .vmem S1x1024 .f32) (h7 : a7.IsWhole) (a8 : Memref sig .tc .vmem S1024x1024 .bf16) (h8 : a8.IsWhole) (a9 : Memref sig .tc .vmem S16x1024 .f32) (h9 : a9.IsWhole) (a10 : Memref sig .tc .vmem S512x1024 .f32) (h10 : a10.IsWhole) (a11 : Memref sig .tc .vmem S4096x128 .f32) (h11 : a11.IsWhole) (a12 : Memref sig .tc .vmem S16x512 .f32) (h12 : a12.IsWhole) (x0 : Vec F S2x256x512 .f32) (x1 : Vec F S2x256x512 .f32) (x2 : Vec F S2x256x1024 .f32) (x3 : Vec F S1x1x6144 .f32) (x4 : Vec F S1x512 .f32) (x5 : Vec F S1x512 .f32) (x6 : Vec F S1x1024 .f32) (x7 : Vec F S1024x1024 .bf16) (x8 : Vec F S16x1024 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ (∃ d, owns (c : Thread nD τ) a10 fullShare d) ∗ (∃ d, owns (c : Thread nD τ) a11 fullShare d) ∗ (∃ d, owns (c : Thread nD τ) a12 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare (x1Of x0 x1 x2 x3 x4 x5 x6 x7 x8) ∗ owns (c : Thread nD τ) a11 fullShare (rowsOf x0 x1 x2 x3 x4 x5 x6 x7 x8) ∗ owns (c : Thread nD τ) a12 fullShare (affOf x0 x1 x2 x3 x4 x5 x6 x7 x8)) -∗ K ⟨⟩))
      ⊢ wp frame (wpE (defs₀ (F := F)) Variants.none c none) E (cc0_out_projection i a1 h1 a2 h2 a3 h3 a4 h4 a5 h5 a6 h6 a7 h7 a8 h8 a9 h9 a10 h10 a11 h11 a12 h12) K := by
  simp only [cc0_out_projection_eq_skeleton]; unfold cc0_out_projection_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact (View.read_writes_eq_canon _ _ _ (cover_x1 _)).trans rfl
  isplitl [H10]
  · iexists _; isplitr
    swap; · iexact H10
    ipureintro
    exact (View.read_writes_eq_canon _ _ _ (cover_rows _ _ _ _ _ _ _ _)).trans rfl
  iexists _; isplitr
  swap; · iexact H11
  ipureintro
  exact (View.read_writes_eq_canon _ _ _ (cover_aff _)).trans rfl

end Cert.OutputIdeal.Body

end
-- ==== Proof.Output.Frame.lean ====
module

public import proofs.«01_k».proof.Proof.Gen.OutputIdeal.Skeleton
public import proofs.«01_k».proof.Proof.Gen.OutputIdeal.Frame
public import Idealize.ShloMosaic.Lib.Claim
public import Idealize.ShloMosaic.Lib.Pointwise
public import proofs.«01_k».proof.Proof.Output.Body

@[expose] public section

set_option maxRecDepth 16384

noncomputable section

/-! # The frame of the out-projection's program

The pipeline's data — every input buffer at its block, every output buffer at what the body leaves of the blocks — the
body's obligation at every grid point, and the run to the final arrays. -/

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.OutputIdeal Cert.OutputIdeal.Gen

namespace Cert.OutputIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => x1Of (iblk m c 0 t) (iblk m c 1 t) (iblk m c 2 t) (iblk m c 3 t) (iblk m c 4 t) (iblk m c 5 t) (iblk m c 6 t) (iblk m c 7 t) (iblk m c 8 t)
    | ⟨10, _⟩ => rowsOf (iblk m c 0 t) (iblk m c 1 t) (iblk m c 2 t) (iblk m c 3 t) (iblk m c 4 t) (iblk m c 5 t) (iblk m c 6 t) (iblk m c 7 t) (iblk m c 8 t)
    | ⟨11, _⟩ => affOf (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

/-! What the body leaves, window after window. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = x1Of (iblk m c 0 t) (iblk m c 1 t) (iblk m c 2 t) (iblk m c 3 t) (iblk m c 4 t) (iblk m c 5 t) (iblk m c 6 t) (iblk m c 7 t) (iblk m c 8 t) := by dsimp only [dats]
theorem after_10 (c : Dev nD) (t : Fin cfg0.N) : (dats m 0 c).after 10 t = rowsOf (iblk m c 0 t) (iblk m c 1 t) (iblk m c 2 t) (iblk m c 3 t) (iblk m c 4 t) (iblk m c 5 t) (iblk m c 6 t) (iblk m c 7 t) (iblk m c 8 t) := by dsimp only [dats]
theorem after_11 (c : Dev nD) (t : Fin cfg0.N) : (dats m 0 c).after 11 t = affOf (iblk m c 0 t) (iblk m c 1 t) (iblk m c 2 t) (iblk m c 3 t) (iblk m c 4 t) (iblk m c 5 t) (iblk m c 6 t) (iblk m c 7 t) (iblk m c 8 t) := by dsimp only [dats]

/-! What the body finds: each input's block. -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- What the body is called with at a point, -/
def atStart (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))

/-- and what it returns. -/
def atEnd (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t))

theorem point_run (c : Dev nD) (t : Fin cfg0.N) :
    atStart m c t ⊢ wp frame (wpE (defs₀ (F := F)) Variants.none c none) Set.univ (bodyAt0 t) (fun _ => atEnd m c t) := by
  unfold atStart atEnd bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_run c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem table_row (t : Fin cfg0.N) :
    defs₀ (F := F) .tc cfg0.body (cfg0.bodyArgs t (cfg0.slots t)) = bodyAt0 t := by
  unfold defs₀; rw [Defs.onTc_tc]

/-- The body's obligation at every point. -/
theorem obligation (c : Dev nD) : BodyObligation (dats (F := F) m 0 c) (defs₀ (F := F)) Variants.none () Set.univ := fun t => by
  rw [bigSep_W0, bigSep_W0, table_row]
  exact triple_restated (point_run m c t) rfl .rfl fun _ => .rfl

-- the run's implicit arguments are found by unifying its conclusion with the one stated
set_option backward.isDefEq.respectTransparency.types false in
set_option maxHeartbeats 800000 in
/-- The run: the arrays as the pipeline's data say, every other buffer as found, every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The frame, at any values: every run ends, the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run m ρ))) ((θ_run defs _ _).mono (fun _ h => h.2) (run m ρ))

end Cert.OutputIdeal.Body

end
-- ==== Proof.Output.Bits.lean ====
module

public import proofs.«01_k».proof.Defs
public import proofs.«01_k».proof.Proof.Gen.Output
public import proofs.«01_k».proof.Proof.Output.Frame
public import Idealize.ShloMosaic.Lib.Tactic

@[expose] public section

set_option maxRecDepth 16384
set_option maxHeartbeats 400000

noncomputable section

/-! # The out-projection as printed and its idealization have one text

Read at bits, the second is the first, so a frame of the second at every instance is a frame of the first. -/

open Idealize.ShloMosaic Idealize.SL.Sem

namespace Cert.Output

/-- No precondition. -/
def PreBits (m : (ℓ : Loc Cert.OutputIdeal.nD Cert.OutputIdeal.τ Cert.OutputIdeal.sig) → Buf (Elt Bits) ℓ) : Prop := True

/-- The frame of the idealized program's text read at bits. -/
def FrameBits [hOutputIdeal : Cert.OutputIdeal.Facts] : Prop :=
  ∀ (m : (ℓ : Loc Cert.OutputIdeal.nD Cert.OutputIdeal.τ Cert.OutputIdeal.sig) → Buf (Elt Bits) ℓ) (g : Dev Cert.OutputIdeal.nD → PrngReg), PreBits m →
    θ_run (Cert.OutputIdeal.defs (F := Bits)) (onTc (τ := Cert.OutputIdeal.τ) (Cert.OutputIdeal.main (F := Bits))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
      ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
      ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8))
      ∧ r.2.sem = fun _ => 0)

/-- The two frames are one statement. -/
theorem frame_bits_eq : @Cert.quiescent_Output Cert.Output.Gen.facts = @FrameBits Cert.OutputIdeal.Gen.facts := by
  sl_kernel_rfl

/-- The out-projection as printed keeps its arguments. -/
theorem frame_p : Cert.quiescent_Output := Eq.mpr frame_bits_eq (fun m ρ _ => Cert.OutputIdeal.Body.frame (F := Bits) m ρ)

end Cert.Output

end
-- ==== Proof.Output.Array.lean ====
module

public import proofs.«01_k».proof.Proof.Output.Frame
public import Idealize.ShloMosaic.Lib.Pipeline.ValueKit
public import Idealize.ShloMosaic.Lib.Pointwise

@[expose] public section

set_option maxRecDepth 16384
set_option maxHeartbeats 4000000

noncomputable section

/-! # The out-projection: what its three result arrays hold

Each grid point takes two sequences: their attention and Hyena rows are normalised, multiplied by the two halves of the
output weights and added, gated, to the input; the sum is normalised again and modulated, and the router's softmax is
taken over the experts. -/

open Idealize.ShloMosaic Idealize.ShloMosaic.TcCoe Idealize.SL.Sem
open Idealize.ShloMosaic.Pipeline (Dat)

namespace Cert.OutputIdeal.Body

open Cert.OutputIdeal Cert.OutputIdeal.Gen

/-- The arrays the call reads. -/
structure Args where
  A : FVec Ideal S32x256x512 .f32
  Y : FVec Ideal S32x256x512 .f32
  X : FVec Ideal S32x256x1024 .f32
  M : FVec Ideal S16x1x6144 .f32
  GA : FVec Ideal S1x512 .f32
  GY : FVec Ideal S1x512 .f32
  G : FVec Ideal S1x1024 .f32
  W : FVec Ideal S1024x1024 .bf16
  R : FVec Ideal S16x1024 .f32

/-- One element of a normalised row of 512. -/
def headRow (x g : Fin 512 → EReal) (j : Fin 512) : EReal :=
  x j * Ideal.rsqrt ((∑ k : Fin 512, x k * x k) * Ideal.ofBits .f32 0x3B000000#32 + Ideal.ofBits .f32 0x358637BD#32) * g j

/-- The residual at sequence `b`, row `t`, column `n`. -/
def x1K (P : Args) (b : Fin 32) (t : Fin 256) (n : Fin 1024) : EReal :=
  P.X (ix3 b t n) + P.M (ix3 0 0 ⟨2048 + n.val, by omega⟩)
    * (∑ k : Fin 512, headRow (fun k => P.A (ix3 b t k)) (fun k => P.GA (ix2 0 k)) k * P.W (ix2 ⟨k.val, by omega⟩ n)
      + ∑ k : Fin 512, headRow (fun k => P.Y (ix3 b t k)) (fun k => P.GY (ix2 0 k)) k * P.W (ix2 ⟨512 + k.val, by omega⟩ n))

/-- The second norm, modulated. -/
def h2K (P : Args) (b : Fin 32) (t : Fin 256) (n : Fin 1024) : EReal :=
  x1K P b t n * Ideal.rsqrt ((∑ k : Fin 1024, x1K P b t k * x1K P b t k) * Ideal.ofBits .f32 0x3A800000#32 + Ideal.ofBits .f32 0x358637BD#32)
    * P.G (ix2 0 n) * (1 + P.M (ix3 0 0 ⟨4096 + n.val, by omega⟩)) + P.M (ix3 0 0 ⟨3072 + n.val, by omega⟩)

/-- The router's product for expert `e`. -/
def logitK (P : Args) (b : Fin 32) (t : Fin 256) (e : Fin 16) : EReal :=
  ∑ k : Fin 1024, P.R (ix2 e k) * h2K P b t k

/-- The softmax over the experts. -/
def affK (P : Args) (b : Fin 32) (t : Fin 256) (e : Fin 16) : EReal :=
  Ideal.div (Ideal.exp (logitK P b t e - Finset.fold max (Ideal.ofBits .f32 0xFF800000#32) (fun x => logitK P b t x) Finset.univ))
    (∑ y : Fin 16, Ideal.exp (logitK P b t y - Finset.fold max (Ideal.ofBits .f32 0xFF800000#32) (fun x => logitK P b t x) Finset.univ))

/-- The three arrays. -/
def x1Arr (P : Args) : FVec Ideal S8192x1024 .f32 := fun j =>
  x1K P ⟨(j 0).val / 256, by have := (j 0).isLt; change (j 0).val < 8192 at this; omega⟩ ⟨(j 0).val % 256, by omega⟩ (j 1)
def rowsArr (P : Args) : FVec Ideal S65536x128 .f32 := fun j =>
  h2K P ⟨(j 0).val / 2048, by have := (j 0).isLt; change (j 0).val < 65536 at this; omega⟩ ⟨(j 0).val / 8 % 256, by omega⟩
    ⟨(j 0).val % 8 * 128 + (j 1).val, by have := (j 1).isLt; change (j 1).val < 128 at this; omega⟩
def affArr (P : Args) : FVec Ideal S16x8192 .f32 := fun j =>
  affK P ⟨(j 1).val / 256, by have := (j 1).isLt; change (j 1).val < 8192 at this; omega⟩ ⟨(j 1).val % 256, by omega⟩ (j 0)

variable (m : (ℓ : Loc nD τ sig) → Buf (Elt Ideal) ℓ)

/-- The arrays as the region finds them. -/
def argsAt (c : Dev nD) : Args where
  A := V m c main_arg0
  Y := V m c main_arg1
  X := V m c main_arg2
  M := V m c main_arg3
  GA := V m c main_v7
  GY := V m c main_v8
  G := V m c main_v9
  W := V m c main_v4
  R := V m c main_v6

theorem idx0 : ∀ t : Fin cfg0.N, win0_0.index t = ![t.val, 0, 0] ∧ win0_1.index t = ![t.val, 0, 0]
    ∧ win0_2.index t = ![t.val, 0, 0] ∧ win0_3.index t = ![0, 0, 0] ∧ win0_4.index t = ![0, 0] ∧ win0_5.index t = ![0, 0]
    ∧ win0_6.index t = ![0, 0] ∧ win0_7.index t = ![0, 0] ∧ win0_8.index t = ![0, 0]
    ∧ win0_9.index t = ![t.val, 0] ∧ win0_10.index t = ![t.val, 0] ∧ win0_11.index t = ![0, t.val] ∧ t.val < 16 :=
  (by decide +kernel : ∀ t : Fin grid0.N, _)

/-- The residual's block. -/
theorem x1_at (c : Dev nD) (t : Fin cfg0.N) (r : Fin 512) (n : Fin 1024) (b : Fin 32) (q : Fin 256) (n' : Fin 1024)
    (hb : (b : ℕ) = 2 * t.val + r / 256) (hr : (q : ℕ) = r % 256) (hn : (n' : ℕ) = n) :
    x1Pay (F := Ideal) (iblk m c 0 t) (iblk m c 1 t) (iblk m c 2 t) (iblk m c 3 t) (iblk m c 4 t) (iblk m c 5 t) (iblk m c 6 t) (iblk m c 7 t) (iblk m c 8 t) (ix2 r n)
      = x1K (argsAt m c) b q n' := by
  pointwise [x1Pay, k0_pay15, k0_pay8, k0_pay9, k0_pay10, k0_pay13, k0_pay14, x1K, headRow, argsAt]
  blk_point [iblk, idx0 t]

end Cert.OutputIdeal.Body

end
-- ==== Proof.Output.Block.lean ====
module

public import proofs.«01_k».proof.Proof.Output.Array

@[expose] public section

set_option maxRecDepth 16384
set_option maxHeartbeats 4000000

noncomputable section

/-! # The out-projection: the second norm's and the softmax's blocks -/

open Idealize.ShloMosaic Idealize.ShloMosaic.TcCoe Idealize.SL.Sem
open Idealize.ShloMosaic.Pipeline (Dat)

namespace Cert.OutputIdeal.Body

open Cert.OutputIdeal Cert.OutputIdeal.Gen

variable (m : (ℓ : Loc nD τ sig) → Buf (Elt Ideal) ℓ)

/-- The second norm, over a block of residuals. -/
theorem h2Pay_at (x0 x1 : Vec Ideal S2x256x512 .f32) (x2 : Vec Ideal S2x256x1024 .f32) (x3 : Vec Ideal S1x1x6144 .f32) (x4 x5 : Vec Ideal S1x512 .f32)
    (x6 : Vec Ideal S1x1024 .f32) (x7 : Vec Ideal S1024x1024 .bf16) (x8 : Vec Ideal S16x1024 .f32) (r : Fin 512) (n : Fin 1024) :
    h2Pay x0 x1 x2 x3 x4 x5 x6 x7 x8 (ix2 r n) = x1Pay x0 x1 x2 x3 x4 x5 x6 x7 x8 (ix2 r n)
      * Ideal.rsqrt ((∑ k : Fin 1024, x1Pay x0 x1 x2 x3 x4 x5 x6 x7 x8 (ix2 r k) * x1Pay x0 x1 x2 x3 x4 x5 x6 x7 x8 (ix2 r k)) * Ideal.ofBits .f32 0x3A800000#32 + Ideal.ofBits .f32 0x358637BD#32)
      * x6 (ix2 0 n) * (1 + x3 (ix3 0 0 ⟨4096 + n.val, by omega⟩)) + x3 (ix3 0 0 ⟨3072 + n.val, by omega⟩) := by
  pointwise [h2Pay, x1Pay, k0_pay16, k0_pay9, k0_pay11, k0_pay12]

/-- The second norm's block. -/
theorem h2_at (c : Dev nD) (t : Fin cfg0.N) (r : Fin 512) (n : Fin 1024) (b : Fin 32) (q : Fin 256) (n' : Fin 1024)
    (hb : (b : ℕ) = 2 * t.val + r / 256) (hr : (q : ℕ) = r % 256) (hn : (n' : ℕ) = n) :
    h2Pay (F := Ideal) (iblk m c 0 t) (iblk m c 1 t) (iblk m c 2 t) (iblk m c 3 t) (iblk m c 4 t) (iblk m c 5 t) (iblk m c 6 t) (iblk m c 7 t) (iblk m c 8 t) (ix2 r n) = h2K (argsAt m c) b q n' := by
  obtain rfl : n' = n := Fin.ext hn
  rw [h2Pay_at]
  simp only [x1_at m c t r _ b q _ hb hr rfl]
  unfold h2K argsAt
  blk_point [iblk, idx0 t]

/-- The softmax over a block of rows. -/
theorem aff_pay (h : FVec Ideal S512x1024 .f32) (R : FVec Ideal S16x1024 .f32) (e : Fin 16) (r : Fin 512) :
    k0_pay7 (F := Ideal) h R (ix2 e r) = Ideal.div (Ideal.exp ((∑ k : Fin 1024, R (ix2 e k) * h (ix2 r k)) - Finset.fold max (Ideal.ofBits .f32 0xFF800000#32) (fun x => ∑ k : Fin 1024, R (ix2 x k) * h (ix2 r k)) Finset.univ))
      (∑ y : Fin 16, Ideal.exp ((∑ k : Fin 1024, R (ix2 y k) * h (ix2 r k)) - Finset.fold max (Ideal.ofBits .f32 0xFF800000#32) (fun x => ∑ k : Fin 1024, R (ix2 x k) * h (ix2 r k)) Finset.univ)) := by
  pointwise [k0_pay7]

/-- The router's weights are one block. -/
theorem router_at (c : Dev nD) (t : Fin cfg0.N) (e : Fin 16) (k : Fin 1024) : View.ld (iblk m c 8 t) rRouter (ix2 e k) = V m c main_v6 (ix2 e k) := by
  pointwise
  blk_point [iblk, idx0 t]

/-- The softmax's block. -/
theorem aff_at (c : Dev nD) (t : Fin cfg0.N) (e : Fin 16) (r : Fin 512) (b : Fin 32) (q : Fin 256) (e' : Fin 16)
    (hb : (b : ℕ) = 2 * t.val + r / 256) (hr : (q : ℕ) = r % 256) (he : (e' : ℕ) = e) :
    k0_pay7 (F := Ideal) (h2Pay (iblk m c 0 t) (iblk m c 1 t) (iblk m c 2 t) (iblk m c 3 t) (iblk m c 4 t) (iblk m c 5 t) (iblk m c 6 t) (iblk m c 7 t) (iblk m c 8 t)) (View.ld (iblk m c 8 t) rRouter) (ix2 e r) = affK (argsAt m c) b q e' := by
  obtain rfl : e' = e := Fin.ext he
  refine (aff_pay _ _ _ _).trans ?_
  simp only [h2_at m c t r _ b q _ hb hr rfl, router_at m c t]
  rfl

end Cert.OutputIdeal.Body

end
-- ==== Proof.Output.Rows.lean ====
module

public import proofs.«01_k».proof.Proof.Output.Body
public import Idealize.ShloMosaic.Lib.Pipeline.ValueKit
public import Idealize.ShloMosaic.Lib.Pointwise

@[expose] public section

set_option maxRecDepth 16384
set_option maxHeartbeats 4000000

noncomputable section

/-! # The out-projection's rows of 128

The eight stores of stride eight lay the eight 128-column cuts of a row in eight consecutive rows. -/

open Idealize.ShloMosaic Idealize.ShloMosaic.TcCoe Idealize.SL.Sem
open Idealize.ShloMosaic.Pipeline (Dat)

namespace Cert.OutputIdeal.Body

open Cert.OutputIdeal Cert.OutputIdeal.Gen

theorem of_row0 {y : S4096x128.Idx} (h : y ∈ row0.set) : (y 0).val % 8 = 0 := by
  obtain ⟨x, rfl⟩ := row0.exists_idx_of_mem h
  change (0 + 8 * (x 0).val) % 8 = 0; omega

theorem cut0 (h : FVec Ideal S512x1024 .f32) (r : Fin 512) (l : Fin 128) : slice0 (F := Ideal) h (ix2 r l) = h (ix2 r ⟨0 + l.val, by omega⟩) := by
  pointwise [slice0]

theorem of_row1 {y : S4096x128.Idx} (h : y ∈ row1.set) : (y 0).val % 8 = 1 := by
  obtain ⟨x, rfl⟩ := row1.exists_idx_of_mem h
  change (1 + 8 * (x 0).val) % 8 = 1; omega

theorem cut1 (h : FVec Ideal S512x1024 .f32) (r : Fin 512) (l : Fin 128) : slice1 (F := Ideal) h (ix2 r l) = h (ix2 r ⟨128 + l.val, by omega⟩) := by
  pointwise [slice1]

theorem of_row2 {y : S4096x128.Idx} (h : y ∈ row2.set) : (y 0).val % 8 = 2 := by
  obtain ⟨x, rfl⟩ := row2.exists_idx_of_mem h
  change (2 + 8 * (x 0).val) % 8 = 2; omega

theorem cut2 (h : FVec Ideal S512x1024 .f32) (r : Fin 512) (l : Fin 128) : k0_pay1 (F := Ideal) h (ix2 r l) = h (ix2 r ⟨256 + l.val, by omega⟩) := by
  pointwise [k0_pay1]

theorem of_row3 {y : S4096x128.Idx} (h : y ∈ row3.set) : (y 0).val % 8 = 3 := by
  obtain ⟨x, rfl⟩ := row3.exists_idx_of_mem h
  change (3 + 8 * (x 0).val) % 8 = 3; omega

theorem cut3 (h : FVec Ideal S512x1024 .f32) (r : Fin 512) (l : Fin 128) : k0_pay2 (F := Ideal) h (ix2 r l) = h (ix2 r ⟨384 + l.val, by omega⟩) := by
  pointwise [k0_pay2]

theorem of_row4 {y : S4096x128.Idx} (h : y ∈ row4.set) : (y 0).val % 8 = 4 := by
  obtain ⟨x, rfl⟩ := row4.exists_idx_of_mem h
  change (4 + 8 * (x 0).val) % 8 = 4; omega

theorem cut4 (h : FVec Ideal S512x1024 .f32) (r : Fin 512) (l : Fin 128) : k0_pay3 (F := Ideal) h (ix2 r l) = h (ix2 r ⟨512 + l.val, by omega⟩) := by
  pointwise [k0_pay3]

theorem of_row5 {y : S4096x128.Idx} (h : y ∈ row5.set) : (y 0).val % 8 = 5 := by
  obtain ⟨x, rfl⟩ := row5.exists_idx_of_mem h
  change (5 + 8 * (x 0).val) % 8 = 5; omega

theorem cut5 (h : FVec Ideal S512x1024 .f32) (r : Fin 512) (l : Fin 128) : k0_pay4 (F := Ideal) h (ix2 r l) = h (ix2 r ⟨640 + l.val, by omega⟩) := by
  pointwise [k0_pay4]

theorem of_row6 {y : S4096x128.Idx} (h : y ∈ row6.set) : (y 0).val % 8 = 6 := by
  obtain ⟨x, rfl⟩ := row6.exists_idx_of_mem h
  change (6 + 8 * (x 0).val) % 8 = 6; omega

theorem cut6 (h : FVec Ideal S512x1024 .f32) (r : Fin 512) (l : Fin 128) : k0_pay5 (F := Ideal) h (ix2 r l) = h (ix2 r ⟨768 + l.val, by omega⟩) := by
  pointwise [k0_pay5]

theorem of_row7 {y : S4096x128.Idx} (h : y ∈ row7.set) : (y 0).val % 8 = 7 := by
  obtain ⟨x, rfl⟩ := row7.exists_idx_of_mem h
  change (7 + 8 * (x 0).val) % 8 = 7; omega

theorem cut7 (h : FVec Ideal S512x1024 .f32) (r : Fin 512) (l : Fin 128) : k0_pay6 (F := Ideal) h (ix2 r l) = h (ix2 r ⟨896 + l.val, by omega⟩) := by
  pointwise [k0_pay6]

/-- A row of the second output's buffer is a cut of a row of the block. -/
theorem canon_rows (h : FVec Ideal S512x1024 .f32) (y : S4096x128.Idx) (r : Fin 512) (n : Fin 1024) (hr : (r : ℕ) = (y 0).val / 8)
    (hn : (n : ℕ) = (y 0).val % 8 * 128 + (y 1).val) : View.canon (pieces h) y = h (ix2 r n) := by
  have hl := (y 1).isLt
  change (y 1).val < 128 at hl
  have h8 : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  unfold pieces
  rcases h8 with h8 | h8 | h8 | h8 | h8 | h8 | h8 | h8
  · rw [View.canon_cons_of_not_mem _ _ (fun hh => by have := of_row7 hh; omega)]
    rw [View.canon_cons_of_not_mem _ _ (fun hh => by have := of_row6 hh; omega)]
    rw [View.canon_cons_of_not_mem _ _ (fun hh => by have := of_row5 hh; omega)]
    rw [View.canon_cons_of_not_mem _ _ (fun hh => by have := of_row4 hh; omega)]
    rw [View.canon_cons_of_not_mem _ _ (fun hh => by have := of_row3 hh; omega)]
    rw [View.canon_cons_of_not_mem _ _ (fun hh => by have := of_row2 hh; omega)]
    rw [View.canon_cons_of_not_mem _ _ (fun hh => by have := of_row1 hh; omega)]
    have hy : row0.emb (ix2 r ⟨(y 1).val, hl⟩) = y := by
      funext a; apply Fin.ext; fin_cases a
      · change 0 + 8 * (r : ℕ) = (y 0).val; omega
      · change 0 + 1 * (y 1).val = (y 1).val; omega
    refine (congrArg _ hy.symm).trans ((View.canon_cons_emb row0 _ _ _).trans ((cut0 h r ⟨(y 1).val, hl⟩).trans (congrArg (fun z => h (ix2 r z)) (Fin.ext ?_))))
    change 0 + (y 1).val = (n : ℕ); omega
  · rw [View.canon_cons_of_not_mem _ _ (fun hh => by have := of_row7 hh; omega)]
    rw [View.canon_cons_of_not_mem _ _ (fun hh => by have := of_row6 hh; omega)]
    rw [View.canon_cons_of_not_mem _ _ (fun hh => by have := of_row5 hh; omega)]
    rw [View.canon_cons_of_not_mem _ _ (fun hh => by have := of_row4 hh; omega)]
    rw [View.canon_cons_of_not_mem _ _ (fun hh => by have := of_row3 hh; omega)]
    rw [View.canon_cons_of_not_mem _ _ (fun hh => by have := of_row2 hh; omega)]
    have hy : row1.emb (ix2 r ⟨(y 1).val, hl⟩) = y := by
      funext a; apply Fin.ext; fin_cases a
      · change 1 + 8 * (r : ℕ) = (y 0).val; omega
      · change 0 + 1 * (y 1).val = (y 1).val; omega
    refine (congrArg _ hy.symm).trans ((View.canon_cons_emb row1 _ _ _).trans ((cut1 h r ⟨(y 1).val, hl⟩).trans (congrArg (fun z => h (ix2 r z)) (Fin.ext ?_))))
    change 128 + (y 1).val = (n : ℕ); omega
  · rw [View.canon_cons_of_not_mem _ _ (fun hh => by have := of_row7 hh; omega)]
    rw [View.canon_cons_of_not_mem _ _ (fun hh => by have := of_row6 hh; omega)]
    rw [View.canon_cons_of_not_mem _ _ (fun hh => by have := of_row5 hh; omega)]
    rw [View.canon_cons_of_not_mem _ _ (fun hh => by have := of_row4 hh; omega)]
    rw [View.canon_cons_of_not_mem _ _ (fun hh => by have := of_row3 hh; omega)]
    have hy : row2.emb (ix2 r ⟨(y 1).val, hl⟩) = y := by
      funext a; apply Fin.ext; fin_cases a
      · change 2 + 8 * (r : ℕ) = (y 0).val; omega
      · change 0 + 1 * (y 1).val = (y 1).val; omega
    refine (congrArg _ hy.symm).trans ((View.canon_cons_emb row2 _ _ _).trans ((cut2 h r ⟨(y 1).val, hl⟩).trans (congrArg (fun z => h (ix2 r z)) (Fin.ext ?_))))
    change 256 + (y 1).val = (n : ℕ); omega
  · rw [View.canon_cons_of_not_mem _ _ (fun hh => by have := of_row7 hh; omega)]
    rw [View.canon_cons_of_not_mem _ _ (fun hh => by have := of_row6 hh; omega)]
    rw [View.canon_cons_of_not_mem _ _ (fun hh => by have := of_row5 hh; omega)]
    rw [View.canon_cons_of_not_mem _ _ (fun hh => by have := of_row4 hh; omega)]
    have hy : row3.emb (ix2 r ⟨(y 1).val, hl⟩) = y := by
      funext a; apply Fin.ext; fin_cases a
      · change 3 + 8 * (r : ℕ) = (y 0).val; omega
      · change 0 + 1 * (y 1).val = (y 1).val; omega
    refine (congrArg _ hy.symm).trans ((View.canon_cons_emb row3 _ _ _).trans ((cut3 h r ⟨(y 1).val, hl⟩).trans (congrArg (fun z => h (ix2 r z)) (Fin.ext ?_))))
    change 384 + (y 1).val = (n : ℕ); omega
  · rw [View.canon_cons_of_not_mem _ _ (fun hh => by have := of_row7 hh; omega)]
    rw [View.canon_cons_of_not_mem _ _ (fun hh => by have := of_row6 hh; omega)]
    rw [View.canon_cons_of_not_mem _ _ (fun hh => by have := of_row5 hh; omega)]
    have hy : row4.emb (ix2 r ⟨(y 1).val, hl⟩) = y := by
      funext a; apply Fin.ext; fin_cases a
      · change 4 + 8 * (r : ℕ) = (y 0).val; omega
      · change 0 + 1 * (y 1).val = (y 1).val; omega
    refine (congrArg _ hy.symm).trans ((View.canon_cons_emb row4 _ _ _).trans ((cut4 h r ⟨(y 1).val, hl⟩).trans (congrArg (fun z => h (ix2 r z)) (Fin.ext ?_))))
    change 512 + (y 1).val = (n : ℕ); omega
  · rw [View.canon_cons_of_not_mem _ _ (fun hh => by have := of_row7 hh; omega)]
    rw [View.canon_cons_of_not_mem _ _ (fun hh => by have := of_row6 hh; omega)]
    have hy : row5.emb (ix2 r ⟨(y 1).val, hl⟩) = y := by
      funext a; apply Fin.ext; fin_cases a
      · change 5 + 8 * (r : ℕ) = (y 0).val; omega
      · change 0 + 1 * (y 1).val = (y 1).val; omega
    refine (congrArg _ hy.symm).trans ((View.canon_cons_emb row5 _ _ _).trans ((cut5 h r ⟨(y 1).val, hl⟩).trans (congrArg (fun z => h (ix2 r z)) (Fin.ext ?_))))
    change 640 + (y 1).val = (n : ℕ); omega
  · rw [View.canon_cons_of_not_mem _ _ (fun hh => by have := of_row7 hh; omega)]
    have hy : row6.emb (ix2 r ⟨(y 1).val, hl⟩) = y := by
      funext a; apply Fin.ext; fin_cases a
      · change 6 + 8 * (r : ℕ) = (y 0).val; omega
      · change 0 + 1 * (y 1).val = (y 1).val; omega
    refine (congrArg _ hy.symm).trans ((View.canon_cons_emb row6 _ _ _).trans ((cut6 h r ⟨(y 1).val, hl⟩).trans (congrArg (fun z => h (ix2 r z)) (Fin.ext ?_))))
    change 768 + (y 1).val = (n : ℕ); omega
  · have hy : row7.emb (ix2 r ⟨(y 1).val, hl⟩) = y := by
      funext a; apply Fin.ext; fin_cases a
      · change 7 + 8 * (r : ℕ) = (y 0).val; omega
      · change 0 + 1 * (y 1).val = (y 1).val; omega
    refine (congrArg _ hy.symm).trans ((View.canon_cons_emb row7 _ _ _).trans ((cut7 h r ⟨(y 1).val, hl⟩).trans (congrArg (fun z => h (ix2 r z)) (Fin.ext ?_))))
    change 896 + (y 1).val = (n : ℕ); omega

end Cert.OutputIdeal.Body

end
-- ==== Proof.Output.Final.lean ====
module

public import proofs.«01_k».proof.Proof.Output.Block
public import proofs.«01_k».proof.Proof.Output.Rows

@[expose] public section

set_option maxRecDepth 16384
set_option maxHeartbeats 4000000

noncomputable section

/-! # The out-projection: the first two arrays -/

open Idealize.ShloMosaic Idealize.ShloMosaic.TcCoe Idealize.SL.Sem
open Idealize.ShloMosaic.Pipeline (Dat)

namespace Cert.OutputIdeal.Body

open Cert.OutputIdeal Cert.OutputIdeal.Gen

variable (m : (ℓ : Loc nD τ sig) → Buf (Elt Ideal) ℓ)

/-! ## The blocks are the arrays read at the blocks -/

theorem point_9 (c : Dev nD) (t : Fin cfg0.N) (y) :
    x1Of (F := Ideal) (iblk m c 0 t) (iblk m c 1 t) (iblk m c 2 t) (iblk m c 3 t) (iblk m c 4 t) (iblk m c 5 t) (iblk m c 6 t) (iblk m c 7 t) (iblk m c 8 t) y = x1Arr (argsAt m c) (((cfg0.win 9).blk t).view.emb y) := by
  unfold x1Of
  frame_out
  obtain ⟨r, n, rfl⟩ : ∃ r : Fin 512, ∃ n : Fin 1024, y = ix2 r n := ⟨y 0, y 1, eq_ix2 y⟩
  unfold x1Arr
  refine x1_at m c t _ _ _ _ _ ?_ ?_ ?_ <;> blk_simp [idx0 t] <;> (try simp only []) <;> omega

theorem point_10 (c : Dev nD) (t : Fin cfg0.N) (y) :
    rowsOf (F := Ideal) (iblk m c 0 t) (iblk m c 1 t) (iblk m c 2 t) (iblk m c 3 t) (iblk m c 4 t) (iblk m c 5 t) (iblk m c 6 t) (iblk m c 7 t) (iblk m c 8 t) y = rowsArr (argsAt m c) (((cfg0.win 10).blk t).view.emb y) := by
  unfold rowsOf
  have h0 := (y 0).isLt
  have h1 := (y 1).isLt
  change (y 0).val < 4096 at h0
  change (y 1).val < 128 at h1
  rw [canon_rows _ y ⟨(y 0).val / 8, by omega⟩ ⟨(y 0).val % 8 * 128 + (y 1).val, by omega⟩ rfl rfl]
  unfold rowsArr
  refine h2_at m c t _ _ _ _ _ ?_ ?_ ?_ <;> blk_simp [idx0 t] <;> (try simp only []) <;> omega

theorem final_9 (c : Dev nD) : (dats m 0 c).arrAt 9 cfg0.N = x1Arr (argsAt m c) := by
  refine (dats m 0 c).arrAt_eq_of_covers 9 _ (by decide +kernel) fun t _ y => ?_
  blk_simp
  rw [after_9]
  exact point_9 m c t y

theorem final_10 (c : Dev nD) : (dats m 0 c).arrAt 10 cfg0.N = rowsArr (argsAt m c) := by
  refine (dats m 0 c).arrAt_eq_of_covers 10 _ (by decide +kernel) fun t _ y => ?_
  blk_simp
  rw [after_10]
  exact point_10 m c t y

end Cert.OutputIdeal.Body

end
-- ==== Proof.Output.Soft.lean ====
module

public import proofs.«01_k».proof.Proof.Output.Block
public import proofs.«01_k».proof.Proof.Output.Rows

@[expose] public section

set_option maxRecDepth 16384
set_option maxHeartbeats 800000

noncomputable section

/-! # The out-projection: the softmax's array -/

open Idealize.ShloMosaic Idealize.ShloMosaic.TcCoe Idealize.SL.Sem
open Idealize.ShloMosaic.Pipeline (Dat)

namespace Cert.OutputIdeal.Body

open Cert.OutputIdeal Cert.OutputIdeal.Gen

variable (m : (ℓ : Loc nD τ sig) → Buf (Elt Ideal) ℓ)

theorem aff_canon (c : Dev nD) (t : Fin cfg0.N) (e : Fin 16) (r : Fin 512) :
    affOf (F := Ideal) (iblk m c 0 t) (iblk m c 1 t) (iblk m c 2 t) (iblk m c 3 t) (iblk m c 4 t) (iblk m c 5 t) (iblk m c 6 t) (iblk m c 7 t) (iblk m c 8 t) (ix2 e r) = k0_pay7 (F := Ideal) (h2Pay (iblk m c 0 t) (iblk m c 1 t) (iblk m c 2 t) (iblk m c 3 t) (iblk m c 4 t) (iblk m c 5 t) (iblk m c 6 t) (iblk m c 7 t) (iblk m c 8 t)) (View.ld (iblk m c 8 t) rRouter) (ix2 e r) := by
  unfold affOf
  have hy : rAff.emb (ix2 e r) = ix2 e r := by
    funext a; apply Fin.ext; fin_cases a
    · change 0 + 1 * (e : ℕ) = (e : ℕ); omega
    · change 0 + 1 * (r : ℕ) = (r : ℕ); omega
  generalize k0_pay7 (F := Ideal) _ _ = p
  exact (congrArg _ hy.symm).trans (View.canon_cons_emb rAff _ _ _)

theorem arr_at (P : Args) (t : Fin cfg0.N) (e : Fin 16) (r : Fin 512) (b : Fin 32) (q : Fin 256)
    (hb : (b : ℕ) = 2 * t.val + r / 256) (hq : (q : ℕ) = r % 256) :
    affArr P (((cfg0.win 11).blk t).view.emb (ix2 e r)) = affK P b q e := by
  unfold affArr
  have h0 : ((((cfg0.win 11).blk t).view.emb (ix2 e r)) 0 : Fin 16) = e := by
    apply Fin.ext; blk_simp [idx0 t] <;> (try simp only []) <;> omega
  have h1 : ((((cfg0.win 11).blk t).view.emb (ix2 e r)) 1).val = 512 * t.val + r := by
    blk_simp [idx0 t] <;> (try simp only []) <;> omega
  have hr := r.isLt
  simp only [h0, h1]
  congr 1
  · apply Fin.ext; change (512 * t.val + (r : ℕ)) / 256 = (b : ℕ); omega
  · apply Fin.ext; change (512 * t.val + (r : ℕ)) % 256 = (q : ℕ); omega

theorem point_11 (c : Dev nD) (t : Fin cfg0.N) (y) :
    affOf (F := Ideal) (iblk m c 0 t) (iblk m c 1 t) (iblk m c 2 t) (iblk m c 3 t) (iblk m c 4 t) (iblk m c 5 t) (iblk m c 6 t) (iblk m c 7 t) (iblk m c 8 t) y = affArr (argsAt m c) (((cfg0.win 11).blk t).view.emb y) := by
  obtain ⟨e, r, rfl⟩ : ∃ e : Fin 16, ∃ r : Fin 512, y = ix2 e r := ⟨y 0, y 1, eq_ix2 y⟩
  have ht : t.val < 16 := by have := idx0 t; omega
  have hr := r.isLt
  exact (aff_canon m c t e r).trans ((aff_at m c t e r ⟨2 * t.val + r / 256, by omega⟩ ⟨r % 256, by omega⟩ e rfl rfl rfl).trans
    (arr_at (argsAt m c) t e r _ _ rfl rfl).symm)

theorem final_11 (c : Dev nD) : (dats m 0 c).arrAt 11 cfg0.N = affArr (argsAt m c) := by
  refine (dats m 0 c).arrAt_eq_of_covers 11 _ (by decide +kernel) fun t _ y => ?_
  blk_simp
  rw [after_11]
  exact point_11 m c t y

end Cert.OutputIdeal.Body

end
-- ==== Proof.Output.Ref.lean ====
module

public import proofs.«01_k».proof.Proof.Gen.OutputReferenceIdeal.Run
public import Idealize.ShloMosaic.Lib.Pointwise

@[expose] public section

set_option maxRecDepth 16384
set_option maxHeartbeats 4000000

noncomputable section

/-! # The out-projection's reference, step by step

The steps are named, the reference's results are shown to be these steps composed, and each step is read at an index. -/

open Idealize.ShloMosaic Idealize.ShloMosaic.TcCoe Idealize.SL.Sem

namespace Cert.OutputReferenceIdeal.Value

open Cert.OutputReferenceIdeal Cert.OutputReferenceIdeal.Gen

/-- The norm of a row of 512, with its gain. -/
def normT (A : FVec Ideal S32x256x512 .f32) (G : FVec Ideal S1x512 .f32) : FVec Ideal S32x256x512 .f32 :=
  mulf (mulf A (broadcastInDim S32x256x512 ![0, 1, 2] bcast_S32x256x1_S32x256x512_0_1_2 (Host.rsqrt (addf (Host.divf (broadcastInDim S32x256x1 ![0, 1] bcast_S32x256_S32x256x1_0_1 (Host.reduceAdd (mulf A A) (constant S_ .f32 0x00000000#32) reducesTo_S32x256x512_S32x256_d2 h_S_)) (broadcastInDim S32x256x1 ![] bcast_S_S32x256x1 (constant S_ .f32 0x44000000#32))) (broadcastInDim S32x256x1 ![] bcast_S_S32x256x1 (constant S_ .f32 0x358637BD#32)))))) (broadcastInDim S32x256x512 ![0, 1, 2] bcast_S1x1x512_S32x256x512_0_1_2 (broadcastInDim S1x1x512 ![2] bcast_S512_S1x1x512_2 (shapeCast _ G shapeCasts_S1x512_S512)))

/-- Two halves side by side. -/
def catT (A Y : FVec Ideal S32x256x512 .f32) : FVec Ideal S32x256x1024 .f32 :=
  concatenate S32x256x1024 2 [⟨S32x256x512, A⟩, ⟨S32x256x512, Y⟩] concatenates_S32x256x512_S32x256x512_S32x256x1024_d2

/-- The residual. -/
def x1T (A Y : FVec Ideal S32x256x512 .f32) (X : FVec Ideal S32x256x1024 .f32) (M : FVec Ideal S16x1x6144 .f32) (GA GY : FVec Ideal S1x512 .f32)
    (W : FVec Ideal S1x1024x1024 .f32) : FVec Ideal S32x256x1024 .f32 :=
  addf X (mulf (broadcastInDim S32x256x1024 ![0, 1, 2] bcast_S1x1x1024_S32x256x1024_0_1_2 (extractStridedSlice S1x1x1024 ![0, 0, 2048] (extractStridedSlice S1x1x6144 ![0, 0, 0] M slices_S16x1x6144_S1x1x6144_0_0_0) slices_S1x1x6144_S1x1x1024_0_0_2048)) (Host.dotGeneral dot_S32x256x1024_S1024x1024_S32x256x1024_2_0_01_1_n_n none (catT (normT A GA) (normT Y GY)) (shapeCast _ W shapeCasts_S1x1024x1024_S1024x1024)))

/-- The second norm, modulated. -/
def h2T (X1 : FVec Ideal S32x256x1024 .f32) (M : FVec Ideal S16x1x6144 .f32) (G : FVec Ideal S1x1024 .f32) : FVec Ideal S32x256x1024 .f32 :=
  addf (mulf (mulf (mulf X1 (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf X1 X1) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (shapeCast _ G shapeCasts_S1x1024_S1024)))) (broadcastInDim S32x256x1024 ![0, 1, 2] bcast_S1x1x1024_S32x256x1024_0_1_2 (addf (broadcastInDim S1x1x1024 ![] bcast_S_S1x1x1024 (constant S_ .f32 0x3F800000#32)) (extractStridedSlice S1x1x1024 ![0, 0, 4096] (extractStridedSlice S1x1x6144 ![0, 0, 0] M slices_S16x1x6144_S1x1x6144_0_0_0) slices_S1x1x6144_S1x1x1024_0_0_4096)))) (broadcastInDim S32x256x1024 ![0, 1, 2] bcast_S1x1x1024_S32x256x1024_0_1_2 (extractStridedSlice S1x1x1024 ![0, 0, 3072] (extractStridedSlice S1x1x6144 ![0, 0, 0] M slices_S16x1x6144_S1x1x6144_0_0_0) slices_S1x1x6144_S1x1x1024_0_0_3072))

/-- The router's products. -/
def logitT (H2 : FVec Ideal S32x256x1024 .f32) (R : FVec Ideal S1x1024x16 .f32) : FVec Ideal S8192x16 .f32 :=
  Host.dotGeneral dot_S8192x1024_S1024x16_S8192x16_1_0_0_1_n_n none (shapeCast _ H2 shapeCasts_S32x256x1024_S8192x1024) (shapeCast _ R shapeCasts_S1x1024x16_S1024x16)

/-- The exponentials of the products minus their row maximum. -/
def expT (L : FVec Ideal S8192x16 .f32) : FVec Ideal S8192x16 .f32 :=
  Host.exp (subf L (broadcastInDim S8192x16 ![0, 1] bcast_S8192x1_S8192x16_0_1 (broadcastInDim S8192x1 ![0] bcast_S8192_S8192x1_0 (maximumf (broadcastInDim S8192 ![] bcast_S_S8192 (constant S_ .f32 0xFF800000#32)) (Host.reduce FloatOps.maximumf L (constant S_ .f32 0xFF800000#32) reducesTo_S8192x16_S8192_d1 h_S_)))))

/-- Exponentials over their row sums, experts first. -/
def affT (E : FVec Ideal S8192x16 .f32) : FVec Ideal S16x8192 .f32 :=
  transpose S16x8192 [1, 0] (Host.divf E (broadcastInDim S8192x16 ![0, 1] bcast_S8192x1_S8192x16_0_1 (broadcastInDim S8192x1 ![0] bcast_S8192_S8192x1_0 (Host.reduceAdd E (constant S_ .f32 0x00000000#32) reducesTo_S8192x16_S8192_d1 h_S_)))) transposes_S8192x16_S16x8192_1_0

/-- Sequences and rows in one axis. -/
def flatT (X : FVec Ideal S32x256x1024 .f32) : FVec Ideal S8192x1024 .f32 := shapeCast _ X shapeCasts_S32x256x1024_S8192x1024

/-- The same in rows of 128. -/
def lanesT (X : FVec Ideal S32x256x1024 .f32) : FVec Ideal S65536x128 .f32 := shapeCast _ (flatT X) shapeCasts_S8192x1024_S65536x128

variable (m : (ℓ : Loc nD τ sig) → Buf (Elt Ideal) ℓ)

/-- The residual and the second norm of a memory's arguments. -/
def x1M (c : Dev nD) : FVec Ideal S32x256x1024 .f32 := x1T (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
def h2M (c : Dev nD) : FVec Ideal S32x256x1024 .f32 := h2T (x1M m c) (m ((c.tc : Thread nD τ).loc main_arg3)) (m ((c.tc : Thread nD τ).loc main_arg6))

theorem res_rows (c : Dev nD) : res_main_v76 m c = lanesT (h2M m c) := rfl

theorem res_aff (c : Dev nD) : res_main_v77 m c = affT (expT (logitT (h2M m c) (m ((c.tc : Thread nD τ).loc main_arg8)))) := rfl

/-- The reference's run, its results as the steps above. -/
theorem run_steps (ρ : Dev nD → PrngReg) :
    θ_run defs (onTc (τ := τ) (main (F := Ideal))) ⟨m, fun _ => 0, ρ⟩ fun r => ∀ c : Dev nD,
      r.2.mem ((c.tc : Thread nD τ).loc main_v75) = flatT (x1M m c)
      ∧ r.2.mem ((c.tc : Thread nD τ).loc main_v76) = lanesT (h2M m c)
      ∧ r.2.mem ((c.tc : Thread nD τ).loc main_v77) = affT (expT (logitT (h2M m c) (m ((c.tc : Thread nD τ).loc main_arg8))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  run m ρ

/-! ## The steps at an index -/

/-- An element of a normalised row of 512. -/
def headR (x g : Fin 512 → EReal) (j : Fin 512) : EReal :=
  x j * Ideal.rsqrt (Ideal.div (∑ k : Fin 512, x k * x k) (Ideal.ofBits .f32 0x44000000#32) + Ideal.ofBits .f32 0x358637BD#32) * g j

theorem normT_at (A : FVec Ideal S32x256x512 .f32) (G : FVec Ideal S1x512 .f32) (b : Fin 32) (t : Fin 256) (k : Fin 512) :
    normT A G (ix3 b t k) = headR (fun k => A (ix3 b t k)) (fun k => G (ix2 0 k)) k := by
  pointwise [normT, headR]

theorem catT_lo (A Y : FVec Ideal S32x256x512 .f32) (b : Fin 32) (t : Fin 256) (k : Fin 512) :
    catT A Y (ix3 b t ⟨k.val, by omega⟩) = A (ix3 b t k) := by
  pointwise [catT]

theorem catT_hi (A Y : FVec Ideal S32x256x512 .f32) (b : Fin 32) (t : Fin 256) (k : Fin 512) :
    catT A Y (ix3 b t ⟨512 + k.val, by omega⟩) = Y (ix3 b t k) := by
  pointwise [catT]

theorem x1T_at (A Y : FVec Ideal S32x256x512 .f32) (X : FVec Ideal S32x256x1024 .f32) (M : FVec Ideal S16x1x6144 .f32) (GA GY : FVec Ideal S1x512 .f32)
    (W : FVec Ideal S1x1024x1024 .f32) (b : Fin 32) (t : Fin 256) (n : Fin 1024) :
    x1T A Y X M GA GY W (ix3 b t n) = X (ix3 b t n) + M (ix3 0 0 ⟨2048 + n.val, by omega⟩)
      * ∑ k : Fin 1024, catT (normT A GA) (normT Y GY) (ix3 b t k) * W (ix3 0 k n) := by
  pointwise [x1T]

theorem h2T_at (X1 : FVec Ideal S32x256x1024 .f32) (M : FVec Ideal S16x1x6144 .f32) (G : FVec Ideal S1x1024 .f32) (b : Fin 32) (t : Fin 256) (n : Fin 1024) :
    h2T X1 M G (ix3 b t n) = X1 (ix3 b t n)
      * Ideal.rsqrt (Ideal.div (∑ k : Fin 1024, X1 (ix3 b t k) * X1 (ix3 b t k)) (Ideal.ofBits .f32 0x44800000#32) + Ideal.ofBits .f32 0x358637BD#32)
      * G (ix2 0 n) * (1 + M (ix3 0 0 ⟨4096 + n.val, by omega⟩)) + M (ix3 0 0 ⟨3072 + n.val, by omega⟩) := by
  pointwise [h2T]

theorem logitT_at (H2 : FVec Ideal S32x256x1024 .f32) (R : FVec Ideal S1x1024x16 .f32) (r : Fin 8192) (e : Fin 16) :
    logitT H2 R (ix2 r e) = ∑ k : Fin 1024, H2 (ix3 ⟨r.val / 256, by omega⟩ ⟨r.val % 256, by omega⟩ k) * R (ix3 0 k e) := by
  pointwise [logitT]

theorem flatT_at (X : FVec Ideal S32x256x1024 .f32) (r : Fin 8192) (n : Fin 1024) :
    flatT X (ix2 r n) = X (ix3 ⟨r.val / 256, by omega⟩ ⟨r.val % 256, by omega⟩ n) := by
  pointwise [flatT]

theorem lanesT_at (X : FVec Ideal S32x256x1024 .f32) (q : Fin 65536) (l : Fin 128) :
    lanesT X (ix2 q l) = X (ix3 ⟨q.val / 2048, by omega⟩ ⟨q.val / 8 % 256, by omega⟩ ⟨q.val % 8 * 128 + l.val, by omega⟩) := by
  pointwise [lanesT, flatT]
  simp only [Nat.div_div_eq_div_mul, Nat.reduceMul]

theorem expT_at (L : FVec Ideal S8192x16 .f32) (r : Fin 8192) (e : Fin 16) :
    expT L (ix2 r e) = Ideal.exp (L (ix2 r e) - max (Ideal.ofBits .f32 0xFF800000#32)
      (Finset.fold max (Ideal.ofBits .f32 0xFF800000#32) (fun x => L (ix2 r x)) Finset.univ)) := by
  pointwise [expT]

theorem affT_at (E : FVec Ideal S8192x16 .f32) (e : Fin 16) (r : Fin 8192) :
    affT E (ix2 e r) = Ideal.div (E (ix2 r e)) (∑ y : Fin 16, E (ix2 r y)) := by
  pointwise [affT]

end Cert.OutputReferenceIdeal.Value

end
-- ==== Proof.Layer.Real.lean ====
module

public import Idealize.ShloMosaic.Lib.Pointwise
public import Idealize.ShloMosaic.Lib.IdealHost

@[expose] public section

noncomputable section

/-! # Equations of extended reals

The facts on which the two programs' arithmetic differs: a product by one over a power of two
against a division, and a softmax whose rows are divided by their sum before or after the product with the values. -/

open Idealize.ShloMosaic

namespace Cert.Layer

/-- The value is a real number. -/
def Fin' (x : EReal) : Prop := ∃ r : ℝ, x = (r : EReal)

theorem Fin'.coe (r : ℝ) : Fin' (r : EReal) := ⟨r, rfl⟩

theorem Fin'.of_ne {x : EReal} (h1 : x ≠ ⊤) (h2 : x ≠ ⊥) : Fin' x := ⟨x.toReal, (EReal.coe_toReal h1 h2).symm⟩

theorem Fin'.zero : Fin' 0 := ⟨0, rfl⟩
theorem Fin'.one : Fin' 1 := ⟨1, rfl⟩

theorem Fin'.add {x y : EReal} (hx : Fin' x) (hy : Fin' y) : Fin' (x + y) := by
  obtain ⟨a, rfl⟩ := hx; obtain ⟨b, rfl⟩ := hy; exact ⟨a + b, rfl⟩

theorem Fin'.mul {x y : EReal} (hx : Fin' x) (hy : Fin' y) : Fin' (x * y) := by
  obtain ⟨a, rfl⟩ := hx; obtain ⟨b, rfl⟩ := hy; exact ⟨a * b, (EReal.coe_mul a b).symm⟩

theorem Fin'.sub {x y : EReal} (hx : Fin' x) (hy : Fin' y) : Fin' (x - y) := by
  obtain ⟨a, rfl⟩ := hx; obtain ⟨b, rfl⟩ := hy; exact ⟨a - b, rfl⟩

theorem Fin'.sum {ι : Type} (s : Finset ι) {f : ι → EReal} (h : ∀ i, Fin' (f i)) : Fin' (∑ i ∈ s, f i) := by
  classical
  induction s using Finset.induction_on with
  | empty => rw [Finset.sum_empty]; exact .zero
  | insert a s ha ih => rw [Finset.sum_insert ha]; exact (h a).add ih

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem ofBits_inf : Ideal.ofBits .f32 0x7F800000#32 = ⊤ := by simp [Ideal.ofBits, Ideal.ieee]
theorem ofBits_neg_inf : Ideal.ofBits .f32 0xFF800000#32 = ⊥ := by simp [Ideal.ofBits, Ideal.ieee]

theorem ofBits_1024 : Ideal.ofBits .f32 0x44800000#32 = ((1024 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

/-- The small constant under the root is a positive real. -/
theorem ofBits_eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- Dividing by 1024 is multiplying by the reciprocal. -/
theorem div_1024 (x : EReal) : Ideal.div x (Ideal.ofBits .f32 0x44800000#32) = x * Ideal.ofBits .f32 0x3A800000#32 := by
  rw [ofBits_1024, ofBits_inv1024, Ideal.div_coe (by norm_num)]

theorem exp_coe (r : ℝ) : Ideal.exp (r : EReal) = ((Real.exp r : ℝ) : EReal) := rfl

/-- `silu` of a real is a real. -/
theorem Fin'.silu {x : EReal} (hx : Fin' x) : Fin' (x * Ideal.div 1 (1 + Ideal.exp (-x))) := by
  obtain ⟨a, rfl⟩ := hx
  have h : (1 : EReal) + Ideal.exp (-(a : EReal)) = ((1 + Real.exp (-a) : ℝ) : EReal) := by
    rw [← EReal.coe_neg, exp_coe, EReal.coe_add, EReal.coe_one]
  rw [h, Ideal.div_coe (by positivity)]
  exact (Fin'.coe a).mul (Fin'.one.mul (.coe _))

/-- A root's reciprocal under which the sum of a row's squares stands, times an element of the row, is a real whatever the row holds. -/
theorem norm_fin (x : Fin 1024 → EReal) (j : Fin 1024) : Fin' (x j * Ideal.rsqrt
    ((∑ k : Fin 1024, x k * x k) * Ideal.ofBits .f32 0x3A800000#32 + Ideal.ofBits .f32 0x358637BD#32)) := by
  obtain ⟨e, he, hE⟩ := ofBits_eps
  rw [hE, ofBits_inv1024]
  by_cases h : ∀ k, Fin' (x k)
  · choose r hr using h
    have hs : (∑ k : Fin 1024, x k * x k) = ((∑ k : Fin 1024, r k * r k : ℝ) : EReal) := by
      rw [← coe_sum]
      exact Finset.sum_congr rfl fun k _ => by rw [hr k, EReal.coe_mul]
    have hp : 0 < (∑ k : Fin 1024, r k * r k) * (1 / 1024) + e :=
      add_pos_of_nonneg_of_pos (mul_nonneg (Finset.sum_nonneg fun k _ => mul_self_nonneg _) (by norm_num)) he
    rw [hs, ← EReal.coe_mul, ← EReal.coe_add, hr j]
    refine (Fin'.coe _).mul ?_
    show Fin' (Ideal.rsqrt ((_ : ℝ) : EReal))
    refine ⟨(Real.sqrt ((∑ k : Fin 1024, r k * r k) * (1 / 1024) + e))⁻¹, ?_⟩
    show (if _ < 0 then ⊥ else if _ = 0 then ⊤ else _) = _
    rw [if_neg (not_lt.mpr hp.le), if_neg hp.ne']
  · push Not at h
    obtain ⟨k, hk⟩ := h
    have hsq : ∀ i, 0 ≤ x i * x i := fun i => by
      rcases le_total 0 (x i) with h | h
      · exact mul_nonneg h h
      · exact EReal.mul_nonneg_iff.2 (.inr ⟨h, h⟩)
    have hkt : x k * x k = ⊤ := by
      have : x k = ⊤ ∨ x k = ⊥ := by
        by_contra hc
        push Not at hc
        exact hk (.of_ne hc.1 hc.2)
      rcases this with h | h <;> rw [h] <;> rfl
    have hs : (∑ k : Fin 1024, x k * x k) = ⊤ :=
      top_le_iff.1 (hkt ▸ Finset.single_le_sum (f := fun i => x i * x i) (fun i _ => hsq i) (Finset.mem_univ k))
    rw [hs, EReal.top_mul_coe_of_pos (by norm_num), EReal.top_add_coe]
    have : Ideal.rsqrt ⊤ = 0 := rfl
    rw [this, mul_zero]
    exact .zero

/-- The maximum of a row of reals, folded from minus infinity, is a real. -/
theorem fold_max_fin {n : ℕ} (hn : 0 < n) (s : Fin n → ℝ) : Fin' (Finset.fold max (Ideal.ofBits .f32 0xFF800000#32) (fun t => (s t : EReal)) Finset.univ) := by
  rw [ofBits_neg_inf]
  refine .of_ne (fun h => ?_) (fun h => ?_)
  · have : (Finset.fold max (⊥ : EReal) (fun t => (s t : EReal)) Finset.univ) < ⊤ :=
      (Finset.fold_max_lt _).2 ⟨bot_lt_top, fun t _ => EReal.coe_lt_top _⟩
    exact absurd h this.ne
  · have : ((s ⟨0, hn⟩ : ℝ) : EReal) ≤ (Finset.fold max (⊥ : EReal) (fun t => (s t : EReal)) Finset.univ) :=
      (Finset.le_fold_max _).2 (.inr ⟨⟨0, hn⟩, Finset.mem_univ _, le_rfl⟩)
    rw [h] at this
    exact absurd (le_bot_iff.1 this) (EReal.coe_ne_bot _)

/-- A softmax row times a column of values, all real: dividing by the row sum after the product or before it is the same. -/
theorem softmax_eq {n : ℕ} (hn : 0 < n) (s v : Fin n → EReal) (hs : ∀ t, Fin' (s t)) (hv : ∀ t, Fin' (v t)) (M : EReal)
    (hM : Fin' M) :
    (∑ t, Ideal.exp (s t - M) * v t) * Ideal.div 1 (∑ t, Ideal.exp (s t - M))
      = ∑ t, Ideal.div (Ideal.exp (s t - M)) (∑ w, Ideal.exp (s w - M)) * v t := by
  choose r hr using hs
  choose u hu using hv
  obtain ⟨μ, rfl⟩ := hM
  have he : ∀ t, Ideal.exp (s t - (μ : EReal)) = ((Real.exp (r t - μ) : ℝ) : EReal) := fun t => by
    rw [hr t, ← EReal.coe_sub, exp_coe]
  have hl : 0 < ∑ t, Real.exp (r t - μ) :=
    Finset.sum_pos (fun t _ => Real.exp_pos _) ⟨⟨0, hn⟩, Finset.mem_univ _⟩
  simp only [he, hu, coe_sum, Ideal.div_coe hl.ne', ← EReal.coe_mul, ← EReal.coe_one]
  congr 1
  rw [Finset.sum_mul]
  exact Finset.sum_congr rfl fun t _ => by ring

end Cert.Layer

end
-- ==== Proof.Output.Equation.lean ====
module

public import proofs.«01_k».proof.Proof.Output.Array
public import proofs.«01_k».proof.Proof.Output.Ref
public import proofs.«01_k».proof.Proof.Layer.Real

@[expose] public section

set_option maxRecDepth 16384
set_option maxHeartbeats 4000000

noncomputable section

/-! # The out-projection and its reference compute the same values

The two halves of the product are one sum over the joined row; means are products with a reciprocal; the router's
product is taken in the other order; a maximum with minus infinity changes nothing. No finiteness is needed. -/

open Idealize.ShloMosaic

namespace Cert.Output

open Cert.OutputIdeal.Body Cert.OutputReferenceIdeal.Value Cert.Layer

theorem ofBits_512 : Ideal.ofBits .f32 0x44000000#32 = ((512 : ℝ) : EReal) := by
  simp [Ideal.ofBits, Ideal.ieee, -EReal.coe_mul]; norm_num

theorem ofBits_inv512 : Ideal.ofBits .f32 0x3B000000#32 = ((1 / 512 : ℝ) : EReal) := by
  simp [Ideal.ofBits, Ideal.ieee, -EReal.coe_mul]; norm_num

/-- Dividing by 512 is multiplying by the reciprocal. -/
theorem div_512 (x : EReal) : Ideal.div x (Ideal.ofBits .f32 0x44000000#32) = x * Ideal.ofBits .f32 0x3B000000#32 := by
  rw [ofBits_512, ofBits_inv512, Ideal.div_coe (by norm_num)]

theorem head_eq (x g : Fin 512 → EReal) (j : Fin 512) : headR x g j = headRow x g j := by
  unfold headR headRow
  rw [div_512]

/-- A sum over 1024 is the sum of its halves. -/
theorem sum_halves (f : Fin 1024 → EReal) :
    ∑ k : Fin 1024, f k = ∑ k : Fin 512, f ⟨k.val, by omega⟩ + ∑ k : Fin 512, f ⟨512 + k.val, by omega⟩ :=
  Fin.sum_univ_add (a := 512) (b := 512) f

variable (P : Args) {GA GY : FVec Ideal Cert.OutputReferenceIdeal.S1x512 .f32} {G : FVec Ideal Cert.OutputReferenceIdeal.S1x1024 .f32}
  {W : FVec Ideal Cert.OutputReferenceIdeal.S1x1024x1024 .f32} {R : FVec Ideal Cert.OutputReferenceIdeal.S1x1024x16 .f32}
  (hGA : ∀ k, P.GA (ix2 0 k) = GA (ix2 0 k)) (hGY : ∀ k, P.GY (ix2 0 k) = GY (ix2 0 k)) (hG : ∀ k, P.G (ix2 0 k) = G (ix2 0 k))
  (hW : ∀ k n, P.W (ix2 k n) = W (ix3 0 k n)) (hR : ∀ e k, P.R (ix2 e k) = R (ix3 0 k e))

include hGA hGY hW in
theorem x1_eq (b : Fin 32) (t : Fin 256) (n : Fin 1024) : x1K P b t n = x1T P.A P.Y P.X P.M GA GY W (ix3 b t n) := by
  rw [x1T_at, sum_halves]
  unfold x1K
  simp only [catT_lo, catT_hi, normT_at, head_eq, hGA, hGY, hW]

include hGA hGY hW hG in
theorem h2_eq (b : Fin 32) (t : Fin 256) (n : Fin 1024) :
    h2K P b t n = h2T (x1T P.A P.Y P.X P.M GA GY W) P.M G (ix3 b t n) := by
  rw [h2T_at, div_1024]
  unfold h2K
  simp only [x1_eq P hGA hGY hW, hG]

include hGA hGY hW hG hR in
theorem logit_eq (r : Fin 8192) (e : Fin 16) : logitK P ⟨r.val / 256, by omega⟩ ⟨r.val % 256, by omega⟩ e
    = logitT (h2T (x1T P.A P.Y P.X P.M GA GY W) P.M G) R (ix2 r e) := by
  rw [logitT_at]
  unfold logitK
  refine Finset.sum_congr rfl fun k _ => ?_
  rw [hR, h2_eq P hGA hGY hG hW, mul_comm]

include hGA hGY hW hG hR in
theorem aff_eq (r : Fin 8192) (e : Fin 16) : affK P ⟨r.val / 256, by omega⟩ ⟨r.val % 256, by omega⟩ e
    = affT (expT (logitT (h2T (x1T P.A P.Y P.X P.M GA GY W) P.M G) R)) (ix2 e r) := by
  have hmax : ∀ z : EReal, max (Ideal.ofBits .f32 0xFF800000#32) z = z := fun z => by
    rw [ofBits_neg_inf]; exact max_eq_right bot_le
  rw [affT_at]
  unfold affK
  simp only [expT_at, hmax, logit_eq P hGA hGY hG hW hR]

/-! ## The three arrays -/

include hGA hGY hW in
theorem x1_array : x1Arr P = flatT (x1T P.A P.Y P.X P.M GA GY W) := by
  funext j
  obtain ⟨r, n, rfl⟩ : ∃ (r : Fin 8192) (n : Fin 1024), j = ix2 r n := ⟨j 0, j 1, eq_ix2 j⟩
  exact (x1_eq P hGA hGY hW _ _ _).trans (flatT_at _ r n).symm

include hGA hGY hW hG in
theorem rows_array : rowsArr P = lanesT (h2T (x1T P.A P.Y P.X P.M GA GY W) P.M G) := by
  funext j
  obtain ⟨q, l, rfl⟩ : ∃ (q : Fin 65536) (l : Fin 128), j = ix2 q l := ⟨j 0, j 1, eq_ix2 j⟩
  exact (h2_eq P hGA hGY hG hW _ _ _).trans (lanesT_at _ q l).symm

include hGA hGY hW hG hR in
theorem aff_array : affArr P = affT (expT (logitT (h2T (x1T P.A P.Y P.X P.M GA GY W) P.M G) R)) := by
  funext j
  obtain ⟨e, r, rfl⟩ : ∃ (e : Fin 16) (r : Fin 8192), j = ix2 e r := ⟨j 0, j 1, eq_ix2 j⟩
  exact aff_eq P hGA hGY hG hW hR r e

end Cert.Output

end
-- ==== Proof.Output.Value.lean ====
module

public import proofs.«01_k».proof.Defs
public import proofs.«01_k».proof.Proof.Output.Final
public import proofs.«01_k».proof.Proof.Output.Soft
public import proofs.«01_k».proof.Proof.Output.Equation

@[expose] public section

set_option maxRecDepth 16384
set_option maxHeartbeats 400000

noncomputable section

/-! # The out-projection's value claim

The host operations before the call only reshape, transpose and round the weights; with the arrays the call leaves, the
three results are the reference's. -/

open Idealize.ShloMosaic Idealize.ShloMosaic.TcCoe Idealize.SL.Sem

namespace Cert.OutputIdeal.Body

open Cert.OutputIdeal Cert.OutputIdeal.Gen

variable (m : (ℓ : Loc nD τ sig) → Buf (Elt Ideal) ℓ) (ρ : Dev nD → PrngReg)

theorem v7_at (c : Dev nD) (k : Fin 512) :
    (V m c main_v7 : FVec Ideal S1x512 .f32) (ix2 0 k) = (m ((c.tc : Thread nD τ).loc main_arg4) : FVec Ideal S1x512 .f32) (ix2 0 k) := by
  have h : (V m c main_v7 : FVec Ideal S1x512 .f32) = shapeCast _ (shapeCast _ (m ((c.tc : Thread nD τ).loc main_arg4) : FVec Ideal S1x512 .f32) shapeCasts_S1x512_S512) shapeCasts_S512_S1x512 := by
    show StableHlo.after hostOps0 _ main_v7 = _
    after_results
    rfl
  rw [h]
  generalize (m ((c.tc : Thread nD τ).loc main_arg4) : FVec Ideal S1x512 .f32) = A
  pointwise

theorem v8_at (c : Dev nD) (k : Fin 512) :
    (V m c main_v8 : FVec Ideal S1x512 .f32) (ix2 0 k) = (m ((c.tc : Thread nD τ).loc main_arg5) : FVec Ideal S1x512 .f32) (ix2 0 k) := by
  have h : (V m c main_v8 : FVec Ideal S1x512 .f32) = shapeCast _ (shapeCast _ (m ((c.tc : Thread nD τ).loc main_arg5) : FVec Ideal S1x512 .f32) shapeCasts_S1x512_S512) shapeCasts_S512_S1x512 := by
    show StableHlo.after hostOps0 _ main_v8 = _
    after_results
    rfl
  rw [h]
  generalize (m ((c.tc : Thread nD τ).loc main_arg5) : FVec Ideal S1x512 .f32) = A
  pointwise

theorem v9_at (c : Dev nD) (k : Fin 1024) :
    (V m c main_v9 : FVec Ideal S1x1024 .f32) (ix2 0 k) = (m ((c.tc : Thread nD τ).loc main_arg6) : FVec Ideal S1x1024 .f32) (ix2 0 k) := by
  have h : (V m c main_v9 : FVec Ideal S1x1024 .f32) = shapeCast _ (shapeCast _ (m ((c.tc : Thread nD τ).loc main_arg6) : FVec Ideal S1x1024 .f32) shapeCasts_S1x1024_S1024) shapeCasts_S1024_S1x1024 := by
    show StableHlo.after hostOps0 _ main_v9 = _
    after_results
    rfl
  rw [h]
  generalize (m ((c.tc : Thread nD τ).loc main_arg6) : FVec Ideal S1x1024 .f32) = A
  pointwise

theorem w_at (A : FVec Ideal S1x1024x1024 .f32) (k n : Fin 1024) :
    (truncf (F := Ideal) (φ := .f32) .bf16 (shapeCast S1024x1024 A shapeCasts_S1x1024x1024_S1024x1024) bitsLt_bf16_f32) (ix2 k n) = A (ix3 0 k n) := by
  pointwise

theorem r_at (A : FVec Ideal S1x1024x16 .f32) (e : Fin 16) (k : Fin 1024) :
    (transpose S16x1024 [1, 0] (shapeCast S1024x16 A shapeCasts_S1x1024x16_S1024x16) transposes_S1024x16_S16x1024_1_0) (ix2 e k) = A (ix3 0 k e) := by
  pointwise

theorem v4_eq (c : Dev nD) :
    (V m c main_v4 : FVec Ideal S1024x1024 .bf16) = truncf (F := Ideal) (φ := .f32) .bf16 (shapeCast S1024x1024 (m ((c.tc : Thread nD τ).loc main_arg7) : FVec Ideal S1x1024x1024 .f32) shapeCasts_S1x1024x1024_S1024x1024) bitsLt_bf16_f32 := by
  show StableHlo.after hostOps0 _ main_v4 = _
  after_results
  rfl

theorem v6_eq (c : Dev nD) :
    (V m c main_v6 : FVec Ideal S16x1024 .f32) = transpose S16x1024 [1, 0] (shapeCast S1024x16 (m ((c.tc : Thread nD τ).loc main_arg8) : FVec Ideal S1x1024x16 .f32) shapeCasts_S1x1024x16_S1024x16) transposes_S1024x16_S16x1024_1_0 := by
  show StableHlo.after hostOps0 _ main_v6 = _
  after_results
  rfl

theorem v4_at (c : Dev nD) (k n : Fin 1024) :
    (V m c main_v4 : FVec Ideal S1024x1024 .bf16) (ix2 k n) = (m ((c.tc : Thread nD τ).loc main_arg7) : FVec Ideal S1x1024x1024 .f32) (ix3 0 k n) :=
  (congrFun (v4_eq m c) _).trans (w_at _ k n)

theorem v6_at (c : Dev nD) (e : Fin 16) (k : Fin 1024) :
    (V m c main_v6 : FVec Ideal S16x1024 .f32) (ix2 e k) = (m ((c.tc : Thread nD τ).loc main_arg8) : FVec Ideal S1x1024x16 .f32) (ix3 0 k e) :=
  (congrFun (v6_eq m c) _).trans (r_at _ e k)

/-- The run: the results are the arrays, the arguments are kept. -/
theorem run_value : θ_run defs (onTc (τ := τ) (main (F := Ideal))) ⟨m, fun _ => 0, ρ⟩ (fun r => ∀ c : Dev nD,
      (r.2.mem ((c.tc : Thread nD τ).loc main_v10_0) = x1Arr (argsAt m c)
      ∧ r.2.mem ((c.tc : Thread nD τ).loc main_v10_1) = rowsArr (argsAt m c)
      ∧ r.2.mem ((c.tc : Thread nD τ).loc main_v10_2) = affArr (argsAt m c))) :=
  (θ_run defs _ _).mono (fun _ h c => ⟨((h.1 c).1 9).trans (final_9 m c), ((h.1 c).1 10).trans (final_10 m c), ((h.1 c).1 11).trans (final_11 m c)⟩) (run m ρ)

/-- From memories agreeing on the arguments the kernel and the reference end with equal results. -/
theorem value : Cert.algebraic_OutputIdeal_OutputReferenceIdeal := by
  intro m g m' g' _ hargs
  refine ⟨fun c => x1Arr (argsAt m c), fun c => rowsArr (argsAt m c), fun c => affArr (argsAt m c), ?_, ?_⟩
  · refine (θ_run _ _ _).mono (fun r h c => ?_) (θ_run_and (run_value m g) (frame (F := Ideal) m g))
    obtain ⟨a0, a1, a2⟩ := h.1 c
    exact ⟨a0, a1, a2, h.2.1 c⟩
  · refine (θ_run _ _ _).mono (fun r h c => ?_) (Cert.OutputReferenceIdeal.Value.run_steps m' g')
    obtain ⟨a0, a1, a2, ha⟩ := h c
    obtain ⟨h0, h1, h2, h3, h4, h5, h6, h7, h8⟩ := hargs c
    have e0 := V_main_arg0 m c
    have e1 := V_main_arg1 m c
    have e2 := V_main_arg2 m c
    have e3 := V_main_arg3 m c
    have hx : Cert.OutputReferenceIdeal.Value.x1M m' c = Cert.OutputReferenceIdeal.Value.x1T (argsAt m c).A (argsAt m c).Y (argsAt m c).X (argsAt m c).M
        (m ((c.tc : Thread nD τ).loc main_arg4)) (m ((c.tc : Thread nD τ).loc main_arg5)) (m ((c.tc : Thread nD τ).loc main_arg7)) := by
      unfold Cert.OutputReferenceIdeal.Value.x1M argsAt
      dsimp only
      rw [h0, h1, h2, h3, h4, h5, h7, e0, e1, e2, e3]
    have hh : Cert.OutputReferenceIdeal.Value.h2M m' c = Cert.OutputReferenceIdeal.Value.h2T (Cert.OutputReferenceIdeal.Value.x1T (argsAt m c).A (argsAt m c).Y (argsAt m c).X (argsAt m c).M
        (m ((c.tc : Thread nD τ).loc main_arg4)) (m ((c.tc : Thread nD τ).loc main_arg5)) (m ((c.tc : Thread nD τ).loc main_arg7))) (argsAt m c).M (m ((c.tc : Thread nD τ).loc main_arg6)) := by
      unfold Cert.OutputReferenceIdeal.Value.h2M
      rw [hx]
      unfold argsAt
      dsimp only
      rw [h3, h6, e3]
    rw [hx] at a0
    rw [hh] at a1 a2
    rw [h8] at a2
    exact ⟨a0.trans (Cert.Output.x1_array (argsAt m c) (v7_at m c) (v8_at m c) (v4_at m c)).symm,
      a1.trans (Cert.Output.rows_array (argsAt m c) (v7_at m c) (v8_at m c) (v9_at m c) (v4_at m c)).symm,
      a2.trans (Cert.Output.aff_array (argsAt m c) (v7_at m c) (v8_at m c) (v9_at m c) (v4_at m c) (v6_at m c)).symm, ha⟩

end Cert.OutputIdeal.Body

end
-- ==== Proof.Points.lean ====
module

public import proofs.«01_k».proof.Proof.Gen.ExpertsIdeal
public import Idealize.ShloMosaic.Lib.Pipeline.Kit

@[expose] public section

noncomputable section

namespace Cert.ExpertsIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 3 (%5)) is fetched at the first point only, at any contents of the tables (its index map reads none). -/
theorem fetch0_0 (a : (pcfg0 (F := F)).Adm) : ∀ t : Fin (cfg0 a).N, ((cfg0 a).win 0).fetch t = true ↔ t.val % 176 = 0 :=
  (fun t => Pipeline.Window.fetchOf_const cc0_transform_2 (fun _ _ => rfl) (n := 176) (by decide) t : ∀ t : Fin grid0.N, Pipeline.Window.fetchOf grid0 false cc0_transform_2 t = true ↔ t.val % 176 = 0)
/-- Window 1 (operand 4 (%8)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_3 reads0_1 hreads0_1 1 (by decide) (by decide) (Pipeline.Window.sep_of_coord cc0_transform_3 1 2 (fun _ => rfl) (by decide)) (P := 1) (by decide) t).mpr (Nat.mod_one _) : ∀ t : Fin grid0.N, Pipeline.Window.fetchOf grid0 false cc0_transform_3 t = true)
/-- Window 2 (operand 5 (%9)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_4 reads0_2 hreads0_2 1 (by decide) (by decide) (Pipeline.Window.sep_of_coord cc0_transform_4 1 2 (fun _ => rfl) (by decide)) (P := 1) (by decide) t).mpr (Nat.mod_one _) : ∀ t : Fin grid0.N, Pipeline.Window.fetchOf grid0 false cc0_transform_4 t = true)
/-- Window 3 (operand 6 (%10)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_5 reads0_3 hreads0_3 1 (by decide) (by decide) (Pipeline.Window.sep_of_coord cc0_transform_5 1 1 (fun _ => rfl) (by decide)) (P := 1) (by decide) t).mpr (Nat.mod_one _) : ∀ t : Fin grid0.N, Pipeline.Window.fetchOf grid0 false cc0_transform_5 t = true)
/-- Window 4 (result 0 (%11)) is written back at the points ≡ 10 (mod 11), at any contents of the tables (its index map reads none). -/
theorem flush0_4 (a : (pcfg0 (F := F)).Adm) : ∀ t : Fin (cfg0 a).N, ((cfg0 a).win 4).flush t = true ↔ t.val % 11 = 10 :=
  (fun t => Pipeline.Window.flushOf_reads cc0_transform_6 reads0_4 hreads0_4 0 (by decide) (by decide) (Pipeline.Window.sep_of_coord cc0_transform_6 0 0 (fun _ => rfl) (by decide)) (P := 11) (m := 10) (by decide) rfl t : ∀ t : Fin grid0.N, Pipeline.Window.flushOf grid0 true cc0_transform_6 t = true ↔ t.val % 11 = 10)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_ffn (grid0.coords t) (Memref.whole main_v2) (Memref.isWhole_whole _) (Memref.whole main_v6) (Memref.isWhole_whole _) (Memref.whole main_v7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) cc0_scratch2

end Cert.ExpertsIdeal.Gen

end
-- ==== Proof.Kit.lean ====
module

public import proofs.«01_k».proof.Proof.Gen.ExpertsIdeal.Launch
public import proofs.«01_k».proof.Proof.Gen.ExpertsIdeal.Skeleton
public import proofs.«01_k».proof.Proof.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2x16x1024 .i32 := Memref.whole main_v2
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (Pipeline.UD sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ExpertsIdeal`, Defs.lean, at any `F`). -/
theorem frame_of (hO : Ok m) (dats : (p : Fin 1) → (c : Dev nD) → Dat τ (Elt F) Unit ℕ (Pipeline.UD sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 11) — by arithmetic of the point. -/
theorem hcond0_0 : ∀ t : Fin grid0.N, cond0_0 (grid0.coords t) ↔ t.val % 11 = 0 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [cond0_0, e0, e1]
    word_cmp
   : ∀ t : Fin grid0.N, cond0_0 (grid0.coords t) ↔ t.val % 11 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 10#32)) 0#32) = 1#1
/-- It holds at the points ≡ 10 (mod 11) — by arithmetic of the point. -/
theorem hcond0_1 : ∀ t : Fin grid0.N, cond0_1 (grid0.coords t) ↔ t.val % 11 = 10 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [cond0_1, e0, e1]
    word_cmp
   : ∀ t : Fin grid0.N, cond0_1 (grid0.coords t) ↔ t.val % 11 = 10)

/-! ## The kernel body on any staging memrefs: a subtype the run finds -/

/-- One staging buffer of output window 4, through which its contents are stated (`View.read_writes_of_cover`: the
    choice does not matter). -/
abbrev VO0_4 : View sig .tc .vmem S1x2112x1024 .f32 := (Memref.whole cc0_stg4_0 : Memref sig .tc .vmem S1x2112x1024 .f32).view
/-- Each window's current staging memref at point `t`, spelled as the pipeline passes it (`bodyAt0`), and its wholeness. -/
abbrev ms0_0 (hO : Ok m) (t : Fin (cfgM m hO).N) : Memref sig .tc .vmem S2048x16 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x256x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x2112x1024 .f32 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S16384x128 .f32 := Memref.whole cc0_scratch0
abbrev scM0_1 : Memref sig .tc .vmem S2048x1024 .bf16 := Memref.whole cc0_scratch1
/-- The scratch `arg11` the kernel carries between points, as a view: what it holds is stated through it. -/
abbrev VS0_1 : View sig .tc .vmem S2048x1024 .bf16 := scM0_1.view
/-- The operands left in HBM that the body copies into scratch itself, whole. -/
abbrev hbM0_0 : Memref sig .tc .hbm S65536x128 .f32 := Memref.whole main_v6
abbrev hbM0_1 : Memref sig .tc .hbm S65536x128 .f32 := Memref.whole main_v7
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 9] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0) := by
  rw [Pipeline.ownSems0_eq_of_list c osem0 [0] (by decide) (by decide)]; rfl
/-- The HBM operands the body moves, as references: unscoped, no window's array, no table (`Pipeline.restRefsP`). -/
def H0 : Finset (Ref sig .tc) := {main_v6, main_v7}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v6) ∗ hbPt0 c hbM0_1 (V m c main_v7)) := by
  rw [BI.bigSep_eq_bigSepL_of_eq [main_v6, main_v7] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 9) 0) ∗ iprop(hbPt0 c hbM0_0 (V m c main_v6) ∗ hbPt0 c hbM0_1 (V m c main_v7))) := by
  rw [Pipeline.ΦD_eq, scopedRest0_eq, ownSems00_eq, hbmPts0_eq]; simp only [scM0_0, scM0_1, owns_whole]; try rfl

end Cert.ExpertsIdeal.Gen

end
-- ==== Proof.Gather.lean ====
module

public import proofs.«01_k».proof.Proof.Kit
public import proofs.«01_k».proof.Proof.Gen.ExpertsIdeal.Loops
public import Idealize.ShloMosaic.Lib.ValueIdxCore

/-! # The gather of one expert's rows

At the first of an expert's points the kernel starts 2048 row copies on one semaphore (two per trip of a first loop) and
waits for all of them (two per trip of a second loop). Copy `k` of the prompt fills rows `8k … 8k+7` of the scratch from
the token the table names; copy `1024 + k` does the same for the samples. Here the two loops are run: the scratch comes
back holding the gathered rows, the tables and the sources come back as they were, and the semaphore is at zero. -/

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.RefSig (tileCredit)

variable {F : FTy → Type} [FloatOps F]

local notation "𝕄" => MT nD τ sig Unit (Elt F) ℕ (Pipeline.UD sig nD τ) ℕ

/-! ## The rows and what they receive -/

/-- The eight scratch rows of slot `s`. -/
def slotSet (s : ℕ) : Finset S16384x128.Idx := Finset.univ.filter fun y => (y 0).val / 8 = s
/-- The scratch rows of the two copies of one trip. -/
def pairSet (k : Fin 1024) : Finset S16384x128.Idx := Finset.univ.filter fun y => (y 0).val / 8 % 1024 = k.val
/-- The eight source rows of token `r`. -/
def rowSet (r : ℕ) : Finset S65536x128.Idx := Finset.univ.filter fun y => (y 0).val / 8 = r

theorem mem_slotSet (s : ℕ) (y : S16384x128.Idx) : y ∈ slotSet s ↔ (y 0).val / 8 = s := by simp [slotSet]
theorem mem_pairSet (k : Fin 1024) (y : S16384x128.Idx) : y ∈ pairSet k ↔ (y 0).val / 8 % 1024 = k.val := by simp [pairSet]
theorem mem_rowSet (r : ℕ) (y : S65536x128.Idx) : y ∈ rowSet r ↔ (y 0).val / 8 = r := by simp [rowSet]

/-- The token the table names for slot `k` of expert `e`, in batch `b`. -/
def tok (xt : S2x16x1024.Idx → BitVec 32) (b : Fin 2) (e : Fin 16) (k : ℕ) : ℕ :=
  (xt (ix3 b e ⟨k % 1024, Nat.mod_lt _ (by decide)⟩)).toNat

/-- Row `n`, lane `l` of a source, total in `n`. -/
def srcIdx (n : ℕ) (l : Fin 128) : S65536x128.Idx := ix2 ⟨n % 65536, Nat.mod_lt _ (by decide)⟩ l

/-- The scratch once every copy has landed: slot `k < 1024` holds the prompt's token, slot `1024 + k` the samples'. -/
def gath (xt : S2x16x1024.Idx → BitVec 32) (h0 h1 : S65536x128.Idx → Elt F .f32) (e : Fin 16) : S16384x128.Idx → Elt F .f32 :=
  fun y => if (y 0).val / 8 < 1024 then h0 (srcIdx (8 * tok xt 0 e ((y 0).val / 8) + (y 0).val % 8) (y 1))
    else h1 (srcIdx (8 * tok xt 1 e ((y 0).val / 8 - 1024) + (y 0).val % 8) (y 1))

/-! ## The geometry of one copy -/

theorem unit_set_rows {n : ℕ} (o : Fin 2 → ℕ) (r : ℕ) (ho : o = ![8 * r, 0])
    (h : ∀ a, o a + S8x128.size a ≤ (⟨2, ![n, 128]⟩ : Shape).size a) (y : (⟨2, ![n, 128]⟩ : Shape).Idx) :
    y ∈ (Rect.unit (s := ⟨2, ![n, 128]⟩) o S8x128.size h).set ↔ (y 0).val / 8 = r := by
  subst ho
  rw [Rect.mem_set_unit]
  have h1 : (y 1).val < 128 := (y 1).isLt
  constructor
  · intro H; have a0 : 8 * r ≤ (y 0).val ∧ (y 0).val < 8 * r + 8 := H 0; omega
  · intro H a; fin_cases a
    · show 8 * r ≤ (y 0).val ∧ (y 0).val < 8 * r + 8; omega
    · show 0 ≤ (y 1).val ∧ (y 1).val < 0 + 128; omega

theorem t1_trips : k0_t1_loop.trips = 1024 := by decide
theorem t2_trips : k0_t2_loop.trips = 1024 := by decide

theorem off3_eq (v : BitVec 32) (hv : v.toNat < 8192) : k0_off3 v = ![8 * v.toNat, 0] := by
  show ![(v * 8#32).toNat, 0] = _
  rw [BitVec.toNat_mul]; congr 1
  show v.toNat * 8 % 2 ^ 32 = _
  omega
theorem off6_eq (v : BitVec 32) (hv : v.toNat < 8192) : k0_off6 v = ![8 * v.toNat, 0] := off3_eq v hv
theorem chk1_of (i : grid0.Coords) (v : BitVec 32) (hv : v.toNat < 8192) : k0_chk1 i v := by
  refine ⟨fun _ => ?_, fun _ a => ?_⟩
  · show 8 ∣ (v * 8#32).toNat
    rw [BitVec.toNat_mul]; show 8 ∣ v.toNat * 8 % 2 ^ 32; omega
  · rw [off3_eq v hv]; fin_cases a
    · show 8 * v.toNat + 8 ≤ 65536; omega
    · show 0 + 128 ≤ 128; omega
theorem chk2_of (i : grid0.Coords) (v : BitVec 32) (hv : v.toNat < 8192) : k0_chk2 i v := chk1_of i v hv

variable (c : Dev nD)

/-- A copy's destination, its rectangle's offsets given. -/
abbrev dstM (o : Fin 2 → ℕ) (h : ∀ a, o a + S8x128.size a ≤ S16384x128.size a) : Memref sig .tc .vmem S8x128 .f32 :=
  scM0_0.slice (Rect.unit (s := S16384x128) o S8x128.size h) (fun _ => rfl)
/-- A copy's source in the prompt's rows, its rectangle's offsets given. -/
abbrev srcM0 (o : Fin 2 → ℕ) (h : ∀ a, o a + S8x128.size a ≤ S65536x128.size a) : Memref sig .tc .hbm S8x128 .f32 :=
  hbM0_0.slice (Rect.unit (s := S65536x128) o S8x128.size h) (fun _ => rfl)
/-- A copy's source in the samples' rows, its rectangle's offsets given. -/
abbrev srcM1 (o : Fin 2 → ℕ) (h : ∀ a, o a + S8x128.size a ≤ S65536x128.size a) : Memref sig .tc .hbm S8x128 .f32 :=
  hbM0_1.slice (Rect.unit (s := S65536x128) o S8x128.size h) (fun _ => rfl)

theorem dst_set (o : Fin 2 → ℕ) (r : ℕ) (ho : o = ![8 * r, 0]) (h : ∀ a, o a + S8x128.size a ≤ S16384x128.size a) :
    (dstM o h).view.set = slotSet r := by
  refine (View.set_slice_whole _ _).trans ?_
  ext y; rw [mem_slotSet]; exact unit_set_rows o r ho h y
theorem src0_set (o : Fin 2 → ℕ) (r : ℕ) (ho : o = ![8 * r, 0]) (h : ∀ a, o a + S8x128.size a ≤ S65536x128.size a) :
    (srcM0 o h).view.set = rowSet r := by
  refine (View.set_slice_whole _ _).trans ?_
  ext y; rw [mem_rowSet]; exact unit_set_rows o r ho h y
theorem src1_set (o : Fin 2 → ℕ) (r : ℕ) (ho : o = ![8 * r, 0]) (h : ∀ a, o a + S8x128.size a ≤ S65536x128.size a) :
    (srcM1 o h).view.set = rowSet r := by
  refine (View.set_slice_whole _ _).trans ?_
  ext y; rw [mem_rowSet]; exact unit_set_rows o r ho h y

variable (xt : TbBuf0 (F := F) c tbM0_0) (h0 : HbBuf0 (F := F) c hbM0_0) (h1 : HbBuf0 (F := F) c hbM0_1) (e : Fin 16)

theorem copy0_val (k : Fin 1024) (od os : Fin 2 → ℕ) (hd : od = ![8 * k.val, 0]) (hs : os = ![8 * tok xt 0 e k.val, 0])
    (hdi : ∀ a, od a + S8x128.size a ≤ S16384x128.size a) (hsi : ∀ a, os a + S8x128.size a ≤ S65536x128.size a)
    (fd : Buf (Elt F) ((dstM od hdi).view.loc (c : Thread nD τ))) (y : S16384x128.Idx) (hy : y ∈ (dstM od hdi).view.set) :
    (dstM od hdi).view.write (Elt F) fd ((srcM0 os hsi).view.read (Elt F) h0) Finset.univ y = gath xt h0 h1 e y := by
  subst hd hs
  obtain ⟨z, -, rfl⟩ := Finset.mem_map.mp hy
  refine (View.write_emb_of_mem _ _ (Finset.mem_univ z)).trans ?_
  have hz : (z 0).val < 8 := (z 0).isLt
  have hk := k.isLt
  have a0 : ((Rect.unit (s := S16384x128) ![8 * k.val, 0] S8x128.size hdi).emb z 0).val = 8 * k.val + (z 0).val := by
    rw [Rect.emb_apply]; show 8 * k.val + 1 * (z 0).val = _; omega
  have a1 : ((Rect.unit (s := S16384x128) ![8 * k.val, 0] S8x128.size hdi).emb z 1).val = (z 1).val := by
    rw [Rect.emb_apply]; show 0 + 1 * (z 1).val = _; omega
  have b0 : 8 * tok xt 0 e k.val + 8 ≤ 65536 := hsi 0
  show h0 ((Rect.unit (s := S65536x128) ![8 * tok xt 0 e k.val, 0] S8x128.size hsi).emb z)
    = gath xt h0 h1 e ((Rect.unit (s := S16384x128) ![8 * k.val, 0] S8x128.size hdi).emb z)
  unfold gath
  rw [if_pos (by rw [a0]; omega)]
  congr 1
  funext a
  fin_cases a
  · apply Fin.ext
    show 8 * tok xt 0 e k.val + 1 * (z 0).val = (8 * tok xt 0 e (_ / 8) + _ % 8) % 65536
    rw [a0, show (8 * k.val + (z 0).val) / 8 = k.val by omega, show (8 * k.val + (z 0).val) % 8 = (z 0).val by omega]; omega
  · apply Fin.ext
    show 0 + 1 * (z 1).val = _
    rw [Nat.one_mul, Nat.zero_add]; exact a1.symm

theorem copy1_val (k : Fin 1024) (od os : Fin 2 → ℕ) (hd : od = ![8 * (k.val + 1024), 0]) (hs : os = ![8 * tok xt 1 e k.val, 0])
    (hdi : ∀ a, od a + S8x128.size a ≤ S16384x128.size a) (hsi : ∀ a, os a + S8x128.size a ≤ S65536x128.size a)
    (fd : Buf (Elt F) ((dstM od hdi).view.loc (c : Thread nD τ))) (y : S16384x128.Idx) (hy : y ∈ (dstM od hdi).view.set) :
    (dstM od hdi).view.write (Elt F) fd ((srcM1 os hsi).view.read (Elt F) h1) Finset.univ y = gath xt h0 h1 e y := by
  subst hd hs
  obtain ⟨z, -, rfl⟩ := Finset.mem_map.mp hy
  refine (View.write_emb_of_mem _ _ (Finset.mem_univ z)).trans ?_
  have hz : (z 0).val < 8 := (z 0).isLt
  have hk := k.isLt
  have a0 : ((Rect.unit (s := S16384x128) ![8 * (k.val + 1024), 0] S8x128.size hdi).emb z 0).val = 8 * (k.val + 1024) + (z 0).val := by
    rw [Rect.emb_apply]; show 8 * (k.val + 1024) + 1 * (z 0).val = _; omega
  have a1 : ((Rect.unit (s := S16384x128) ![8 * (k.val + 1024), 0] S8x128.size hdi).emb z 1).val = (z 1).val := by
    rw [Rect.emb_apply]; show 0 + 1 * (z 1).val = _; omega
  have b0 : 8 * tok xt 1 e k.val + 8 ≤ 65536 := hsi 0
  show h1 ((Rect.unit (s := S65536x128) ![8 * tok xt 1 e k.val, 0] S8x128.size hsi).emb z)
    = gath xt h0 h1 e ((Rect.unit (s := S16384x128) ![8 * (k.val + 1024), 0] S8x128.size hdi).emb z)
  unfold gath
  rw [if_neg (by rw [a0]; omega)]
  congr 1
  funext a
  fin_cases a
  · apply Fin.ext
    show 8 * tok xt 1 e k.val + 1 * (z 0).val = (8 * tok xt 1 e (_ / 8 - 1024) + _ % 8) % 65536
    rw [a0, show (8 * (k.val + 1024) + (z 0).val) / 8 - 1024 = k.val by omega,
      show (8 * (k.val + 1024) + (z 0).val) % 8 = (z 0).val by omega]; omega
  · apply Fin.ext
    show 0 + 1 * (z 1).val = _
    rw [Nat.one_mul, Nat.zero_add]; exact a1.symm

/-! ## The batch of copies -/

/-- The read share copy `k` of a source takes with it. -/
abbrev qk (k : ℕ) : PosShare TreeShare := Transfers.shareTokN fullShare k

/-- Slot `s` of the scratch at contents `f`. -/
def slotPt (s : ℕ) (f : HbBuf0 (F := F) c scM0_0) : sProp 𝕄 := scM0_0.view.loc (c : Thread nD τ) ↦[slotSet s]{fullShare} f
/-- Token `k`'s share of the source rows copy `k` reads, in the prompt and in the samples. -/
def rowPt0 (k : ℕ) : sProp 𝕄 := hbM0_0.view.loc (c : Thread nD τ) ↦[rowSet (tok xt 0 e k)]{qk k} h0
def rowPt1 (k : ℕ) : sProp 𝕄 := hbM0_1.view.loc (c : Thread nD τ) ↦[rowSet (tok xt 1 e k)]{qk k} h1

/-- One copy's credit on the semaphore. -/
theorem credit_eq : tileCredit S8x128 .f32 = 128 := by decide

/-- What copy `k` of the prompt delivers, and what copy `k` of the samples does. -/
def del0 (k : ℕ) : sProp 𝕄 := iprop(slotPt c k (gath xt h0 h1 e) ∗ rowPt0 c xt h0 e k)
def del1 (k : ℕ) : sProp 𝕄 := iprop(slotPt c (k + 1024) (gath xt h0 h1 e) ∗ rowPt1 c xt h1 e k)

instance del0_storable (k : ℕ) : BI.Storable (upEmb : UEmb _ 𝕄) (del0 c xt h0 h1 e k) := by
  unfold del0 slotPt rowPt0; infer_instance
instance del1_storable (k : ℕ) : BI.Storable (upEmb : UEmb _ 𝕄) (del1 c xt h0 h1 e k) := by
  unfold del1 slotPt rowPt1; infer_instance

/-- The deliveries by the copies' numbers. -/
abbrev dels : Fin (2 * 1024) → sProp 𝕄 := Ring.interleaved 1024 (del0 c xt h0 h1 e) (del1 c xt h0 h1 e)

instance dels_storable (t : Fin (2 * 1024)) : BI.Storable (upEmb : UEmb _ 𝕄) (dels c xt h0 h1 e t) :=
  Ring.interleaved_storable (upEmb : UEmb _ 𝕄) 1024 (del0 c xt h0 h1 e) (del1 c xt h0 h1 e) t

/-- Two families held together. -/
theorem two_families (s : Finset ℕ) (A B : ℕ → sProp 𝕄) : iprop(bigSep s A ∗ bigSep s B) = bigSep s fun k => iprop(A k ∗ B k) :=
  (BI.bigSep_sep _ _ _).symm

/-- The 2048 copies on the semaphore, `j` started and `u` units waited for. -/
abbrev batch (j u : ℕ) : sProp 𝕄 :=
  Transfers.Batch (countersEmb (U := Pipeline.UD sig nD τ)) (c : Thread nD τ) (.dma 9) () 128 (dels c xt h0 h1 e) j u

/-- What trip `k` of the first loop takes. -/
def part (f : HbBuf0 (F := F) c scM0_0) (k : ℕ) : sProp 𝕄 :=
  iprop(slotPt c k f ∗ slotPt c (k + 1024) f ∗ rowPt0 c xt h0 e k ∗ rowPt1 c xt h1 e k)

/-- Before trip `k` of the first loop. -/
def startInv (f : HbBuf0 (F := F) c scM0_0) (k : ℕ) (_ : Unit) : sProp 𝕄 :=
  iprop(tbPt0 c tbM0_0 xt ∗ batch c xt h0 h1 e (2 * k) 0 ∗ bigSep (Ring.rangeSet 1024 k 1024) fun b => part c xt h0 h1 e f b.val)

/-- Before trip `k` of the second loop. -/
def waitInv (k : ℕ) (_ : Unit) : sProp 𝕄 :=
  iprop(⌜k ≤ 1024⌝ ∗ (∃ W, owes (c : Thread nD τ) 0 W)
    ∗ (if k < 1024 then batch c xt h0 h1 e (2 * 1024) (2 * k * 128)
       else iprop(semVal ((c : Thread nD τ), SemLoc.dma 9) 0 ∗ bigSep Finset.univ (dels c xt h0 h1 e))))

theorem rowPt0_eq (k : ℕ) (o : Fin 2 → ℕ) (ho : o = ![8 * tok xt 0 e k, 0]) (h : ∀ a, o a + S8x128.size a ≤ S65536x128.size a) :
    (rowPt0 c xt h0 e k : sProp 𝕄) ⊣⊢ ((srcM0 o h).view.loc (c : Thread nD τ) ↦[(srcM0 o h).view.set]{qk k} h0) := by
  rw [src0_set o _ ho h]; exact ⟨.rfl, .rfl⟩
theorem rowPt1_eq (k : ℕ) (o : Fin 2 → ℕ) (ho : o = ![8 * tok xt 1 e k, 0]) (h : ∀ a, o a + S8x128.size a ≤ S65536x128.size a) :
    (rowPt1 c xt h1 e k : sProp 𝕄) ⊣⊢ ((srcM1 o h).view.loc (c : Thread nD τ) ↦[(srcM1 o h).view.set]{qk k} h1) := by
  rw [src1_set o _ ho h]; exact ⟨.rfl, .rfl⟩

theorem del0_of (k : Fin 1024) (od os : Fin 2 → ℕ) (hd : od = ![8 * k.val, 0]) (hs : os = ![8 * tok xt 0 e k.val, 0])
    (hdi : ∀ a, od a + S8x128.size a ≤ S16384x128.size a) (hsi : ∀ a, os a + S8x128.size a ≤ S65536x128.size a)
    (fd : Buf (Elt F) ((dstM od hdi).view.loc (c : Thread nD τ))) (hj : 2 * k.val < 2 * 1024) :
    iprop(((dstM od hdi).view.loc (c : Thread nD τ) ↦[slotSet k.val]{fullShare}
        ((dstM od hdi).view.write (Elt F) fd ((srcM0 os hsi).view.read (Elt F) h0) Finset.univ))
      ∗ ((srcM0 os hsi).view.loc (c : Thread nD τ) ↦[(srcM0 os hsi).view.set]{qk k.val} h0))
    ⊢ (dels c xt h0 h1 e ⟨2 * k.val, hj⟩ : sProp 𝕄) := by
  rw [dels, Ring.interleaved_even]
  unfold del0 slotPt
  rw [pointsTo_congr (g := gath xt h0 h1 e) (fun y hy => copy0_val c xt h0 h1 e k od os hd hs hdi hsi fd y (by rw [dst_set _ _ hd]; exact hy))]
  exact sep_mono .rfl (rowPt0_eq c xt h0 e k.val os hs hsi).2
theorem del1_of (k : Fin 1024) (od os : Fin 2 → ℕ) (hd : od = ![8 * (k.val + 1024), 0]) (hs : os = ![8 * tok xt 1 e k.val, 0])
    (hdi : ∀ a, od a + S8x128.size a ≤ S16384x128.size a) (hsi : ∀ a, os a + S8x128.size a ≤ S65536x128.size a)
    (fd : Buf (Elt F) ((dstM od hdi).view.loc (c : Thread nD τ))) (hj : 2 * k.val + 1 < 2 * 1024) :
    iprop(((dstM od hdi).view.loc (c : Thread nD τ) ↦[slotSet (k.val + 1024)]{fullShare}
        ((dstM od hdi).view.write (Elt F) fd ((srcM1 os hsi).view.read (Elt F) h1) Finset.univ))
      ∗ ((srcM1 os hsi).view.loc (c : Thread nD τ) ↦[(srcM1 os hsi).view.set]{qk k.val} h1))
    ⊢ (dels c xt h0 h1 e ⟨2 * k.val + 1, hj⟩ : sProp 𝕄) := by
  rw [dels, Ring.interleaved_odd]
  unfold del1 slotPt
  rw [pointsTo_congr (g := gath xt h0 h1 e) (fun y hy => copy1_val c xt h0 h1 e k od os hd hs hdi hsi fd y (by rw [dst_set _ _ hd]; exact hy))]
  exact sep_mono .rfl (rowPt1_eq c xt h1 e k.val os hs hsi).2

theorem prog_ret_bind {E : Type → Type} {α β : Type} (a : α) (k : α → Prog E β) : (Prog.ret a).bind k = k a := rfl

/-- The word the table load reads. -/
theorem tok_read (b : Fin 2) (i : grid0.Coords) (k : Fin 1024) (o : Fin 3 → ℕ) (ho : o = ![b.val, (i 0).val, k.val])
    (h : ∀ a, o a + S1x1x1.size a ≤ S2x16x1024.size a) (x : S1x1x1.Idx) :
    BitVec.toNat ((tbM0_0.access (Rect.unit (s := S2x16x1024) o S1x1x1.size h)).read (Elt F) xt x) = tok xt b (i 0) k.val := by
  subst ho
  have hx : ∀ a, (x a).val = 0 := fun a => by
    have := (x a).isLt
    have h1 : S1x1x1.size a = 1 := by fin_cases a <;> rfl
    omega
  unfold tok
  show BitVec.toNat (xt ((Rect.unit (s := S2x16x1024) ![b.val, (i 0).val, k.val] S1x1x1.size h).emb x)) = _
  congr 2
  funext a
  apply Fin.ext
  rw [Rect.emb_apply, hx a]
  have hk := k.isLt
  fin_cases a
  · show b.val + 1 * 0 = b.val; omega
  · show (i 0).val + 1 * 0 = (i 0).val; omega
  · show k.val + 1 * 0 = k.val % 1024; omega

set_option maxHeartbeats 4000000 in
theorem start_step [∀ e, Nonempty (Elt F e)] (i : grid0.Coords) (f : HbBuf0 (F := F) c scM0_0)
    (hT : ∀ b k, tok xt b (i 0) k < 8192)
    (arg5 : Memref sig .tc .vmem S2048x16 .f32) (harg5 : arg5.IsWhole) (arg6 : Memref sig .tc .vmem S1x1024x256 .f32) (harg6 : arg6.IsWhole)
    (arg7 : Memref sig .tc .vmem S1x1024x256 .f32) (harg7 : arg7.IsWhole) (arg8 : Memref sig .tc .vmem S1x256x1024 .f32) (harg8 : arg8.IsWhole)
    (arg9 : Memref sig .tc .vmem S1x2112x1024 .f32) (harg9 : arg9.IsWhole) (arg11 : Memref sig .tc .vmem S2048x1024 .bf16) (harg11 : arg11.IsWhole)
    (harg2 : tbM0_0.IsWhole) (harg3 : hbM0_0.IsWhole) (harg4 : hbM0_1.IsWhole) (harg10 : scM0_0.IsWhole)
    (arg0 : BitVec 32) (k0_h1 : k0_cond1 i = 1#1) (k : Fin k0_t1_loop.trips) (acc : Unit) :
    startInv c xt h0 h1 (i 0) f k.val acc
      ⊢ wp frame (wpE (defs₀ (F := F)) Variants.none (c : Thread nD τ) none) Set.univ
          (k0_t1_body (F := F) i tbM0_0 harg2 hbM0_0 harg3 hbM0_1 harg4 arg5 harg5 arg6 harg6 arg7 harg7 arg8 harg8 arg9 harg9 scM0_0 harg10
            arg11 harg11 cc0_scratch2 arg0 k0_h1 k acc)
          (startInv c xt h0 h1 (i 0) f (k.val + 1)) := by
  have hk : k.val < 1024 := k.isLt.trans_eq t1_trips
  unfold startInv
  rw [Ring.bigSep_rangeSet_head (by omega) hk]
  unfold part
  iintro ⟨HT, HB, ⟨Hs0, Hs1, Hr0, Hr1⟩, HR⟩
  unfold k0_t1_body
  sl_exec
  have e1 : BitVec.toNat (start_step.sl.r c xt i k0_h1 k) = tok xt 0 (i 0) k.val :=
    tok_read c xt 0 i ⟨k.val, hk⟩ _ (k0_off1_eq i k) (k0_off1_inb i k k0_h1) _
  have w1 := e1.trans_lt (hT 0 k.val)
  iapply (wp_assume Variants.none (c : Thread nD τ) none Set.univ (chk1_of i _ w1))
  have o3 : k0_off3 (start_step.sl.r c xt i k0_h1 k) = ![8 * tok xt 0 (i 0) k.val, 0] := by rw [off3_eq _ w1, e1]
  ihave Hr0 := (rowPt0_eq c xt h0 (i 0) k.val _ o3 (k0_off3_inb i _ (chk1_of i _ w1) k0_h1)).1 $$ Hr0
  iapply (Transfers.wp_dmaBatch (countersEmb (U := Pipeline.UD sig nD τ)) Variants.none (c : Thread nD τ) none (sm := .dma 9) (via := ReadAs.same)
    (src := srcM0 _ (k0_off3_inb i _ (chk1_of i _ w1) k0_h1)) (dst := dstM _ (k0_off2_inb i k k0_h1)) () 128 credit_eq
    (dst_set _ _ (k0_off2_eq k) _).le (D := dels c xt h0 h1 (i 0)) (j := 2 * k.val) (u := 0) (by omega) (Nat.zero_le _)
    (del0_of c xt h0 h1 (i 0) ⟨k.val, hk⟩ _ _ (k0_off2_eq k) o3 (k0_off2_inb i k k0_h1) (k0_off3_inb i _ (chk1_of i _ w1) k0_h1) f _))
    $$ [Hr0 Hs0 HB]
  · isplitl [Hr0]; · iexact Hr0
    isplitl [Hs0]; · unfold slotPt; iexact Hs0
    iexact HB
  iintro HB
  rw [prog_ret_bind]
  sl_exec
  have e2 : BitVec.toNat (start_step.sl.r_1 c xt i k0_h1 k) = tok xt 1 (i 0) k.val :=
    tok_read c xt 1 i ⟨k.val, hk⟩ _ (k0_off4_eq i k) (k0_off4_inb i k k0_h1) _
  have w2 := e2.trans_lt (hT 1 k.val)
  iapply (wp_assume Variants.none (c : Thread nD τ) none Set.univ (chk2_of i _ w2))
  have o6 : k0_off6 (start_step.sl.r_1 c xt i k0_h1 k) = ![8 * tok xt 1 (i 0) k.val, 0] := by rw [off6_eq _ w2, e2]
  have o5 : k0_off5 k = ![8 * (k.val + 1024), 0] := by rw [k0_off5_eq k]; congr 1
  ihave Hr1 := (rowPt1_eq c xt h1 (i 0) k.val _ o6 (k0_off6_inb i _ (chk2_of i _ w2) k0_h1)).1 $$ Hr1
  iapply (Transfers.wp_dmaBatch (countersEmb (U := Pipeline.UD sig nD τ)) Variants.none (c : Thread nD τ) none (sm := .dma 9) (via := ReadAs.same)
    (src := srcM1 _ (k0_off6_inb i _ (chk2_of i _ w2) k0_h1)) (dst := dstM _ (k0_off5_inb i k k0_h1)) () 128 credit_eq
    (dst_set _ _ o5 _).le (D := dels c xt h0 h1 (i 0)) (j := 2 * k.val + 1) (u := 0) (by omega) (Nat.zero_le _)
    (del1_of c xt h0 h1 (i 0) ⟨k.val, hk⟩ _ _ o5 o6 (k0_off5_inb i k k0_h1) (k0_off6_inb i _ (chk2_of i _ w2) k0_h1) f _))
    $$ [Hr1 Hs1 HB]
  · isplitl [Hr1]; · iexact Hr1
    isplitl [Hs1]; · unfold slotPt; iexact Hs1
    iexact HB
  iintro HB
  rw [prog_ret_bind]
  sl_step
  isplitl [HT]; · iexact HT
  isplitl [HB]
  · rw [show 2 * (k.val + 1) = 2 * k.val + 1 + 1 by omega]; iexact HB
  iexact HR

set_option maxHeartbeats 4000000 in
theorem wait_step [∀ e, Nonempty (Elt F e)] (i : grid0.Coords)
    (arg5 : Memref sig .tc .vmem S2048x16 .f32) (harg5 : arg5.IsWhole) (arg6 : Memref sig .tc .vmem S1x1024x256 .f32) (harg6 : arg6.IsWhole)
    (arg7 : Memref sig .tc .vmem S1x1024x256 .f32) (harg7 : arg7.IsWhole) (arg8 : Memref sig .tc .vmem S1x256x1024 .f32) (harg8 : arg8.IsWhole)
    (arg9 : Memref sig .tc .vmem S1x2112x1024 .f32) (harg9 : arg9.IsWhole) (arg11 : Memref sig .tc .vmem S2048x1024 .bf16) (harg11 : arg11.IsWhole)
    (harg2 : tbM0_0.IsWhole) (harg3 : hbM0_0.IsWhole) (harg4 : hbM0_1.IsWhole) (harg10 : scM0_0.IsWhole)
    (arg0 : BitVec 32) (k0_h1 : k0_cond1 i = 1#1) (k : Fin k0_t2_loop.trips) (acc : Unit) :
    waitInv c xt h0 h1 e k.val acc
      ⊢ wp frame (wpE (defs₀ (F := F)) Variants.none (c : Thread nD τ) none) Set.univ
          (k0_t2_body (F := F) i tbM0_0 harg2 hbM0_0 harg3 hbM0_1 harg4 arg5 harg5 arg6 harg6 arg7 harg7 arg8 harg8 arg9 harg9 scM0_0 harg10
            arg11 harg11 cc0_scratch2 arg0 k0_h1 k acc)
          (waitInv c xt h0 h1 e (k.val + 1)) := by
  have hk : k.val < 1024 := k.isLt.trans_eq t2_trips
  unfold waitInv
  simp only [if_pos hk]
  rcases Nat.lt_or_ge (k.val + 1) 1024 with h | h
  · simp only [if_pos h]
    iintro ⟨-, ⟨%W, HO⟩, HB⟩
    unfold k0_t2_body
    sl_exec
    sl_step
    isplitr; · ipureintro; omega
    isplitl [HO]; · iexists _; iexact HO
    rw [show 2 * (k.val + 1) * 128 = 2 * k.val * 128 + 128 + 128 by omega]
    iexact HB
  · simp only [if_neg (Nat.not_lt.mpr h)]
    iintro ⟨-, ⟨%W, HO⟩, HB⟩
    unfold k0_t2_body
    sl_exec
    sl_step
    isplitr; · ipureintro; omega
    isplitl [HO]; · iexists _; iexact HO
    isplitl [HB]; · iexact HB
    iexact HB_all

/-! ## The arrays in pieces -/

/-- What is left of token `k`'s share of a source beside the rows copy `k` reads. -/
def comp0 (k : ℕ) : sProp 𝕄 := hbM0_0.view.loc (c : Thread nD τ) ↦[Finset.univ \ rowSet (tok xt 0 e k)]{qk k} h0
def comp1 (k : ℕ) : sProp 𝕄 := hbM0_1.view.loc (c : Thread nD τ) ↦[Finset.univ \ rowSet (tok xt 1 e k)]{qk k} h1

theorem src0_pieces : (hbPt0 c hbM0_0 h0 : sProp 𝕄)
    = iprop((hbM0_0.view.loc (c : Thread nD τ) ↦{Transfers.shareDrop fullShare 1024} h0)
      ∗ bigSep (Finset.range 1024) (rowPt0 c xt h0 e) ∗ bigSep (Finset.range 1024) (comp0 c xt h0 e)) := by
  have h := Transfers.pointsTo_toks_range (nD := nD) (τ := τ) (sig := sig) (Ix := Unit) (Val := Elt F) (Name := ℕ) (U := Pipeline.UD sig nD τ) (Lvl := ℕ)
    (ℓ := hbM0_0.view.loc (c : Thread nD τ)) (S := Finset.univ) (f := h0) fullShare 1024
  rw [two_families]
  refine (Entails.antisymm h.1 h.2).trans ?_
  congr 1
  congr 1
  funext k
  have h' := pointsTo_split_subset (nD := nD) (τ := τ) (sig := sig) (Ix := Unit) (Val := Elt F) (Name := ℕ) (U := Pipeline.UD sig nD τ) (Lvl := ℕ)
    (ℓ := hbM0_0.view.loc (c : Thread nD τ)) (q := qk k) (f := h0) (Finset.subset_univ (rowSet (tok xt 0 e k)))
  exact Entails.antisymm h'.1 h'.2
theorem src1_pieces : (hbPt0 c hbM0_1 h1 : sProp 𝕄)
    = iprop((hbM0_1.view.loc (c : Thread nD τ) ↦{Transfers.shareDrop fullShare 1024} h1)
      ∗ bigSep (Finset.range 1024) (rowPt1 c xt h1 e) ∗ bigSep (Finset.range 1024) (comp1 c xt h1 e)) := by
  have h := Transfers.pointsTo_toks_range (nD := nD) (τ := τ) (sig := sig) (Ix := Unit) (Val := Elt F) (Name := ℕ) (U := Pipeline.UD sig nD τ) (Lvl := ℕ)
    (ℓ := hbM0_1.view.loc (c : Thread nD τ)) (S := Finset.univ) (f := h1) fullShare 1024
  rw [two_families]
  refine (Entails.antisymm h.1 h.2).trans ?_
  congr 1
  congr 1
  funext k
  have h' := pointsTo_split_subset (nD := nD) (τ := τ) (sig := sig) (Ix := Unit) (Val := Elt F) (Name := ℕ) (U := Pipeline.UD sig nD τ) (Lvl := ℕ)
    (ℓ := hbM0_1.view.loc (c : Thread nD τ)) (q := qk k) (f := h1) (Finset.subset_univ (rowSet (tok xt 1 e k)))
  exact Entails.antisymm h'.1 h'.2

theorem pair_disjoint : ∀ b b' : Fin 1024, b ≠ b' → Disjoint (pairSet b) (pairSet b') := fun b b' hne => by
  rw [Finset.disjoint_left]; intro y hy hy'; rw [mem_pairSet] at hy hy'; exact hne (Fin.ext (hy.symm.trans hy'))
theorem pair_cover : Finset.univ.biUnion pairSet = Finset.univ := by
  ext y; simp only [Finset.mem_biUnion, Finset.mem_univ, true_and, iff_true]
  exact ⟨⟨(y 0).val / 8 % 1024, Nat.mod_lt _ (by decide)⟩, (mem_pairSet _ _).mpr rfl⟩
theorem pair_eq (b : Fin 1024) : pairSet b = slotSet b.val ∪ slotSet (b.val + 1024) := by
  ext y
  rw [Finset.mem_union, mem_pairSet, mem_slotSet, mem_slotSet]
  have hy : (y 0).val < 16384 := (y 0).isLt
  have := b.isLt
  omega
theorem slot_disjoint (s t : ℕ) (h : s ≠ t) : Disjoint (slotSet s) (slotSet t) := by
  rw [Finset.disjoint_left]; intro y hy hy'; rw [mem_slotSet] at hy hy'; exact h (hy.symm.trans hy')

theorem scratch_pieces (f : HbBuf0 (F := F) c scM0_0) : (scM0_0.view.loc (c : Thread nD τ) ↦{fullShare} f : sProp 𝕄)
    = iprop(bigSep (Finset.range 1024) (fun k => slotPt c k f) ∗ bigSep (Finset.range 1024) (fun k => slotPt c (k + 1024) f)) := by
  rw [two_families, Ring.pointsTo_blocks (ℓ := scM0_0.view.loc (c : Thread nD τ)) pairSet pair_disjoint pair_cover f,
    Ring.bigSep_fin_eq_range 1024 _ (fun k => iprop(slotPt c k f ∗ slotPt c (k + 1024) f)) (fun k h => ?_)]
  have h' := pointsTo_union (nD := nD) (τ := τ) (sig := sig) (Ix := Unit) (Val := Elt F) (Name := ℕ) (U := Pipeline.UD sig nD τ) (Lvl := ℕ)
    (ℓ := scM0_0.view.loc (c : Thread nD τ)) (q := fullShare) (f := f) (slot_disjoint k (k + 1024) (by omega))
  have e := Entails.antisymm h'.1 h'.2
  rw [pair_eq]
  exact e.symm

theorem batch_start : (semVal ((c : Thread nD τ), SemLoc.dma 9) 0 : sProp 𝕄) ⊢ |={Set.univ}=> batch c xt h0 h1 e 0 0 :=
  Transfers.batch_alloc' (Ix := Unit) (Name := ℕ) (U := Pipeline.UD sig nD τ) (Lvl := ℕ) (countersEmb (U := Pipeline.UD sig nD τ)) (c : Thread nD τ) () 128
    (dels c xt h0 h1 e) (sm := .dma 9) (E := Set.univ)

theorem part_pieces (f : HbBuf0 (F := F) c scM0_0) :
    (iprop(bigSep (Finset.range 1024) (fun k => slotPt c k f) ∗ bigSep (Finset.range 1024) (fun k => slotPt c (k + 1024) f)
      ∗ bigSep (Finset.range 1024) (rowPt0 c xt h0 e) ∗ bigSep (Finset.range 1024) (rowPt1 c xt h1 e)) : sProp 𝕄)
    ⊢ bigSep (Ring.rangeSet 1024 0 1024) fun b => part c xt h0 h1 e f b.val := by
  rw [Ring.bigSep_rangeSet_eq_range le_rfl (part c xt h0 h1 e f) (fun k h => by simp only [Nat.zero_add]),
    two_families, two_families, two_families]
  exact .rfl
theorem dels_pieces : (bigSep Finset.univ (dels c xt h0 h1 e) : sProp 𝕄)
    ⊢ iprop((bigSep (Finset.range 1024) (fun k => slotPt c k (gath xt h0 h1 e)) ∗ bigSep (Finset.range 1024) (rowPt0 c xt h0 e))
        ∗ (bigSep (Finset.range 1024) (fun k => slotPt c (k + 1024) (gath xt h0 h1 e)) ∗ bigSep (Finset.range 1024) (rowPt1 c xt h1 e))) := by
  rw [Ring.bigSep_interleaved]
  refine BIClass.sep_mono ?_ ?_
  · rw [two_families]; exact .rfl
  · rw [two_families]; exact .rfl

/-! ## The two loops -/

set_option maxHeartbeats 4000000 in
/-- The two loops: from the scratch at any contents and the semaphore at zero, to the scratch at the gathered rows and
    everything else as it was. -/
theorem gather_spec [∀ e, Nonempty (Elt F e)] (i : grid0.Coords) (f : HbBuf0 (F := F) c scM0_0)
    (hT : ∀ b k, tok xt b (i 0) k < 8192)
    (arg5 : Memref sig .tc .vmem S2048x16 .f32) (harg5 : arg5.IsWhole) (arg6 : Memref sig .tc .vmem S1x1024x256 .f32) (harg6 : arg6.IsWhole)
    (arg7 : Memref sig .tc .vmem S1x1024x256 .f32) (harg7 : arg7.IsWhole) (arg8 : Memref sig .tc .vmem S1x256x1024 .f32) (harg8 : arg8.IsWhole)
    (arg9 : Memref sig .tc .vmem S1x2112x1024 .f32) (harg9 : arg9.IsWhole) (arg11 : Memref sig .tc .vmem S2048x1024 .bf16) (harg11 : arg11.IsWhole)
    (harg2 : tbM0_0.IsWhole) (harg3 : hbM0_0.IsWhole) (harg4 : hbM0_1.IsWhole) (harg10 : scM0_0.IsWhole)
    (arg0 : BitVec 32) (k0_h1 : k0_cond1 i = 1#1) {α : Type} (kk : Unit → Prog (TpuEff nD τ sig (Elt F) Λ₀ .tc) α) (Q : α → sProp 𝕄) (W : Waits sig Unit) :
    iprop(tbPt0 c tbM0_0 xt ∗ (scM0_0.view.loc (c : Thread nD τ) ↦{fullShare} f) ∗ hbPt0 c hbM0_0 h0 ∗ hbPt0 c hbM0_1 h1
        ∗ semVal ((c : Thread nD τ), SemLoc.dma 9) 0 ∗ owes (c : Thread nD τ) 0 W)
      ⊢ iprop((iprop(tbPt0 c tbM0_0 xt ∗ (scM0_0.view.loc (c : Thread nD τ) ↦{fullShare} gath xt h0 h1 (i 0)) ∗ hbPt0 c hbM0_0 h0 ∗ hbPt0 c hbM0_1 h1
            ∗ semVal ((c : Thread nD τ), SemLoc.dma 9) 0 ∗ (∃ W, owes (c : Thread nD τ) 0 W))
          -∗ wp frame (wpE (defs₀ (F := F)) Variants.none (c : Thread nD τ) none) Set.univ (kk ⟨⟩) Q)
        -∗ wp frame (wpE (defs₀ (F := F)) Variants.none (c : Thread nD τ) none) Set.univ
          (Scf.Loop.for k0_t1_loop (k0_t1_ok i k0_h1) ⟨⟩ (k0_t1_body (F := F) i tbM0_0 harg2 hbM0_0 harg3 hbM0_1 harg4 arg5 harg5 arg6 harg6 arg7 harg7
              arg8 harg8 arg9 harg9 scM0_0 harg10 arg11 harg11 cc0_scratch2 arg0 k0_h1) >>= fun _ =>
            Scf.Loop.for k0_t2_loop (k0_t2_ok i k0_h1) ⟨⟩ (k0_t2_body (F := F) i tbM0_0 harg2 hbM0_0 harg3 hbM0_1 harg4 arg5 harg5 arg6 harg6 arg7 harg7
              arg8 harg8 arg9 harg9 scM0_0 harg10 arg11 harg11 cc0_scratch2 arg0 k0_h1) >>= kk) Q) := by
  rw [src0_pieces c xt h0 (i 0), src1_pieces c xt h1 (i 0), scratch_pieces, scratch_pieces]
  iintro ⟨HT, ⟨Hs0, Hs1⟩, ⟨Hd0, Hr0, Hc0⟩, ⟨Hd1, Hr1, Hc1⟩, Hv, HO⟩ Hk
  imod (batch_start c xt h0 h1 (i 0)) $$ Hv with HB
  sl_for (startInv c xt h0 h1 (i 0) f) $$ [HT HB Hs0 Hs1 Hr0 Hr1]
  · intro k acc
    exact start_step c xt h0 h1 i f hT arg5 harg5 arg6 harg6 arg7 harg7 arg8 harg8 arg9 harg9 arg11 harg11 harg2 harg3 harg4 harg10 arg0 k0_h1 k acc
  · unfold startInv
    isplitl [HT]; · iexact HT
    isplitl [HB]; · iexact HB
    iapply (part_pieces c xt h0 h1 (i 0) f)
    isplitl [Hs0]; · iexact Hs0
    isplitl [Hs1]; · iexact Hs1
    isplitl [Hr0]; · iexact Hr0
    iexact Hr1
  iintro %acc HL
  ihave HL := (show startInv c xt h0 h1 (i 0) f k0_t1_loop.trips acc ⊢ iprop(tbPt0 c tbM0_0 xt ∗ batch c xt h0 h1 (i 0) (2 * 1024) 0) from by
      rw [t1_trips]; unfold startInv; iintro ⟨HT, HB, -⟩
      isplitl [HT] <;> iassumption) $$ HL
  icases HL with ⟨HT, HB⟩
  sl_for (waitInv c xt h0 h1 (i 0)) $$ [HO HB]
  · intro k acc
    exact wait_step c xt h0 h1 (i 0) i arg5 harg5 arg6 harg6 arg7 harg7 arg8 harg8 arg9 harg9 arg11 harg11 harg2 harg3 harg4 harg10 arg0 k0_h1 k acc
  · unfold waitInv
    rw [if_pos (by decide)]
    isplitr; · ipureintro; omega
    isplitl [HO]; · iexists _; iexact HO
    rw [show 2 * 0 * 128 = 0 from rfl]
    iexact HB
  iintro %acc HL
  ihave HL := (show waitInv c xt h0 h1 (i 0) k0_t2_loop.trips acc ⊢ iprop((∃ W, owes (c : Thread nD τ) 0 W)
      ∗ semVal ((c : Thread nD τ), SemLoc.dma 9) 0 ∗ bigSep Finset.univ (dels c xt h0 h1 (i 0))) from by
      rw [t2_trips]; unfold waitInv; rw [if_neg (Nat.lt_irrefl _)]; iintro ⟨-, HO, Hv, Hall⟩
      isplitl [HO]; · iexact HO
      isplitl [Hv] <;> iassumption) $$ HL
  icases HL with ⟨HO, Hv, Hall⟩
  ihave Hall := (dels_pieces c xt h0 h1 (i 0)) $$ Hall
  icases Hall with ⟨⟨Hs0, Hr0⟩, ⟨Hs1, Hr1⟩⟩
  iapply Hk
  isplitl [HT]; · iexact HT
  isplitl [Hs0 Hs1]
  · isplitl [Hs0] <;> iassumption
  isplitl [Hd0 Hr0 Hc0]
  · isplitl [Hd0]; · iexact Hd0
    isplitl [Hr0] <;> iassumption
  isplitl [Hd1 Hr1 Hc1]
  · isplitl [Hd1]; · iexact Hd1
    isplitl [Hr1] <;> iassumption
  isplitl [Hv]; · iexact Hv
  iexact HO

end Cert.ExpertsIdeal.Gen

end
-- ==== Proof.RunA.lean ====
module

public import proofs.«01_k».proof.Proof.Gather

@[expose] public section

-- membership in a rectangle of production extents (`View.cover_of_tiled`): the elaborator's structural look
-- recurses once per coordinate of the long axes
set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 8000000 in
/-- An expert's first point: the gather, the first tile added to zeros. The pieces the stores leave in the output and in the cast rows, with the proof that the body runs to them. -/
noncomputable def kernelRun0_A [∀ e, Nonempty (Elt F e)] (c : Dev nD) (i : grid0.Coords) (arg5 : Memref sig .tc .vmem S2048x16 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S1x2112x1024 .f32) (harg9 : arg9.IsWhole) (arg11 : Memref sig .tc .vmem S2048x1024 .bf16) (harg11 : arg11.IsWhole) (hc0 : cond0_0 i) (hc1 : ¬cond0_1 i)
    (x0 : Vec F S2048x16 .f32) (x1 : Vec F S1x1024x256 .f32) (x2 : Vec F S1x1024x256 .f32) (x3 : Vec F S1x256x1024 .f32) (xt0 : TbBuf0 (F := F) c tbM0_0) (hT : ∀ b k, tok xt0 b (i 0) k < 8192) (fh0 : HbBuf0 (F := F) c hbM0_0) (fh1 : HbBuf0 (F := F) c hbM0_1) :
    Σ' (L4 : List (View.Piece (Elt F) S1x2112x1024 .f32)), { LS1 : List (View.Piece (Elt F) S2048x1024 .bf16) //
      ∀ (W : Waits sig Unit) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ (∃ d, owns (c : Thread nD τ) arg9 fullShare d) ∗ (∃ d, owns (c : Thread nD τ) scM0_0 fullShare d) ∗ (∃ d, owns (c : Thread nD τ) arg11 fullShare d) ∗ tbPt0 c tbM0_0 xt0 ∗ semVal ((c : Thread nD τ), SemLoc.dma 9) 0 ∗ hbPt0 c hbM0_0 fh0 ∗ hbPt0 c hbM0_1 fh1 ∗ owes (c : Thread nD τ) 0 W
            ∗ (iprop(owns (c : Thread nD τ) arg5 fullShare x0 ∗ owns (c : Thread nD τ) arg6 fullShare x1 ∗ owns (c : Thread nD τ) arg7 fullShare x2 ∗ owns (c : Thread nD τ) arg8 fullShare x3 ∗ (∃ f, arg9.view.loc (c : Thread nD τ) ↦[arg9.view.set]{fullShare} arg9.view.writes (Elt F) f L4) ∗ (∃ d, owns (c : Thread nD τ) scM0_0 fullShare d) ∗ (∃ f, arg11.view.loc (c : Thread nD τ) ↦[arg11.view.set]{fullShare} arg11.view.writes (Elt F) f LS1) ∗ tbPt0 c tbM0_0 xt0 ∗ semVal ((c : Thread nD τ), SemLoc.dma 9) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_expert_ffn i tbM0_0 htbM0_0 (Memref.whole main_v6) (Memref.isWhole_whole _) (Memref.whole main_v7) (Memref.isWhole_whole _) arg5 harg5 arg6 harg6 arg7 harg7 arg8 harg8 arg9 harg9 scM0_0 (Memref.isWhole_whole _) arg11 harg11 cc0_scratch2) K } := by
  refine ⟨?_, ?_, fun W K => ?run⟩
  case run =>
    simp only [cc0_expert_ffn_eq_skeleton]; unfold cc0_expert_ffn_skel
    simp only [k0_part7_eq_skeleton, k0_part6_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, HT0, Hq0, Hh0, Hh1, HW, Hk⟩
    obtain rfl := harg5.eq_unread hf0; obtain rfl := harg6.eq_unread hf1; obtain rfl := harg7.eq_unread hf2; obtain rfl := harg8.eq_unread hf3
    sl_exec (disch := first | sl_exact hc0 | sl_exact hc1)
    ihave HS0 := (show (scM0_0.view.loc (c : Thread nD τ) ↦[scM0_0.view.set]{fullShare} fs0 : sProp 𝕄) ⊢ (scM0_0.view.loc (c : Thread nD τ) ↦{fullShare} fs0) from by
      rw [View.set_whole]) $$ HS0
    iapply (gather_spec c xt0 fh0 fh1 i fs0 hT arg5 harg5 arg6 harg6 arg7 harg7 arg8 harg8 arg9 harg9 arg11 harg11
      htbM0_0 (Memref.isWhole_whole _) (Memref.isWhole_whole _) (Memref.isWhole_whole _) _ _ _ _ W) $$ [HT0 HS0 Hh0 Hh1 Hq0 HW]
    · isplitl [HT0]; · iexact HT0
      isplitl [HS0]; · iexact HS0
      isplitl [Hh0]; · iexact Hh0
      isplitl [Hh1]; · iexact Hh1
      isplitl [Hq0]; · iexact Hq0
      iexact HW
    iintro ⟨HT0, HS0, Hh0, Hh1, Hq0, ⟨%W1, HW⟩⟩
    ihave HS0 := (show (scM0_0.view.loc (c : Thread nD τ) ↦{fullShare} gath xt0 fh0 fh1 (i 0) : sProp 𝕄) ⊢ (scM0_0.view.loc (c : Thread nD τ) ↦[scM0_0.view.set]{fullShare} gath xt0 fh0 fh1 (i 0)) from by
      rw [View.set_whole]) $$ HS0
    sl_exec (disch := first | sl_exact hc0 | sl_exact hc1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]; · iexists _; iexact H4
    isplitl [HS0]
    · iexists _, _; isplitr; swap; · iexact HS0
      ipureintro; rfl
    isplitl [HS1]; · iexists _; iexact HS1
    isplitl [HT0]; · iexact HT0
    isplitl [Hq0]; · iexact Hq0
    isplitl [Hh0]; · iexact Hh0
    isplitl [Hh1]; · iexact Hh1
    iexists _; iexact HW

end Cert.ExpertsIdeal.Gen

end
-- ==== Proof.RunB.lean ====
module

public import proofs.«01_k».proof.Proof.RunA

@[expose] public section

-- membership in a rectangle of production extents (`View.cover_of_tiled`): the elaborator's structural look
-- recurses once per coordinate of the long axes
set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 8000000 in
/-- An expert's points in between: a tile added to what the output holds. The pieces the stores leave in the output and in the cast rows, with the proof that the body runs to them. -/
noncomputable def kernelRun0_B (c : Dev nD) (i : grid0.Coords) (arg5 : Memref sig .tc .vmem S2048x16 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S1x2112x1024 .f32) (harg9 : arg9.IsWhole) (arg11 : Memref sig .tc .vmem S2048x1024 .bf16) (harg11 : arg11.IsWhole) (hc0 : ¬cond0_0 i) (hc1 : ¬cond0_1 i)
    (x0 : Vec F S2048x16 .f32) (x1 : Vec F S1x1024x256 .f32) (x2 : Vec F S1x1024x256 .f32) (x3 : Vec F S1x256x1024 .f32) (xt0 : TbBuf0 (F := F) c tbM0_0) (xo4 : Vec F S1x2112x1024 .f32) (xs1 : Vec F S2048x1024 .bf16) (fh0 : HbBuf0 (F := F) c hbM0_0) (fh1 : HbBuf0 (F := F) c hbM0_1) :
    Σ' (L4 : List (View.Piece (Elt F) S1x2112x1024 .f32)), { LS1 : List (View.Piece (Elt F) S2048x1024 .bf16) //
      ∀ (W : Waits sig Unit) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare xo4 ∗ (∃ d, owns (c : Thread nD τ) scM0_0 fullShare d) ∗ owns (c : Thread nD τ) arg11 fullShare xs1 ∗ tbPt0 c tbM0_0 xt0 ∗ semVal ((c : Thread nD τ), SemLoc.dma 9) 0 ∗ hbPt0 c hbM0_0 fh0 ∗ hbPt0 c hbM0_1 fh1 ∗ owes (c : Thread nD τ) 0 W
            ∗ (iprop(owns (c : Thread nD τ) arg5 fullShare x0 ∗ owns (c : Thread nD τ) arg6 fullShare x1 ∗ owns (c : Thread nD τ) arg7 fullShare x2 ∗ owns (c : Thread nD τ) arg8 fullShare x3 ∗ (arg9.view.loc (c : Thread nD τ) ↦[arg9.view.set]{fullShare} arg9.view.writes (Elt F) (harg9.unread xo4) L4) ∗ (∃ d, owns (c : Thread nD τ) scM0_0 fullShare d) ∗ owns (c : Thread nD τ) arg11 fullShare xs1 ∗ tbPt0 c tbM0_0 xt0 ∗ semVal ((c : Thread nD τ), SemLoc.dma 9) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_expert_ffn i tbM0_0 htbM0_0 (Memref.whole main_v6) (Memref.isWhole_whole _) (Memref.whole main_v7) (Memref.isWhole_whole _) arg5 harg5 arg6 harg6 arg7 harg7 arg8 harg8 arg9 harg9 scM0_0 (Memref.isWhole_whole _) arg11 harg11 cc0_scratch2) K } := by
  refine ⟨?_, [], fun W K => ?run⟩
  case run =>
    simp only [cc0_expert_ffn_eq_skeleton]; unfold cc0_expert_ffn_skel
    simp only [k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%fs1, %hfs1, HS1⟩, HT0, Hq0, Hh0, Hh1, HW, Hk⟩
    obtain rfl := harg5.eq_unread hf0; obtain rfl := harg6.eq_unread hf1; obtain rfl := harg7.eq_unread hf2; obtain rfl := harg8.eq_unread hf3; obtain rfl := harg9.eq_unread hf4; obtain rfl := harg11.eq_unread hfs1
    sl_exec (disch := first | sl_exact hc0 | sl_exact hc1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]; · iexact H4
    isplitl [HS0]
    · iexists _, _; isplitr; swap; · iexact HS0
      ipureintro; rfl
    isplitl [HS1]
    · iexists _; isplitr; · ipureintro; exact harg11.read_unread _
      iexact HS1
    isplitl [HT0]; · iexact HT0
    isplitl [Hq0]; · iexact Hq0
    isplitl [Hh0]; · iexact Hh0
    isplitl [Hh1]; · iexact Hh1
    iexists _; iexact HW

end Cert.ExpertsIdeal.Gen

end
-- ==== Proof.RunC.lean ====
module

public import proofs.«01_k».proof.Proof.RunB

@[expose] public section

-- membership in a rectangle of production extents (`View.cover_of_tiled`): the elaborator's structural look
-- recurses once per coordinate of the long axes
set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 8000000 in
/-- An expert's last point: the last tile added, then every token's row scaled. The pieces the stores leave in the output and in the cast rows, with the proof that the body runs to them. -/
noncomputable def kernelRun0_C (c : Dev nD) (i : grid0.Coords) (arg5 : Memref sig .tc .vmem S2048x16 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S1x2112x1024 .f32) (harg9 : arg9.IsWhole) (arg11 : Memref sig .tc .vmem S2048x1024 .bf16) (harg11 : arg11.IsWhole) (hc0 : ¬cond0_0 i) (hc1 : cond0_1 i)
    (x0 : Vec F S2048x16 .f32) (x1 : Vec F S1x1024x256 .f32) (x2 : Vec F S1x1024x256 .f32) (x3 : Vec F S1x256x1024 .f32) (xt0 : TbBuf0 (F := F) c tbM0_0) (xo4 : Vec F S1x2112x1024 .f32) (xs1 : Vec F S2048x1024 .bf16) (fh0 : HbBuf0 (F := F) c hbM0_0) (fh1 : HbBuf0 (F := F) c hbM0_1) :
    Σ' (L4 : List (View.Piece (Elt F) S1x2112x1024 .f32)), { LS1 : List (View.Piece (Elt F) S2048x1024 .bf16) //
      ∀ (W : Waits sig Unit) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare xo4 ∗ (∃ d, owns (c : Thread nD τ) scM0_0 fullShare d) ∗ owns (c : Thread nD τ) arg11 fullShare xs1 ∗ tbPt0 c tbM0_0 xt0 ∗ semVal ((c : Thread nD τ), SemLoc.dma 9) 0 ∗ hbPt0 c hbM0_0 fh0 ∗ hbPt0 c hbM0_1 fh1 ∗ owes (c : Thread nD τ) 0 W
            ∗ (iprop(owns (c : Thread nD τ) arg5 fullShare x0 ∗ owns (c : Thread nD τ) arg6 fullShare x1 ∗ owns (c : Thread nD τ) arg7 fullShare x2 ∗ owns (c : Thread nD τ) arg8 fullShare x3 ∗ (arg9.view.loc (c : Thread nD τ) ↦[arg9.view.set]{fullShare} arg9.view.writes (Elt F) (harg9.unread xo4) L4) ∗ (∃ d, owns (c : Thread nD τ) scM0_0 fullShare d) ∗ owns (c : Thread nD τ) arg11 fullShare xs1 ∗ tbPt0 c tbM0_0 xt0 ∗ semVal ((c : Thread nD τ), SemLoc.dma 9) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_expert_ffn i tbM0_0 htbM0_0 (Memref.whole main_v6) (Memref.isWhole_whole _) (Memref.whole main_v7) (Memref.isWhole_whole _) arg5 harg5 arg6 harg6 arg7 harg7 arg8 harg8 arg9 harg9 scM0_0 (Memref.isWhole_whole _) arg11 harg11 cc0_scratch2) K } := by
  refine ⟨?_, [], fun W K => ?run⟩
  case run =>
    simp only [cc0_expert_ffn_eq_skeleton]; unfold cc0_expert_ffn_skel
    simp only [k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%fs1, %hfs1, HS1⟩, HT0, Hq0, Hh0, Hh1, HW, Hk⟩
    obtain rfl := harg5.eq_unread hf0; obtain rfl := harg6.eq_unread hf1; obtain rfl := harg7.eq_unread hf2; obtain rfl := harg8.eq_unread hf3; obtain rfl := harg9.eq_unread hf4; obtain rfl := harg11.eq_unread hfs1
    sl_exec (disch := first | sl_exact hc0 | sl_exact hc1)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]; · iexact H4
    isplitl [HS0]
    · iexists _, _; isplitr; swap; · iexact HS0
      ipureintro; rfl
    isplitl [HS1]
    · iexists _; isplitr; · ipureintro; exact harg11.read_unread _
      iexact HS1
    isplitl [HT0]; · iexact HT0
    isplitl [Hq0]; · iexact Hq0
    isplitl [Hh0]; · iexact Hh0
    isplitl [Hh1]; · iexact Hh1
    iexists _; iexact HW

end Cert.ExpertsIdeal.Gen

end
-- ==== Proof.Frame.lean ====
module

public import proofs.«01_k».proof.Proof.RunC
public import Idealize.ShloMosaic.Lib.Claim

@[expose] public section

-- membership in a rectangle of production extents (`View.cover_of_tiled`): the elaborator's structural look
-- recurses once per coordinate of the long axes
set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)
/-- Every word of the table of token rows is a row of the activations. -/
def TokOk : Prop := ∀ (i : grid0.Coords) (b : Fin 2) (k : ℕ), tok (tbl m 0) b (i 0) k < 8192

/-- Case A's pieces for output 4 are of SEVERAL sizes (5 stores of `S1x2112x1024`, `S1x512x1024`): cut into blocks of `![1, 64, 1024]` they tile its block (checked by the kernel's evaluation: Lib/Ring.lean `Piece.tiledBy`), so they cover it. -/
theorem cover0_A_4 (c : Dev nD) (i : grid0.Coords) (arg5 : Memref sig .tc .vmem S2048x16 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S1x2112x1024 .f32) (harg9 : arg9.IsWhole) (arg11 : Memref sig .tc .vmem S2048x1024 .bf16) (harg11 : arg11.IsWhole) (hc0 : cond0_0 i) (hc1 : ¬cond0_1 i)
    (x0 : Vec F S2048x16 .f32) (x1 : Vec F S1x1024x256 .f32) (x2 : Vec F S1x1024x256 .f32) (x3 : Vec F S1x256x1024 .f32) (xt0 : TbBuf0 (F := F) c tbM0_0) (hT : ∀ b k, tok xt0 b (i 0) k < 8192) (fh0 : HbBuf0 (F := F) c hbM0_0) (fh1 : HbBuf0 (F := F) c hbM0_1) (y : S1x2112x1024.Idx) :
    ∃ pc ∈ (kernelRun0_A c i arg5 harg5 arg6 harg6 arg7 harg7 arg8 harg8 arg9 harg9 arg11 harg11 hc0 hc1 x0 x1 x2 x3 xt0 hT fh0 fh1).1, y ∈ pc.1.set :=
  View.cover_of_tiledBy (kernelRun0_A c i arg5 harg5 arg6 harg6 arg7 harg7 arg8 harg8 arg9 harg9 arg11 harg11 hc0 hc1 x0 x1 x2 x3 xt0 hT fh0 fh1).1 ![1, 64, 1024] (by sl_kernel_rfl) y

/-- What case A leaves in output 4's staging buffer: its pieces read back over junk. -/
def out0_A_4 (c : Dev nD) (i : grid0.Coords) (arg5 : Memref sig .tc .vmem S2048x16 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S1x2112x1024 .f32) (harg9 : arg9.IsWhole) (arg11 : Memref sig .tc .vmem S2048x1024 .bf16) (harg11 : arg11.IsWhole) (hc0 : cond0_0 i) (hc1 : ¬cond0_1 i)
    (x0 : Vec F S2048x16 .f32) (x1 : Vec F S1x1024x256 .f32) (x2 : Vec F S1x1024x256 .f32) (x3 : Vec F S1x256x1024 .f32) (xt0 : TbBuf0 (F := F) c tbM0_0) (hT : ∀ b k, tok xt0 b (i 0) k < 8192) (fh0 : HbBuf0 (F := F) c hbM0_0) (fh1 : HbBuf0 (F := F) c hbM0_1) : Vec F S1x2112x1024 .f32 :=
  VO0_4.read (Elt F) (VO0_4.writes (Elt F) VO0_4.junk (kernelRun0_A c i arg5 harg5 arg6 harg6 arg7 harg7 arg8 harg8 arg9 harg9 arg11 harg11 hc0 hc1 x0 x1 x2 x3 xt0 hT fh0 fh1).1)

/-- Case A's pieces for scratch `arg11`, which the kernel carries between points, cover it: 32 pieces of `S512x128` tiling it (Lib/Ring.lean `Piece.tiledL`). -/
theorem scover0_A_1 (c : Dev nD) (i : grid0.Coords) (arg5 : Memref sig .tc .vmem S2048x16 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S1x2112x1024 .f32) (harg9 : arg9.IsWhole) (arg11 : Memref sig .tc .vmem S2048x1024 .bf16) (harg11 : arg11.IsWhole) (hc0 : cond0_0 i) (hc1 : ¬cond0_1 i)
    (x0 : Vec F S2048x16 .f32) (x1 : Vec F S1x1024x256 .f32) (x2 : Vec F S1x1024x256 .f32) (x3 : Vec F S1x256x1024 .f32) (xt0 : TbBuf0 (F := F) c tbM0_0) (hT : ∀ b k, tok xt0 b (i 0) k < 8192) (fh0 : HbBuf0 (F := F) c hbM0_0) (fh1 : HbBuf0 (F := F) c hbM0_1) (y : S2048x1024.Idx) :
    ∃ pc ∈ (kernelRun0_A c i arg5 harg5 arg6 harg6 arg7 harg7 arg8 harg8 arg9 harg9 arg11 harg11 hc0 hc1 x0 x1 x2 x3 xt0 hT fh0 fh1).2.1, y ∈ pc.1.set :=
  View.cover_of_tiledL (kernelRun0_A c i arg5 harg5 arg6 harg6 arg7 harg7 arg8 harg8 arg9 harg9 arg11 harg11 hc0 hc1 x0 x1 x2 x3 xt0 hT fh0 fh1).2.1 S512x128.size (by sl_kernel_rfl) y

/-- What case A leaves in scratch `arg11`: its pieces read back over junk. -/
def sout0_A_1 (c : Dev nD) (i : grid0.Coords) (arg5 : Memref sig .tc .vmem S2048x16 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S1x2112x1024 .f32) (harg9 : arg9.IsWhole) (arg11 : Memref sig .tc .vmem S2048x1024 .bf16) (harg11 : arg11.IsWhole) (hc0 : cond0_0 i) (hc1 : ¬cond0_1 i)
    (x0 : Vec F S2048x16 .f32) (x1 : Vec F S1x1024x256 .f32) (x2 : Vec F S1x1024x256 .f32) (x3 : Vec F S1x256x1024 .f32) (xt0 : TbBuf0 (F := F) c tbM0_0) (hT : ∀ b k, tok xt0 b (i 0) k < 8192) (fh0 : HbBuf0 (F := F) c hbM0_0) (fh1 : HbBuf0 (F := F) c hbM0_1) : Vec F S2048x1024 .bf16 :=
  VS0_1.read (Elt F) (VS0_1.writes (Elt F) VS0_1.junk (kernelRun0_A c i arg5 harg5 arg6 harg6 arg7 harg7 arg8 harg8 arg9 harg9 arg11 harg11 hc0 hc1 x0 x1 x2 x3 xt0 hT fh0 fh1).2.1)

/-- What case B leaves in output 4's staging buffer: its pieces read back over junk. -/
def out0_B_4 (c : Dev nD) (i : grid0.Coords) (arg5 : Memref sig .tc .vmem S2048x16 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S1x2112x1024 .f32) (harg9 : arg9.IsWhole) (arg11 : Memref sig .tc .vmem S2048x1024 .bf16) (harg11 : arg11.IsWhole) (hc0 : ¬cond0_0 i) (hc1 : ¬cond0_1 i)
    (x0 : Vec F S2048x16 .f32) (x1 : Vec F S1x1024x256 .f32) (x2 : Vec F S1x1024x256 .f32) (x3 : Vec F S1x256x1024 .f32) (xt0 : TbBuf0 (F := F) c tbM0_0) (xo4 : Vec F S1x2112x1024 .f32) (xs1 : Vec F S2048x1024 .bf16) (fh0 : HbBuf0 (F := F) c hbM0_0) (fh1 : HbBuf0 (F := F) c hbM0_1) : Vec F S1x2112x1024 .f32 :=
  arg9.view.read (Elt F) (arg9.view.writes (Elt F) (harg9.unread xo4) (kernelRun0_B c i arg5 harg5 arg6 harg6 arg7 harg7 arg8 harg8 arg9 harg9 arg11 harg11 hc0 hc1 x0 x1 x2 x3 xt0 xo4 xs1 fh0 fh1).1)

/-- Case B stores nothing into scratch `arg11`: it holds what the point before left. -/
def sout0_B_1 (c : Dev nD) (i : grid0.Coords) (arg5 : Memref sig .tc .vmem S2048x16 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S1x2112x1024 .f32) (harg9 : arg9.IsWhole) (arg11 : Memref sig .tc .vmem S2048x1024 .bf16) (harg11 : arg11.IsWhole) (hc0 : ¬cond0_0 i) (hc1 : ¬cond0_1 i)
    (x0 : Vec F S2048x16 .f32) (x1 : Vec F S1x1024x256 .f32) (x2 : Vec F S1x1024x256 .f32) (x3 : Vec F S1x256x1024 .f32) (xt0 : TbBuf0 (F := F) c tbM0_0) (xo4 : Vec F S1x2112x1024 .f32) (xs1 : Vec F S2048x1024 .bf16) (fh0 : HbBuf0 (F := F) c hbM0_0) (fh1 : HbBuf0 (F := F) c hbM0_1) : Vec F S2048x1024 .bf16 := xs1

/-- What case C leaves in output 4's staging buffer: its pieces read back over junk. -/
def out0_C_4 (c : Dev nD) (i : grid0.Coords) (arg5 : Memref sig .tc .vmem S2048x16 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S1x2112x1024 .f32) (harg9 : arg9.IsWhole) (arg11 : Memref sig .tc .vmem S2048x1024 .bf16) (harg11 : arg11.IsWhole) (hc0 : ¬cond0_0 i) (hc1 : cond0_1 i)
    (x0 : Vec F S2048x16 .f32) (x1 : Vec F S1x1024x256 .f32) (x2 : Vec F S1x1024x256 .f32) (x3 : Vec F S1x256x1024 .f32) (xt0 : TbBuf0 (F := F) c tbM0_0) (xo4 : Vec F S1x2112x1024 .f32) (xs1 : Vec F S2048x1024 .bf16) (fh0 : HbBuf0 (F := F) c hbM0_0) (fh1 : HbBuf0 (F := F) c hbM0_1) : Vec F S1x2112x1024 .f32 :=
  arg9.view.read (Elt F) (arg9.view.writes (Elt F) (harg9.unread xo4) (kernelRun0_C c i arg5 harg5 arg6 harg6 arg7 harg7 arg8 harg8 arg9 harg9 arg11 harg11 hc0 hc1 x0 x1 x2 x3 xt0 xo4 xs1 fh0 fh1).1)

/-- Case C stores nothing into scratch `arg11`: it holds what the point before left. -/
def sout0_C_1 (c : Dev nD) (i : grid0.Coords) (arg5 : Memref sig .tc .vmem S2048x16 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S1x2112x1024 .f32) (harg9 : arg9.IsWhole) (arg11 : Memref sig .tc .vmem S2048x1024 .bf16) (harg11 : arg11.IsWhole) (hc0 : ¬cond0_0 i) (hc1 : cond0_1 i)
    (x0 : Vec F S2048x16 .f32) (x1 : Vec F S1x1024x256 .f32) (x2 : Vec F S1x1024x256 .f32) (x3 : Vec F S1x256x1024 .f32) (xt0 : TbBuf0 (F := F) c tbM0_0) (xo4 : Vec F S1x2112x1024 .f32) (xs1 : Vec F S2048x1024 .bf16) (fh0 : HbBuf0 (F := F) c hbM0_0) (fh1 : HbBuf0 (F := F) c hbM0_1) : Vec F S2048x1024 .bf16 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (hT : TokOk m) (c : Dev nD) : (n : ℕ) → n < (cfgM m hO).N → Vec F S1x2112x1024 .f32 × Vec F S2048x1024 .bf16
  | 0, hn => (out0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_1 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (tbl m 0) (hT _) (V m c main_v6) (V m c main_v7), sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_1 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (tbl m 0) (hT _) (V m c main_v6) (V m c main_v7))
  | n + 1, hn =>
    if h0 : (n + 1) % 11 = 0 then
      if h1 : (n + 1) % 11 = 10 then
        False.elim (by have hN : n + 1 < 176 := lt_of_lt_of_eq hn (show (cfgM m hO).N = 176 from N_0); omega)
      else
        (out0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_1 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (hT _) (V m c main_v6) (V m c main_v7), sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_1 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (hT _) (V m c main_v6) (V m c main_v7))
    else
      if h1 : (n + 1) % 11 = 10 then
        (out0_C_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_1 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (tbl m 0) (outsAt0 hO hT c n (Nat.lt_of_succ_lt hn)).1 (outsAt0 hO hT c n (Nat.lt_of_succ_lt hn)).2 (V m c main_v6) (V m c main_v7), sout0_C_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_1 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (tbl m 0) (outsAt0 hO hT c n (Nat.lt_of_succ_lt hn)).1 (outsAt0 hO hT c n (Nat.lt_of_succ_lt hn)).2 (V m c main_v6) (V m c main_v7))
      else
        (out0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_1 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (outsAt0 hO hT c n (Nat.lt_of_succ_lt hn)).1 (outsAt0 hO hT c n (Nat.lt_of_succ_lt hn)).2 (V m c main_v6) (V m c main_v7), sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_1 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (outsAt0 hO hT c n (Nat.lt_of_succ_lt hn)).1 (outsAt0 hO hT c n (Nat.lt_of_succ_lt hn)).2 (V m c main_v6) (V m c main_v7))

/-- `outsAt0` at a point of case A: that case's contents. -/
theorem outsAt0_A (hO : Ok m) (hT : TokOk m) (c : Dev nD) (t : Fin (cfgM m hO).N) (h0 : t.val % 11 = 0) (h1 : ¬t.val % 11 = 10) :
    outsAt0 m hO hT c t.val t.isLt = (out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_1 (Memref.isWhole_whole _) ((hcond0_0 t).mpr h0) (fun h => h1 ((hcond0_1 t).mp h)) (iblk m hO c 0 t) (iblk m hO c 1 t) (iblk m hO c 2 t) (iblk m hO c 3 t) (tbl m 0) (hT _) (V m c main_v6) (V m c main_v7), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_1 (Memref.isWhole_whole _) ((hcond0_0 t).mpr h0) (fun h => h1 ((hcond0_1 t).mp h)) (iblk m hO c 0 t) (iblk m hO c 1 t) (iblk m hO c 2 t) (iblk m hO c 3 t) (tbl m 0) (hT _) (V m c main_v6) (V m c main_v7)) := by
  obtain ⟨n, hn⟩ := t
  cases n with
  | zero => exact rfl
  | succ n => exact (dif_pos h0).trans ((dif_neg h1).trans rfl)

/-- `outsAt0` at a point of case B: that case's contents, over what the point before left. -/
theorem outsAt0_B (hO : Ok m) (hT : TokOk m) (c : Dev nD) (t : Fin (cfgM m hO).N) (h0 : ¬t.val % 11 = 0) (h1 : ¬t.val % 11 = 10) :
    outsAt0 m hO hT c t.val t.isLt = (out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_1 (Memref.isWhole_whole _) (fun h => h0 ((hcond0_0 t).mp h)) (fun h => h1 ((hcond0_1 t).mp h)) (iblk m hO c 0 t) (iblk m hO c 1 t) (iblk m hO c 2 t) (iblk m hO c 3 t) (tbl m 0) (outsAt0 m hO hT c (t.val - 1) (Nat.lt_of_le_of_lt (Nat.sub_le _ _) t.isLt)).1 (outsAt0 m hO hT c (t.val - 1) (Nat.lt_of_le_of_lt (Nat.sub_le _ _) t.isLt)).2 (V m c main_v6) (V m c main_v7), sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_1 (Memref.isWhole_whole _) (fun h => h0 ((hcond0_0 t).mp h)) (fun h => h1 ((hcond0_1 t).mp h)) (iblk m hO c 0 t) (iblk m hO c 1 t) (iblk m hO c 2 t) (iblk m hO c 3 t) (tbl m 0) (outsAt0 m hO hT c (t.val - 1) (Nat.lt_of_le_of_lt (Nat.sub_le _ _) t.isLt)).1 (outsAt0 m hO hT c (t.val - 1) (Nat.lt_of_le_of_lt (Nat.sub_le _ _) t.isLt)).2 (V m c main_v6) (V m c main_v7)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (hO : Ok m) (hT : TokOk m) (c : Dev nD) (t : Fin (cfgM m hO).N) (h0 : ¬t.val % 11 = 0) (h1 : t.val % 11 = 10) :
    outsAt0 m hO hT c t.val t.isLt = (out0_C_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_1 (Memref.isWhole_whole _) (fun h => h0 ((hcond0_0 t).mp h)) ((hcond0_1 t).mpr h1) (iblk m hO c 0 t) (iblk m hO c 1 t) (iblk m hO c 2 t) (iblk m hO c 3 t) (tbl m 0) (outsAt0 m hO hT c (t.val - 1) (Nat.lt_of_le_of_lt (Nat.sub_le _ _) t.isLt)).1 (outsAt0 m hO hT c (t.val - 1) (Nat.lt_of_le_of_lt (Nat.sub_le _ _) t.isLt)).2 (V m c main_v6) (V m c main_v7), sout0_C_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_1 (Memref.isWhole_whole _) (fun h => h0 ((hcond0_0 t).mp h)) ((hcond0_1 t).mpr h1) (iblk m hO c 0 t) (iblk m hO c 1 t) (iblk m hO c 2 t) (iblk m hO c 3 t) (tbl m 0) (outsAt0 m hO hT c (t.val - 1) (Nat.lt_of_le_of_lt (Nat.sub_le _ _) t.isLt)).1 (outsAt0 m hO hT c (t.val - 1) (Nat.lt_of_le_of_lt (Nat.sub_le _ _) t.isLt)).2 (V m c main_v6) (V m c main_v7)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything, the tables' halves beside. -/
def PhiS (hO : Ok m) (hT : TokOk m) (c : Dev nD) : (n : ℕ) → n ≤ (cfgM m hO).N → sProp 𝕄
  | 0, _ => iprop(Pipeline.ΦD osem0 spec0 H0 (V m) c ∗ Pipeline.ΦT pre0 (tbl m) c)
  | n + 1, hn => iprop(iprop(iprop((∃ d, owns (c : Thread nD τ) scM0_0 fullShare d) ∗ owns (c : Thread nD τ) scM0_1 fullShare ((outsAt0 m hO hT c n hn).2)) ∗ (∃ r, prngReg c r) ∗ iprop(semVal ((c : Thread nD τ), SemLoc.dma 9) 0) ∗ iprop(hbPt0 c hbM0_0 (V m c main_v6) ∗ hbPt0 c hbM0_1 (V m c main_v7))) ∗ Pipeline.ΦT pre0 (tbl m) c)

theorem PhiS_zero (hO : Ok m) (hT : TokOk m) (c : Dev nD) (n : ℕ) (h : n ≤ (cfgM m hO).N) (hz : n = 0) : PhiS m hO hT c n h = iprop(Pipeline.ΦD osem0 spec0 H0 (V m) c ∗ Pipeline.ΦT pre0 (tbl m) c) := by
  subst hz; rfl

/-- After point `n` (before point `n + 1`): the carried scratch at that point's contents. -/
theorem PhiS_succ (hO : Ok m) (hT : TokOk m) (c : Dev nD) (n : ℕ) (hn : n < (cfgM m hO).N) :
    PhiS m hO hT c (n + 1) hn = iprop(iprop(iprop((∃ d, owns (c : Thread nD τ) scM0_0 fullShare d) ∗ owns (c : Thread nD τ) scM0_1 fullShare ((outsAt0 m hO hT c n hn).2)) ∗ (∃ r, prngReg c r) ∗ iprop(semVal ((c : Thread nD τ), SemLoc.dma 9) 0) ∗ iprop(hbPt0 c hbM0_0 (V m c main_v6) ∗ hbPt0 c hbM0_1 (V m c main_v7))) ∗ Pipeline.ΦT pre0 (tbl m) c) := rfl

/-- Before a point that is not the first: the carried scratch at what the point before left. -/
theorem PhiS_pos (hO : Ok m) (hT : TokOk m) (c : Dev nD) (n : ℕ) (h : n ≤ (cfgM m hO).N) (hz : n ≠ 0) :
    PhiS m hO hT c n h = iprop(iprop(iprop((∃ d, owns (c : Thread nD τ) scM0_0 fullShare d) ∗ owns (c : Thread nD τ) scM0_1 fullShare ((outsAt0 m hO hT c (n - 1) (by omega)).2)) ∗ (∃ r, prngReg c r) ∗ iprop(semVal ((c : Thread nD τ), SemLoc.dma 9) 0) ∗ iprop(hbPt0 c hbM0_0 (V m c main_v6) ∗ hbPt0 c hbM0_1 (V m c main_v7))) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents; and the tables' halves, `ΦT`); nothing owed; full shares. -/
def dats (hO : Ok m) (hT : TokOk m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO hT c t.val t.isLt).1
  Φ t := PhiS m hO hT c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (hT : TokOk m) (c : Dev nD) (w : Fin (cfgM m hO).W) : (dats m hO hT 0 c).A w = V m c (Pipeline.arrRef spec0 w) := by
  dsimp only [dats]

/-- The invariant at a point's start (the proof data at `t.castSucc`), restated at `t.val`. -/
theorem PhiS_castSucc (hO : Ok m) (hT : TokOk m) (c : Dev nD) (t : Fin (cfgM m hO).N) :
    (dats m hO hT 0 c).Φ t.castSucc = PhiS m hO hT c t.val (Nat.le_of_lt t.isLt) := by
  dsimp only [dats]; exact Pipeline.Dat.Φ_castSucc (PhiS m hO hT c) t

/-- What the body leaves, window by window (the proof data's `match` reduced by `dsimp`). -/
theorem after0_0 (hO : Ok m) (hT : TokOk m) (c : Dev nD) (t : Fin (cfgM m hO).N) : (dats m hO hT 0 c).after 0 t = iblk m hO c 0 t := by dsimp only [dats]; try rfl
theorem after0_1 (hO : Ok m) (hT : TokOk m) (c : Dev nD) (t : Fin (cfgM m hO).N) : (dats m hO hT 0 c).after 1 t = iblk m hO c 1 t := by dsimp only [dats]; try rfl
theorem after0_2 (hO : Ok m) (hT : TokOk m) (c : Dev nD) (t : Fin (cfgM m hO).N) : (dats m hO hT 0 c).after 2 t = iblk m hO c 2 t := by dsimp only [dats]; try rfl
theorem after0_3 (hO : Ok m) (hT : TokOk m) (c : Dev nD) (t : Fin (cfgM m hO).N) : (dats m hO hT 0 c).after 3 t = iblk m hO c 3 t := by dsimp only [dats]; try rfl
theorem after0_4 (hO : Ok m) (hT : TokOk m) (c : Dev nD) (t : Fin (cfgM m hO).N) : (dats m hO hT 0 c).after 4 t = (outsAt0 m hO hT c t.val t.isLt).1 := by dsimp only [dats]; try rfl

/-- Each input's current staging buffer holds its block at every point, fetched there or not (`beforeK_W_of`). -/
theorem before0_0 (hO : Ok m) (hT : TokOk m) (c : Dev nD) (t : Fin (cfgM m hO).N) (d) : (dats m hO hT 0 c).before 0 t d = iblk m hO c 0 t :=
  before0_0_of m hO (dats m hO hT 0 c) (A_eq m hO hT c 0) (after0_0 m hO hT c) t d
theorem before0_1 (hO : Ok m) (hT : TokOk m) (c : Dev nD) (t : Fin (cfgM m hO).N) (d) : (dats m hO hT 0 c).before 1 t d = iblk m hO c 1 t :=
  before0_1_of m hO (dats m hO hT 0 c) (A_eq m hO hT c 1) (after0_1 m hO hT c) t d
theorem before0_2 (hO : Ok m) (hT : TokOk m) (c : Dev nD) (t : Fin (cfgM m hO).N) (d) : (dats m hO hT 0 c).before 2 t d = iblk m hO c 2 t :=
  before0_2_of m hO (dats m hO hT 0 c) (A_eq m hO hT c 2) (after0_2 m hO hT c) t d
theorem before0_3 (hO : Ok m) (hT : TokOk m) (c : Dev nD) (t : Fin (cfgM m hO).N) (d) : (dats m hO hT 0 c).before 3 t d = iblk m hO c 3 t :=
  before0_3_of m hO (dats m hO hT 0 c) (A_eq m hO hT c 3) (after0_3 m hO hT c) t d
/-- At a point of case B output 4's current staging buffer holds what the body left at the point before: the point is
    not the first, the buffer was not written back between (`flush0_4`), the window is live and uncut (Lib/Pipeline/Frame.lean
    `Dat.before_out_kept`). -/
theorem before0_4_B (hO : Ok m) (hT : TokOk m) (c : Dev nD) (t : Fin (cfgM m hO).N) (h0 : ¬t.val % 11 = 0) (h1 : ¬t.val % 11 = 10) (d) :
    (dats m hO hT 0 c).before 4 t d = (outsAt0 m hO hT c (t.val - 1) (Nat.lt_of_le_of_lt (Nat.sub_le _ _) t.isLt)).1 := by
  have hN : t.val < 176 := lt_of_lt_of_eq t.isLt (show (cfgM m hO).N = 176 from N_0)
  rw [Dat.before_out_kept _ 4 rfl t (by omega) (Bool.eq_false_iff.mpr fun h => by have := (flush0_4 (adm m hO) _).mp h; dsimp only at this; omega)
    (fun _ => rfl) (fun _ _ => rfl)]
  dsimp only [dats]
  try rfl
/-- At a point of case C output 4's current staging buffer holds what the body left at the point before: the point is
    not the first, the buffer was not written back between (`flush0_4`), the window is live and uncut (Lib/Pipeline/Frame.lean
    `Dat.before_out_kept`). -/
theorem before0_4_C (hO : Ok m) (hT : TokOk m) (c : Dev nD) (t : Fin (cfgM m hO).N) (h0 : ¬t.val % 11 = 0) (h1 : t.val % 11 = 10) (d) :
    (dats m hO hT 0 c).before 4 t d = (outsAt0 m hO hT c (t.val - 1) (Nat.lt_of_le_of_lt (Nat.sub_le _ _) t.isLt)).1 := by
  have hN : t.val < 176 := lt_of_lt_of_eq t.isLt (show (cfgM m hO).N = 176 from N_0)
  rw [Dat.before_out_kept _ 4 rfl t (by omega) (Bool.eq_false_iff.mpr fun h => by have := (flush0_4 (adm m hO) _).mp h; dsimp only at this; omega)
    (fun _ => rfl) (fun _ _ => rfl)]
  dsimp only [dats]
  try rfl

/-! ## The body obligation, at a generic point -/

/-- What the body is called with at point `t` (Lib/Pipeline.lean `BodyObligation`'s precondition, the windows one by one), -/
def bodyPre (hO : Ok m) (hT : TokOk m) (c : Dev nD) (t : Fin (cfgM m hO).N) : sProp 𝕄 :=
  iprop((dats m hO hT 0 c).Φ t.castSucc ∗ (dats m hO hT 0 c).owesAt () t.castSucc
    ∗ (∃ d, owns (c : Thread nD τ) (ms0_0 m hO t) fullShare ((dats m hO hT 0 c).before 0 t d))
    ∗ (∃ d, owns (c : Thread nD τ) (ms0_1 m hO t) fullShare ((dats m hO hT 0 c).before 1 t d))
    ∗ (∃ d, owns (c : Thread nD τ) (ms0_2 m hO t) fullShare ((dats m hO hT 0 c).before 2 t d))
    ∗ (∃ d, owns (c : Thread nD τ) (ms0_3 m hO t) fullShare ((dats m hO hT 0 c).before 3 t d))
    ∗ (∃ d, owns (c : Thread nD τ) (ms0_4 m hO t) fullShare ((dats m hO hT 0 c).before 4 t d)))

/-- and what it returns. -/
def bodyPost (hO : Ok m) (hT : TokOk m) (c : Dev nD) (t : Fin (cfgM m hO).N) : sProp 𝕄 :=
  iprop((dats m hO hT 0 c).Φ t.succ ∗ (dats m hO hT 0 c).owesAt () t.succ
    ∗ owns (c : Thread nD τ) (ms0_0 m hO t) fullShare ((dats m hO hT 0 c).after 0 t)
    ∗ owns (c : Thread nD τ) (ms0_1 m hO t) fullShare ((dats m hO hT 0 c).after 1 t)
    ∗ owns (c : Thread nD τ) (ms0_2 m hO t) fullShare ((dats m hO hT 0 c).after 2 t)
    ∗ owns (c : Thread nD τ) (ms0_3 m hO t) fullShare ((dats m hO hT 0 c).after 3 t)
    ∗ owns (c : Thread nD τ) (ms0_4 m hO t) fullShare ((dats m hO hT 0 c).after 4 t))

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (hO : Ok m) (hT : TokOk m) (c : Dev nD) (t : Fin (cfgM m hO).N) :
    bodyPre m hO hT c t ⊢ wp frame (wpE (defs₀ (F := F)) Variants.none c none) Set.univ (bodyAt0 (adm m hO) t) (fun _ => bodyPost m hO hT c t) := by
  unfold bodyPre bodyPost bodyAt0
  simp only [before0_0, before0_1, before0_2, before0_3]
  rw [show (dats m hO hT 0 c).Φ t.succ = PhiS m hO hT c (t.val + 1) t.isLt from rfl, PhiS_succ,
    after0_0, after0_1, after0_2, after0_3, after0_4]
  unfold Dat.owesAt Pipeline.owesWithin
  rw [show (dats m hO hT 0 c).owed t.castSucc = 0 from rfl, show (dats m hO hT 0 c).owed t.succ = 0 from rfl]
  have hN : t.val < 176 := lt_of_lt_of_eq t.isLt (show (cfgM m hO).N = 176 from N_0)
  by_cases h0 : t.val % 11 = 0
  · by_cases h1 : t.val % 11 = 10
    · exfalso; omega
    · by_cases hz : t.val = 0
      · rw [PhiS_castSucc m hO hT c t, PhiS_zero m hO hT c _ _ hz, PhiT0_eq, PhiD0_eq]
        rw [outsAt0_A m hO hT c t h0 h1]
        unfold out0_A_4 sout0_A_1; (try dsimp only)
        iintro ⟨⟨⟨⟨HS0, HS1⟩, Hg, Hq0, ⟨Hh0, Hh1⟩⟩, HT0⟩, ⟨%W, -, HW⟩, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m hO c 0 t) (iblk m hO c 1 t) (iblk m hO c 2 t) (iblk m hO c 3 t) (tbl m 0) (hT _) (V m c main_v6) (V m c main_v7)).2.2 W _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HT0]; · iexact HT0
        isplitl [Hq0]; · iexact Hq0
        isplitl [Hh0]; · iexact Hh0
        isplitl [Hh1]; · iexact Hh1
        isplitl [HW]; · iexact HW
        iintro ⟨H0, H1, H2, H3, ⟨%e4, H4⟩, HS0, ⟨%es1, HS1⟩, HT0, Hq0, Hh0, Hh1, ⟨%W', HW'⟩⟩
        isplitl [HS0 HS1 Hg Hq0 Hh0 Hh1 HT0]
        · isplitl [HS0 HS1 Hg Hq0 Hh0 Hh1]
          · isplitl [HS0 HS1]
            · isplitl [HS0]
              · iexact HS0
              unfold owns; iexists _; isplitr
              swap; · iexact HS1
              ipureintro; exact View.read_writes_of_cover _ _ _ _ _ (scover0_A_1 c _ _ _ _ _ _ _ _ _ _ _ _ _ _ _ _ _ _ _ _ _ _ _)
            isplitl [Hg]
            · iexact Hg
            isplitl [Hq0]
            · iexact Hq0
            isplitl [Hh0]; · iexact Hh0
            iexact Hh1
          iexact HT0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_A_4 c _ _ _ _ _ _ _ _ _ _ _ _ _ _ _ _ _ _ _ _ _ _ _)
      · rw [PhiS_castSucc m hO hT c t, PhiS_pos m hO hT c _ _ hz, PhiT0_eq]
        rw [outsAt0_A m hO hT c t h0 h1]
        unfold out0_A_4 sout0_A_1; (try dsimp only)
        iintro ⟨⟨⟨⟨HS0, HS1⟩, Hg, Hq0, ⟨Hh0, Hh1⟩⟩, HT0⟩, ⟨%W, -, HW⟩, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m hO c 0 t) (iblk m hO c 1 t) (iblk m hO c 2 t) (iblk m hO c 3 t) (tbl m 0) (hT _) (V m c main_v6) (V m c main_v7)).2.2 W _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexists _; iexact HS1
        isplitl [HT0]; · iexact HT0
        isplitl [Hq0]; · iexact Hq0
        isplitl [Hh0]; · iexact Hh0
        isplitl [Hh1]; · iexact Hh1
        isplitl [HW]; · iexact HW
        iintro ⟨H0, H1, H2, H3, ⟨%e4, H4⟩, HS0, ⟨%es1, HS1⟩, HT0, Hq0, Hh0, Hh1, ⟨%W', HW'⟩⟩
        isplitl [HS0 HS1 Hg Hq0 Hh0 Hh1 HT0]
        · isplitl [HS0 HS1 Hg Hq0 Hh0 Hh1]
          · isplitl [HS0 HS1]
            · isplitl [HS0]
              · iexact HS0
              unfold owns; iexists _; isplitr
              swap; · iexact HS1
              ipureintro; exact View.read_writes_of_cover _ _ _ _ _ (scover0_A_1 c _ _ _ _ _ _ _ _ _ _ _ _ _ _ _ _ _ _ _ _ _ _ _)
            isplitl [Hg]
            · iexact Hg
            isplitl [Hq0]
            · iexact Hq0
            isplitl [Hh0]; · iexact Hh0
            iexact Hh1
          iexact HT0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_A_4 c _ _ _ _ _ _ _ _ _ _ _ _ _ _ _ _ _ _ _ _ _ _ _)
  · by_cases h1 : t.val % 11 = 10
    · by_cases hz : t.val = 0
      · exfalso; have hN : t.val < 176 := lt_of_lt_of_eq t.isLt (show (cfgM m hO).N = 176 from N_0); omega
      · rw [PhiS_castSucc m hO hT c t, PhiS_pos m hO hT c _ _ hz, PhiT0_eq]
        rw [outsAt0_C m hO hT c t h0 h1]
        simp only [before0_4_C m hO hT c t h0 h1]
        unfold out0_C_4 sout0_C_1; (try dsimp only)
        iintro ⟨⟨⟨⟨HS0, HS1⟩, Hg, Hq0, ⟨Hh0, Hh1⟩⟩, HT0⟩, ⟨%W, -, HW⟩, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk m hO c 0 t) (iblk m hO c 1 t) (iblk m hO c 2 t) (iblk m hO c 3 t) (tbl m 0) _ _ (V m c main_v6) (V m c main_v7)).2.2 W _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HT0]; · iexact HT0
        isplitl [Hq0]; · iexact Hq0
        isplitl [Hh0]; · iexact Hh0
        isplitl [Hh1]; · iexact Hh1
        isplitl [HW]; · iexact HW
        iintro ⟨H0, H1, H2, H3, H4, HS0, HS1, HT0, Hq0, Hh0, Hh1, ⟨%W', HW'⟩⟩
        isplitl [HS0 HS1 Hg Hq0 Hh0 Hh1 HT0]
        · isplitl [HS0 HS1 Hg Hq0 Hh0 Hh1]
          · isplitl [HS0 HS1]
            · isplitl [HS0]; · iexact HS0
              iexact HS1
            isplitl [Hg]
            · iexact Hg
            isplitl [Hq0]
            · iexact Hq0
            isplitl [Hh0]; · iexact Hh0
            iexact Hh1
          iexact HT0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        unfold owns; iexists _; isplitr
        swap; · iexact H4
        ipureintro; exact rfl
    · by_cases hz : t.val = 0
      · exfalso; have hN : t.val < 176 := lt_of_lt_of_eq t.isLt (show (cfgM m hO).N = 176 from N_0); omega
      · rw [PhiS_castSucc m hO hT c t, PhiS_pos m hO hT c _ _ hz, PhiT0_eq]
        rw [outsAt0_B m hO hT c t h0 h1]
        simp only [before0_4_B m hO hT c t h0 h1]
        unfold out0_B_4 sout0_B_1; (try dsimp only)
        iintro ⟨⟨⟨⟨HS0, HS1⟩, Hg, Hq0, ⟨Hh0, Hh1⟩⟩, HT0⟩, ⟨%W, -, HW⟩, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk m hO c 0 t) (iblk m hO c 1 t) (iblk m hO c 2 t) (iblk m hO c 3 t) (tbl m 0) _ _ (V m c main_v6) (V m c main_v7)).2.2 W _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HT0]; · iexact HT0
        isplitl [Hq0]; · iexact Hq0
        isplitl [Hh0]; · iexact Hh0
        isplitl [Hh1]; · iexact Hh1
        isplitl [HW]; · iexact HW
        iintro ⟨H0, H1, H2, H3, H4, HS0, HS1, HT0, Hq0, Hh0, Hh1, ⟨%W', HW'⟩⟩
        isplitl [HS0 HS1 Hg Hq0 Hh0 Hh1 HT0]
        · isplitl [HS0 HS1 Hg Hq0 Hh0 Hh1]
          · isplitl [HS0 HS1]
            · isplitl [HS0]; · iexact HS0
              iexact HS1
            isplitl [Hg]
            · iexact Hg
            isplitl [Hq0]
            · iexact Hq0
            isplitl [Hh0]; · iexact Hh0
            iexact Hh1
          iexact HT0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        unfold owns; iexists _; isplitr
        swap; · iexact H4
        ipureintro; exact rfl

/-- The body table's row at point `t`'s slots is the body as `bodyAt0` spells it. -/
theorem defs₀_row (hO : Ok m) (hT : TokOk m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hT : TokOk m) (c : Dev nD) : BodyObligation (dats (F := F) m hO hT 0 c) (defs₀ (F := F)) Variants.none () Set.univ := fun t => by
  rw [bigSep_W0, bigSep_W0, defs₀_row m hO hT]
  exact triple_restated (sound_body m hO hT c t) rfl .rfl fun _ => .rfl

/-- What the launch hands the region (`ΦD` beside the tables' halves) is the invariant before the first point. -/
theorem hin (hO : Ok m) (hT : TokOk m) (c : Dev nD) : iprop(Pipeline.ΦD osem0 spec0 H0 (V m) c ∗ Pipeline.ΦT pre0 (tbl m) c) ⊢ (dats m hO hT 0 c).Φ 0 := by
  rw [show (dats m hO hT 0 c).Φ 0 = PhiS m hO hT c 0 (Nat.zero_le _) from rfl, PhiS_zero m hO hT c 0 _ rfl]
  try exact Idealize.SL.BI.Entails.refl _

/-- After any point but the first the invariant gives `ΦD` back: the carried scratch's named contents are forgotten; the tables let go. -/
theorem Phi_out (hO : Ok m) (hT : TokOk m) (c : Dev nD) (t : Fin ((cfgM m hO).N + 1)) (ht : t.val ≠ 0) : (dats m hO hT 0 c).Φ t ⊢ Pipeline.ΦD osem0 spec0 H0 (V m) c := by
  rw [show (dats m hO hT 0 c).Φ t = PhiS m hO hT c t.val (Nat.le_of_lt_succ t.isLt) from rfl, PhiS_pos m hO hT c _ _ ht, PhiD0_eq]
  iintro ⟨⟨⟨HS0, HS1⟩, Hg, Hq0, ⟨Hh0, Hh1⟩⟩, -⟩
  isplitl [HS0 HS1]
  · isplitl [HS0]
    · iexact HS0
    iexists _; iexact HS1
  isplitl [Hg]; · iexact Hg
  isplitl [Hq0]
  · iexact Hq0
  isplitl [Hh0]; · iexact Hh0
  iexact Hh1

/-- The same after the last point. -/
theorem hout (hO : Ok m) (hT : TokOk m) (c : Dev nD) : (dats m hO hT 0 c).Φ (Fin.last (cfgM m hO).N) ⊢ Pipeline.ΦD osem0 spec0 H0 (V m) c :=
  Phi_out m hO hT c _ (by rw [Fin.val_last]; have : (cfgM m hO).N = 176 := N_0; omega)

/-! ## The run and the frame -/

-- `θ_run_frameP_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hT : TokOk m) : θ_run defs (onTc (τ := τ) (main (F := F))) (s₀ m ρ) (fun r => (Pipeline.FramePost (Pipeline.pin pcfgs fun _ => adm m hO) (dats m hO hT) 0 (V m)) r ∧ r.2.sem = fun _ => 0) :=
  Pipeline.θ_run_frameP_dma (Q' := _) pcfgs (fun _ => adm m hO) (dats m hO hT) (0 : Fin 1) launch0 osem0 defs₀ Variants.none ownSemFacts0 H0 H0_sub m ρ main
    (hbody := fun c => (body_obligation m hO hT c).loose) (hshare := fun c => (dats m hO hT 0 c).share_full fun _ => rfl)
    (howed := fun _ _ => rfl) (V := V m) (hmain := hmain m Variants.none) (hA := A_eq m hO hT) (hpf := V_pre m)
    (hin := hin m hO hT) (hout := hout m hO hT)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hT : TokOk m) : θ_run defs (onTc (τ := τ) (main (F := F))) (s₀ m ρ) (Pipeline.FramePost (Pipeline.pin pcfgs fun _ => adm m hO) (dats m hO hT) 0 (V m)) :=
  (θ_run defs _ _).mono (fun _ h => h.1) (run_main_quiescent m ρ hO hT)

/-- `frame` without the counters: the argument arrays end unchanged. -/
theorem unchanged (hO : Ok m) (hT : TokOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hO hT) (A_eq m hO hT) (run_main m ρ hO hT)

/-- THE FRAME: `Cert.quiescent_ExpertsIdeal`'s statement (Defs.lean) at any `F` — Proof.lean cites it at `Bits`:
    `theorem Cert.Proof.claim : Cert.Claim := ⟨Cert.ExpertsIdeal.Gen.facts, fun m ρ _ => Cert.ExpertsIdeal.Gen.frame m ρ⟩`; here for every contents of the PREFETCHED TABLES, UNDER `Gen.Ok m` (the pipeline's side condition of
    them), which Proof.lean proves from the precondition: `⟨…, fun m ρ h => Cert.ExpertsIdeal.Gen.frame m ρ (ok_of_pre m h)⟩`. -/
theorem frame (hO : Ok m) (hT : TokOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO hT) ((θ_run defs _ _).mono (fun _ h => h.2) (run_main_quiescent m ρ hO hT))

end Cert.ExpertsIdeal.Gen

end
-- ==== Proof.Tile.lean ====
module

public import proofs.«01_k».proof.Proof.Frame
public import Idealize.ShloMosaic.Lib.Pipeline.ValueKit
public import Idealize.ShloMosaic.Lib.Pointwise

@[expose] public section

set_option maxRecDepth 16384
set_option maxHeartbeats 4000000

noncomputable section

/-! # What one tile adds to an expert's rows

A grid point multiplies the gathered rows by 256 columns of the two first weight matrices, gates one
product by the other, multiplies by the matching 256 rows of the third matrix, and adds the result to the
output block. Here each stored chunk is read at an index. -/

open Idealize.ShloMosaic Idealize.ShloMosaic.TcCoe Idealize.SL.Sem
open Idealize.ShloMosaic.Pipeline (Dat)

namespace Cert.ExpertsIdeal.Value

open Cert.ExpertsIdeal Cert.ExpertsIdeal.Gen

/-- A value times its logistic. -/
def gate (h : EReal) : EReal := h * Ideal.div 1 (1 + Ideal.exp (0 - h))

/-- A hidden unit of a row: column `f` of the tile. -/
def hid (W1 W3 : FVec Ideal S1x1024x256 .f32) (x : Fin 1024 → EReal) (f : Fin 256) : EReal :=
  gate (∑ k : Fin 1024, x k * W1 (ix3 0 k f)) * ∑ k : Fin 1024, x k * W3 (ix3 0 k f)

/-- What the tile adds at a row's column `d`. -/
def tile (W1 W3 : FVec Ideal S1x1024x256 .f32) (W2 : FVec Ideal S1x256x1024 .f32) (x : Fin 1024 → EReal) (d : Fin 1024) : EReal :=
  ∑ f : Fin 256, hid W1 W3 x f * W2 (ix3 0 f d)

variable (v3 v6 : FVec Ideal S1x1024x256 .f32) (v9 : FVec Ideal S1x256x1024 .f32) (x : FVec Ideal S512x1024 .bf16) (y : FVec Ideal S1x512x1024 .f32)
  (r : Fin 512) (d : Fin 1024)

theorem pay45_at : k0_pay45 (F := Ideal) v3 v6 v9 x y (ix3 0 r d) = y (ix3 0 r d) + tile v3 v6 v9 (fun k => x (ix2 r k)) d := by
  pointwise [k0_pay45, k0_pay42, k0_pay43, k0_pay44, tile, hid, gate]

theorem pay46_at : k0_pay46 (F := Ideal) (k0_pay42 v3) (k0_pay43 v6) (k0_pay44 v9) x y (ix3 0 r d)
    = y (ix3 0 r d) + tile v3 v6 v9 (fun k => x (ix2 r k)) d := by
  pointwise [k0_pay46, k0_pay42, k0_pay43, k0_pay44, tile, hid, gate]

theorem pay1_at : k0_pay1 (F := Ideal) (k0_pay44 v9) (k0_pay47 (k0_pay42 v3) (k0_pay43 v6) x) y (ix3 0 r d)
    = y (ix3 0 r d) + tile v3 v6 v9 (fun k => x (ix2 r k)) d := by
  pointwise [k0_pay1, k0_pay47, k0_pay42, k0_pay43, k0_pay44, tile, hid, gate]

theorem pay2_at : k0_pay2 (F := Ideal) (k0_pay42 v3) (k0_pay43 v6) (k0_pay44 v9) x y (ix3 0 r d)
    = y (ix3 0 r d) + tile v3 v6 v9 (fun k => x (ix2 r k)) d := by
  pointwise [k0_pay2, k0_pay42, k0_pay43, k0_pay44, tile, hid, gate]

/-- Sixteen lane numbers are told apart in 32 bits. -/
theorem lane_eq : ∀ l e : Fin 16, IntOp.cmpi CmpIPredicate.eq (BitVec.ofNat 32 l.val) (BitVec.ofNat 32 e.val) = if l = e then 1#1 else 0#1 := by
  decide

/-- The last point's store: each of the first 2048 rows times its weight, found among the sixteen lanes. -/
theorem pay3_at (e : Fin 16) (w : FVec Ideal S2048x16 .f32) (z : FVec Ideal S1x2048x1024 .f32) (r : Fin 2048) :
    k0_pay3 (F := Ideal) (BitVec.ofNat 32 e.val) w z (ix3 0 r d)
      = z (ix3 0 r d) * ∑ l : Fin 16, if l = e then w (ix2 r l) else 0 := by
  pointwise [k0_pay3]
  refine congrArg (z (ix3 0 r d) * ·) (Finset.sum_congr rfl fun l _ => ?_)
  rw [lane_eq l e]
  by_cases h : l = e
  · rw [if_pos h, if_pos h]; rfl
  · rw [if_neg h, if_neg h]; rfl

theorem pay41_at (r : Fin 2112) : k0_pay41 (F := Ideal) (ix3 0 r d) = 0 := by
  pointwise [k0_pay41]

theorem pay4_at (v : FVec Ideal S512x128 .f32) (r : Fin 512) (l : Fin 128) : k0_pay4 (F := Ideal) v (ix2 r l) = v (ix2 r l) := by
  pointwise [k0_pay4]

end Cert.ExpertsIdeal.Value

end
-- ==== Proof.Step.lean ====
module

public import proofs.«01_k».proof.Proof.Tile
public import Idealize.ShloMosaic.Lib.WritesUnit

@[expose] public section

set_option maxRecDepth 16384
set_option maxHeartbeats 400000

noncomputable section

/-! # What each kind of grid point leaves in the output block

Four stores of 512 rows, one after the other, each reading its own rows of the output first. -/

open Idealize.ShloMosaic Idealize.ShloMosaic.TcCoe Idealize.SL.Sem
open Idealize.ShloMosaic.Pipeline (Dat)

namespace Cert.ExpertsIdeal.Value

open Cert.ExpertsIdeal Cert.ExpertsIdeal.Gen

/-- The output block after a tile: its first 2048 rows with the tile added, the padding as it was. -/
def step (W1 W3 : FVec Ideal S1x1024x256 .f32) (W2 : FVec Ideal S1x256x1024 .f32) (o : Fin 2112 → Fin 1024 → EReal)
    (x : FVec Ideal S2048x1024 .bf16) (r : Fin 2112) (d : Fin 1024) : EReal :=
  if h : r.val < 2048 then o r d + tile W1 W3 W2 (fun k => x (ix2 ⟨r.val, h⟩ k)) d else o r d

/-- Four stores of 512 rows, newest first, over whatever was there: under row 2048 the chunks' function,
    below it what was there. -/
theorem four_rows {κ : Kind} {sp : Space} (v : View sig κ sp S1x2112x1024 .f32) (f : v.ty.Contents (Elt Ideal))
    (P0 P1 P2 P3 : S1x512x1024.Idx → EReal) (T : List (View.Piece (Elt Ideal) S1x2112x1024 .f32)) (d : Fin 1024) (g : ℕ → EReal)
    (h0 : ∀ q : Fin 512, P0 (ix3 0 q d) = g q.val) (h1 : ∀ q : Fin 512, P1 (ix3 0 q d) = g (512 + q.val))
    (h2 : ∀ q : Fin 512, P2 (ix3 0 q d) = g (1024 + q.val)) (h3 : ∀ q : Fin 512, P3 (ix3 0 q d) = g (1536 + q.val)) (r : Fin 2112) :
    v.read (Elt Ideal) (v.writes (Elt Ideal) f
      (⟨Rect.unit ![0, 1536, 0] ![1, 512, 1024] inb_S1x2112x1024_S1x512x1024_0_1536_0, P3⟩
        :: ⟨Rect.unit ![0, 1024, 0] ![1, 512, 1024] inb_S1x2112x1024_S1x512x1024_0_1024_0, P2⟩
        :: ⟨Rect.unit ![0, 512, 0] ![1, 512, 1024] inb_S1x2112x1024_S1x512x1024_0_512_0, P1⟩
        :: ⟨Rect.unit ![0, 0, 0] ![1, 512, 1024] inb_S1x2112x1024_S1x512x1024_0_0_0, P0⟩ :: T)) (ix3 0 r d)
      = if r.val < 2048 then g r.val else v.read (Elt Ideal) (v.writes (Elt Ideal) f T) (ix3 0 r d) := by
  by_cases hr : r.val < 2048
  · rw [if_pos hr]
    by_cases a3 : 1536 ≤ r.val
    · rw [View.read_writes_cons_unit_of_mem _ _ _ _ _ _ (ix3 0 ⟨r.val - 1536, by omega⟩ d) rfl (by intro a; fin_cases a <;> simp <;> omega), h3]
      exact congrArg g (by simp; omega)
    rw [View.read_writes_cons_unit_of_not_mem _ _ _ _ _ _ rfl 1 (by left; simp; omega)]
    by_cases a2 : 1024 ≤ r.val
    · rw [View.read_writes_cons_unit_of_mem _ _ _ _ _ _ (ix3 0 ⟨r.val - 1024, by omega⟩ d) rfl (by intro a; fin_cases a <;> simp <;> omega), h2]
      exact congrArg g (by simp; omega)
    rw [View.read_writes_cons_unit_of_not_mem _ _ _ _ _ _ rfl 1 (by left; simp; omega)]
    by_cases a1 : 512 ≤ r.val
    · rw [View.read_writes_cons_unit_of_mem _ _ _ _ _ _ (ix3 0 ⟨r.val - 512, by omega⟩ d) rfl (by intro a; fin_cases a <;> simp <;> omega), h1]
      exact congrArg g (by simp; omega)
    rw [View.read_writes_cons_unit_of_not_mem _ _ _ _ _ _ rfl 1 (by left; simp; omega)]
    rw [View.read_writes_cons_unit_of_mem _ _ _ _ _ _ (ix3 0 ⟨r.val, by omega⟩ d) rfl (by intro a; fin_cases a <;> simp), h0]
  · rw [if_neg hr]
    iterate 4 rw [View.read_writes_cons_unit_of_not_mem _ _ _ _ _ _ rfl 1 (by right; simp; omega)]

/-- A load of 512 rows of the output as the point found it. -/
theorem rows_of (m : Memref sig .tc .vmem S1x2112x1024 .f32) (hm : m.IsWhole) (o : FVec Ideal S1x2112x1024 .f32) (n : ℕ)
    (inb : ∀ a, (![0, n, 0] : Fin 3 → ℕ) a + (![1, 512, 1024] : Fin 3 → ℕ) a ≤ S1x2112x1024.size a) (q : Fin 512) (d : Fin 1024)
    (hq : n + q.val < 2112) :
    View.readAt (Elt Ideal) m.view (Rect.unit (s := S1x2112x1024) ![0, n, 0] ![1, 512, 1024] inb).toLoadRect (hm.unread o) (ix3 0 q d)
      = o (ix3 0 ⟨n + q.val, hq⟩ d) := by
  rw [View.readAt_apply, hm.read_unread]
  exact congrArg o (funext fun a => Fin.ext (by fin_cases a <;> simp))

/-- A load of 512 rows of the cast rows as the point found them. -/
theorem xrows_of (m : Memref sig .tc .vmem S2048x1024 .bf16) (hm : m.IsWhole) (o : FVec Ideal S2048x1024 .bf16) (n : ℕ)
    (inb : ∀ a, (![n, 0] : Fin 2 → ℕ) a + (![512, 1024] : Fin 2 → ℕ) a ≤ S2048x1024.size a) (q : Fin 512) (k : Fin 1024)
    (hq : n + q.val < 2048) :
    View.readAt (Elt Ideal) m.view (Rect.unit (s := S2048x1024) ![n, 0] ![512, 1024] inb).toLoadRect (hm.unread o) (ix2 q k)
      = o (ix2 ⟨n + q.val, hq⟩ k) := by
  rw [View.readAt_apply, hm.read_unread]
  exact congrArg o (funext fun a => Fin.ext (by fin_cases a <;> simp))

/-- A load of a whole buffer is what it holds. -/
theorem whole3 {s : Shape} {φ : EltTy} (m : Memref sig .tc .vmem s φ) (hm : m.IsWhole) (w : Vec Ideal s φ) (off : Fin s.rank → ℕ) (hoff : ∀ a, off a = 0)
    (inb : ∀ a, off a + s.size a ≤ s.size a) :
    View.readAt (Elt Ideal) m.view (Rect.unit (s := s) off s.size inb).toLoadRect (hm.unread w) = w := by
  funext j
  rw [View.readAt_apply, hm.read_unread]
  exact congrArg w (funext fun a => Fin.ext (by simp [hoff]))

/-- The last point's store, its weight read off. -/
theorem pay3_row (e : Fin 16) (w : FVec Ideal S2048x16 .f32) (z : FVec Ideal S1x2048x1024 .f32) (r : Fin 2048) (d : Fin 1024) :
    k0_pay3 (F := Ideal) (BitVec.ofNat 32 e.val) w z (ix3 0 r d) = z (ix3 0 r d) * w (ix2 r e) := by
  rw [pay3_at d e w z r, Finset.sum_ite_eq' Finset.univ e fun l => w (ix2 r l), if_pos (Finset.mem_univ _)]

/-- The four chunks together: the output the point found, with the tile added to its first 2048 rows. -/
theorem chunks {κ : Kind} {sp : Space} (v : View sig κ sp S1x2112x1024 .f32) (f : v.ty.Contents (Elt Ideal))
    (W1 W3 : FVec Ideal S1x1024x256 .f32) (W2 : FVec Ideal S1x256x1024 .f32) (o : Fin 2112 → Fin 1024 → EReal)
    (x : FVec Ideal S2048x1024 .bf16) (X0 X1 X2 X3 : FVec Ideal S512x1024 .bf16) (Y0 Y1 Y2 Y3 : FVec Ideal S1x512x1024 .f32)
    (T : List (View.Piece (Elt Ideal) S1x2112x1024 .f32)) (r : Fin 2112) (d : Fin 1024)
    (hX0 : ∀ (q : Fin 512) (k : Fin 1024), X0 (ix2 q k) = x (ix2 ⟨0 + q.val, by omega⟩ k))
    (hX1 : ∀ (q : Fin 512) (k : Fin 1024), X1 (ix2 q k) = x (ix2 ⟨512 + q.val, by omega⟩ k))
    (hX2 : ∀ (q : Fin 512) (k : Fin 1024), X2 (ix2 q k) = x (ix2 ⟨1024 + q.val, by omega⟩ k))
    (hX3 : ∀ (q : Fin 512) (k : Fin 1024), X3 (ix2 q k) = x (ix2 ⟨1536 + q.val, by omega⟩ k))
    (hY0 : ∀ q : Fin 512, Y0 (ix3 0 q d) = o ⟨0 + q.val, by omega⟩ d)
    (hY1 : ∀ q : Fin 512, Y1 (ix3 0 q d) = o ⟨512 + q.val, by omega⟩ d)
    (hY2 : ∀ q : Fin 512, Y2 (ix3 0 q d) = o ⟨1024 + q.val, by omega⟩ d)
    (hY3 : ∀ q : Fin 512, Y3 (ix3 0 q d) = o ⟨1536 + q.val, by omega⟩ d)
    (hT : 2048 ≤ r.val → v.read (Elt Ideal) (v.writes (Elt Ideal) f T) (ix3 0 r d) = o r d) :
    v.read (Elt Ideal) (v.writes (Elt Ideal) f
      (⟨Rect.unit ![0, 1536, 0] ![1, 512, 1024] inb_S1x2112x1024_S1x512x1024_0_1536_0, k0_pay2 (F := Ideal) (k0_pay42 W1) (k0_pay43 W3) (k0_pay44 W2) X3 Y3⟩
        :: ⟨Rect.unit ![0, 1024, 0] ![1, 512, 1024] inb_S1x2112x1024_S1x512x1024_0_1024_0, k0_pay1 (F := Ideal) (k0_pay44 W2) (k0_pay47 (k0_pay42 W1) (k0_pay43 W3) X2) Y2⟩
        :: ⟨Rect.unit ![0, 512, 0] ![1, 512, 1024] inb_S1x2112x1024_S1x512x1024_0_512_0, k0_pay46 (F := Ideal) (k0_pay42 W1) (k0_pay43 W3) (k0_pay44 W2) X1 Y1⟩
        :: ⟨Rect.unit ![0, 0, 0] ![1, 512, 1024] inb_S1x2112x1024_S1x512x1024_0_0_0, k0_pay45 (F := Ideal) W1 W3 W2 X0 Y0⟩ :: T)) (ix3 0 r d)
      = step W1 W3 W2 o x r d := by
  have key : ∀ (n : ℕ) (hn : n < 2048), (step W1 W3 W2 o x ⟨n, by omega⟩ d)
      = o ⟨n, by omega⟩ d + tile W1 W3 W2 (fun k => x (ix2 ⟨n, hn⟩ k)) d := fun n hn => dif_pos hn
  refine (four_rows v f _ _ _ _ T d (fun n => if hn : n < 2048 then step W1 W3 W2 o x ⟨n, by omega⟩ d else 0) ?_ ?_ ?_ ?_ r).trans ?_
  · intro q
    have e : (⟨q.val, by omega⟩ : Fin 2112) = ⟨0 + q.val, by omega⟩ := Fin.ext (Nat.zero_add _).symm
    have e' : (⟨q.val, by omega⟩ : Fin 2048) = ⟨0 + q.val, by omega⟩ := Fin.ext (Nat.zero_add _).symm
    rw [dif_pos (by omega), key _ (by omega), pay45_at, hY0, e, e']
    simp only [hX0]
  · intro q
    rw [dif_pos (by omega), key _ (by omega), pay46_at, hY1]
    simp only [hX1]
  · intro q
    rw [dif_pos (by omega), key _ (by omega), pay1_at, hY2]
    simp only [hX2]
  · intro q
    rw [dif_pos (by omega), key _ (by omega), pay2_at, hY3]
    simp only [hX3]
  · by_cases hr : r.val < 2048
    · rw [if_pos hr]
      exact dif_pos hr
    · rw [if_neg hr, hT (by omega)]
      unfold step
      rw [dif_neg hr]

/-- A middle point. -/
theorem out_B (c : Dev nD) (i : grid0.Coords) (arg5 : Memref sig .tc .vmem S2048x16 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S1x2112x1024 .f32) (harg9 : arg9.IsWhole) (arg11 : Memref sig .tc .vmem S2048x1024 .bf16) (harg11 : arg11.IsWhole) (hc0 : ¬cond0_0 i) (hc1 : ¬cond0_1 i)
    (x0 : FVec Ideal S2048x16 .f32) (x1 : FVec Ideal S1x1024x256 .f32) (x2 : FVec Ideal S1x1024x256 .f32) (x3 : FVec Ideal S1x256x1024 .f32) (xt0 : TbBuf0 (F := Ideal) c tbM0_0) (xo4 : FVec Ideal S1x2112x1024 .f32) (xs1 : FVec Ideal S2048x1024 .bf16) (fh0 : HbBuf0 (F := Ideal) c hbM0_0) (fh1 : HbBuf0 (F := Ideal) c hbM0_1)
    (r : Fin 2112) (d : Fin 1024) :
    out0_B_4 (F := Ideal) c i arg5 harg5 arg6 harg6 arg7 harg7 arg8 harg8 arg9 harg9 arg11 harg11 hc0 hc1 x0 x1 x2 x3 xt0 xo4 xs1 fh0 fh1 (ix3 0 r d)
      = step x1 x2 x3 (fun r d => xo4 (ix3 0 r d)) xs1 r d := by
  unfold out0_B_4 kernelRun0_B
  dsimp only
  unfold kernelRun0_B.sl.r_3 kernelRun0_B.sl.r_4 kernelRun0_B.sl.r kernelRun0_B.sl.r_1 kernelRun0_B.sl.r_2
  rw [whole3 arg6 harg6 x1 ![0, 0, 0] (by intro a; fin_cases a <;> rfl), whole3 arg7 harg7 x2 ![0, 0, 0] (by intro a; fin_cases a <;> rfl),
    whole3 arg8 harg8 x3 ![0, 0, 0] (by intro a; fin_cases a <;> rfl)]
  refine chunks arg9.view _ x1 x2 x3 (fun r d => xo4 (ix3 0 r d)) xs1 _ _ _ _ _ _ _ _ [] r d
    (fun q k => xrows_of arg11 harg11 xs1 0 _ q k (by omega)) (fun q k => xrows_of arg11 harg11 xs1 512 _ q k (by omega))
    (fun q k => xrows_of arg11 harg11 xs1 1024 _ q k (by omega)) (fun q k => xrows_of arg11 harg11 xs1 1536 _ q k (by omega))
    (fun q => rows_of arg9 harg9 xo4 0 _ q d (by omega)) (fun q => rows_of arg9 harg9 xo4 512 _ q d (by omega))
    (fun q => rows_of arg9 harg9 xo4 1024 _ q d (by omega)) (fun q => rows_of arg9 harg9 xo4 1536 _ q d (by omega)) fun _ => ?_
  exact congrFun (Memref.IsWhole.read_unread (Val := Elt Ideal) harg9 xo4) _

/-- An expert's last point: the middle point's output, its first 2048 rows times their weights. -/
theorem out_C (c : Dev nD) (i : grid0.Coords) (arg5 : Memref sig .tc .vmem S2048x16 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S1x2112x1024 .f32) (harg9 : arg9.IsWhole) (arg11 : Memref sig .tc .vmem S2048x1024 .bf16) (harg11 : arg11.IsWhole) (hc0 : ¬cond0_0 i) (hc1 : cond0_1 i)
    (x0 : FVec Ideal S2048x16 .f32) (x1 : FVec Ideal S1x1024x256 .f32) (x2 : FVec Ideal S1x1024x256 .f32) (x3 : FVec Ideal S1x256x1024 .f32) (xt0 : TbBuf0 (F := Ideal) c tbM0_0) (xo4 : FVec Ideal S1x2112x1024 .f32) (xs1 : FVec Ideal S2048x1024 .bf16) (fh0 : HbBuf0 (F := Ideal) c hbM0_0) (fh1 : HbBuf0 (F := Ideal) c hbM0_1)
    (r : Fin 2112) (d : Fin 1024) :
    out0_C_4 (F := Ideal) c i arg5 harg5 arg6 harg6 arg7 harg7 arg8 harg8 arg9 harg9 arg11 harg11 hc0 hc1 x0 x1 x2 x3 xt0 xo4 xs1 fh0 fh1 (ix3 0 r d)
      = if h : r.val < 2048 then
          step x1 x2 x3 (fun r d => xo4 (ix3 0 r d)) xs1 r d * x0 (ix2 ⟨r.val, h⟩ (i 0))
        else step x1 x2 x3 (fun r d => xo4 (ix3 0 r d)) xs1 r d := by
  have four : ∀ (f : arg9.view.ty.Contents (Elt Ideal)) (r : Fin 2112), (2048 ≤ r.val → arg9.view.read (Elt Ideal) f (ix3 0 r d) = xo4 (ix3 0 r d)) →
      arg9.view.read (Elt Ideal) (arg9.view.writes (Elt Ideal) f
        (kernelRun0_C.sl.H4_4 (F := Ideal) c arg6 harg6 arg7 harg7 arg8 harg8 arg9 harg9 arg11 harg11 x1 x2 x3 xo4 xs1)) (ix3 0 r d)
      = step x1 x2 x3 (fun r d => xo4 (ix3 0 r d)) xs1 r d := by
    intro f r hf
    unfold kernelRun0_C.sl.H4_4
    unfold kernelRun0_C.sl.r_3 kernelRun0_C.sl.r_4 kernelRun0_C.sl.r kernelRun0_C.sl.r_1 kernelRun0_C.sl.r_2
    rw [whole3 arg6 harg6 x1 ![0, 0, 0] (by intro a; fin_cases a <;> rfl), whole3 arg7 harg7 x2 ![0, 0, 0] (by intro a; fin_cases a <;> rfl),
      whole3 arg8 harg8 x3 ![0, 0, 0] (by intro a; fin_cases a <;> rfl)]
    exact chunks arg9.view _ x1 x2 x3 (fun r d => xo4 (ix3 0 r d)) xs1 _ _ _ _ _ _ _ _ [] r d
      (fun q k => xrows_of arg11 harg11 xs1 0 _ q k (by omega)) (fun q k => xrows_of arg11 harg11 xs1 512 _ q k (by omega))
      (fun q k => xrows_of arg11 harg11 xs1 1024 _ q k (by omega)) (fun q k => xrows_of arg11 harg11 xs1 1536 _ q k (by omega))
      (fun q => rows_of arg9 harg9 xo4 0 _ q d (by omega)) (fun q => rows_of arg9 harg9 xo4 512 _ q d (by omega))
      (fun q => rows_of arg9 harg9 xo4 1024 _ q d (by omega)) (fun q => rows_of arg9 harg9 xo4 1536 _ q d (by omega)) hf
  unfold out0_C_4 kernelRun0_C
  dsimp only
  by_cases hr : r.val < 2048
  · rw [dif_pos hr, View.read_writes_cons_unit_of_mem _ _ _ _ _ _ (ix3 0 ⟨r.val, hr⟩ d) rfl (by intro a; fin_cases a <;> simp),
      pay3_row (i 0) _ _ ⟨r.val, hr⟩ d, whole3 arg5 harg5 x0 ![0, 0] (by intro a; fin_cases a <;> rfl)]
    refine congrArg (· * _) ?_
    unfold kernelRun0_C.sl.v104 View.readCov
    rw [View.readAt_apply]
    have hi : (Rect.unit (s := S1x2112x1024) ![0, 0, 0] S1x2048x1024.size inb_S1x2112x1024_S1x2048x1024_0_0_0).toLoadRect.idx (ix3 0 ⟨r.val, hr⟩ d) = ix3 0 r d :=
      funext fun a => Fin.ext (by fin_cases a <;> simp)
    rw [hi]
    exact four _ r fun h => absurd h (by omega)
  · rw [dif_neg hr, View.read_writes_cons_unit_of_not_mem _ _ _ _ _ _ rfl 1 (by right; simp; omega)]
    exact four _ r fun _ => congrFun (Memref.IsWhole.read_unread (Val := Elt Ideal) harg9 xo4) _

end Cert.ExpertsIdeal.Value

end
-- ==== Proof.StepA.lean ====
module

public import proofs.«01_k».proof.Proof.Step
public import Idealize.ShloMosaic.Lib.Pipeline.ReadBack

@[expose] public section

set_option maxRecDepth 16384
set_option maxHeartbeats 400000
set_option pp.maxSteps 300

noncomputable section

/-! # What an expert's first point leaves

It gathers the expert's 2048 rows, casts them, clears the output, and adds the first tile. -/

open Idealize.ShloMosaic Idealize.ShloMosaic.TcCoe Idealize.SL.Sem
open Idealize.ShloMosaic.Pipeline (Dat)

namespace Cert.ExpertsIdeal.Value

open Cert.ExpertsIdeal Cert.ExpertsIdeal.Gen

/-- The gathered rows as the tiles read them: slot `r`, lane `k`. -/
def rowsOf (xt : S2x16x1024.Idx → BitVec 32) (h0 h1 : S65536x128.Idx → EReal) (e : Fin 16) : FVec Ideal S2048x1024 .bf16 :=
  fun y => gath (F := Ideal) xt h0 h1 e (ix2 ⟨8 * (y 0).val + (y 1).val / 128,
    by have h0 : (y 0).val < 2048 := (y 0).isLt; have h1 : (y 1).val < 1024 := (y 1).isLt; omega⟩ ⟨(y 1).val % 128, Nat.mod_lt _ (by decide)⟩)

/-- One of the thirty-two strided loads: the block of `rowsOf` under the rectangle it is stored to. -/
theorem row_piece (xt : S2x16x1024.Idx → BitVec 32) (h0 h1 : S65536x128.Idx → EReal) (e : Fin 16) (a p q : ℕ)
    (inb : ∀ b, S512x128.size b = 0 ∨ (![a, 0] : Fin 2 → ℕ) b + (![8, 1] : Fin 2 → ℕ) b * (S512x128.size b - 1) < S16384x128.size b)
    (inb' : ∀ b, (![p, q] : Fin 2 → ℕ) b + S512x128.size b ≤ S2048x1024.size b) (hq : q % 128 = 0) (ha : a = 8 * p + q / 128)
    (x : S512x128.Idx) :
    View.readAt (Elt Ideal) scM0_0.view { off := ![a, 0], size := S512x128.size, stride := ![8, 1], inb := inb } (gath (F := Ideal) xt h0 h1 e) x
      = rowsOf xt h0 h1 e ((Rect.unit (s := S2048x1024) ![p, q] S512x128.size inb').emb x) := by
  have hx0 : (x 0).val < 512 := (x 0).isLt
  have hx1 : (x 1).val < 128 := (x 1).isLt
  rw [View.readAt_apply]
  refine congrArg (gath (F := Ideal) xt h0 h1 e) (funext fun b => Fin.ext ?_)
  fin_cases b
  · show a + 8 * (x 0).val = 8 * (p + 1 * (x 0).val) + (q + 1 * (x 1).val) / 128
    omega
  · show 0 + 1 * (x 1).val = (q + 1 * (x 1).val) % 128
    omega

/-! Casting a row to bf16 changes nothing in the ideal. -/

theorem p4 (v : FVec Ideal S512x128 .f32) : k0_pay4 (F := Ideal) v = v := shapeCast_self v _
theorem p5 (v : FVec Ideal S512x128 .f32) : k0_pay5 (F := Ideal) v = v := shapeCast_self v _
theorem p6 (v : FVec Ideal S512x128 .f32) : k0_pay6 (F := Ideal) v = v := shapeCast_self v _
theorem p7 (v : FVec Ideal S512x128 .f32) : k0_pay7 (F := Ideal) v = v := shapeCast_self v _
theorem p9 (v : FVec Ideal S512x128 .f32) : k0_pay9 (F := Ideal) (k0_pay8 v) = v := shapeCast_self v _
theorem p10 (v : FVec Ideal S512x128 .f32) : k0_pay10 (F := Ideal) v = v := shapeCast_self v _
theorem p11 (v : FVec Ideal S512x128 .f32) : k0_pay11 (F := Ideal) v = v := shapeCast_self v _
theorem p12 (v : FVec Ideal S512x128 .f32) : k0_pay12 (F := Ideal) v = v := shapeCast_self v _
theorem p13 (v : FVec Ideal S512x128 .f32) : k0_pay13 (F := Ideal) v = v := shapeCast_self v _
theorem p14 (v : FVec Ideal S512x128 .f32) : k0_pay14 (F := Ideal) v = v := shapeCast_self v _
theorem p16 (v : FVec Ideal S512x128 .f32) : k0_pay16 (F := Ideal) (k0_pay15 v) = v := shapeCast_self v _
theorem p17 (v : FVec Ideal S512x128 .f32) : k0_pay17 (F := Ideal) v = v := shapeCast_self v _
theorem p18 (v : FVec Ideal S512x128 .f32) : k0_pay18 (F := Ideal) v = v := shapeCast_self v _
theorem p19 (v : FVec Ideal S512x128 .f32) : k0_pay19 (F := Ideal) v = v := shapeCast_self v _
theorem p20 (v : FVec Ideal S512x128 .f32) : k0_pay20 (F := Ideal) v = v := shapeCast_self v _
theorem p21 (v : FVec Ideal S512x128 .f32) : k0_pay21 (F := Ideal) v = v := shapeCast_self v _
theorem p23 (v : FVec Ideal S512x128 .f32) : k0_pay23 (F := Ideal) (k0_pay22 v) = v := shapeCast_self v _
theorem p24 (v : FVec Ideal S512x128 .f32) : k0_pay24 (F := Ideal) v = v := shapeCast_self v _
theorem p25 (v : FVec Ideal S512x128 .f32) : k0_pay25 (F := Ideal) v = v := shapeCast_self v _
theorem p26 (v : FVec Ideal S512x128 .f32) : k0_pay26 (F := Ideal) v = v := shapeCast_self v _
theorem p27 (v : FVec Ideal S512x128 .f32) : k0_pay27 (F := Ideal) v = v := shapeCast_self v _
theorem p28 (v : FVec Ideal S512x128 .f32) : k0_pay28 (F := Ideal) v = v := shapeCast_self v _
theorem p30 (v : FVec Ideal S512x128 .f32) : k0_pay30 (F := Ideal) (k0_pay29 v) = v := shapeCast_self v _
theorem p31 (v : FVec Ideal S512x128 .f32) : k0_pay31 (F := Ideal) v = v := shapeCast_self v _
theorem p32 (v : FVec Ideal S512x128 .f32) : k0_pay32 (F := Ideal) v = v := shapeCast_self v _
theorem p33 (v : FVec Ideal S512x128 .f32) : k0_pay33 (F := Ideal) v = v := shapeCast_self v _
theorem p34 (v : FVec Ideal S512x128 .f32) : k0_pay34 (F := Ideal) v = v := shapeCast_self v _
theorem p35 (v : FVec Ideal S512x128 .f32) : k0_pay35 (F := Ideal) v = v := shapeCast_self v _
theorem p37 (v : FVec Ideal S512x128 .f32) : k0_pay37 (F := Ideal) (k0_pay36 v) = v := shapeCast_self v _
theorem p38 (v : FVec Ideal S512x128 .f32) : k0_pay38 (F := Ideal) v = v := shapeCast_self v _
theorem p39 (v : FVec Ideal S512x128 .f32) : k0_pay39 (F := Ideal) v = v := shapeCast_self v _
theorem p40 (v : FVec Ideal S512x128 .f32) : k0_pay40 (F := Ideal) v = v := shapeCast_self v _

/-- The thirty-two stores leave the gathered rows. -/
theorem canon_rows (c : Dev nD) (i : grid0.Coords) (xt0 : TbBuf0 (F := Ideal) c tbM0_0) (fh0 : HbBuf0 (F := Ideal) c hbM0_0) (fh1 : HbBuf0 (F := Ideal) c hbM0_1) :
    View.canon (kernelRun0_A.sl.HS1_32 (F := Ideal) c i xt0 fh0 fh1) = rowsOf xt0 fh0 fh1 (i 0) := by
  funext y
  refine (congrFun (congrArg View.canon (List.append_nil _).symm) y).trans
    (View.canon_append_of_piecesOf _ [] (kernelRun0_A.sl.HS1_32 (F := Ideal) c i xt0 fh0 fh1) ?_ y
      (View.cover_of_tiledL (s := S2048x1024) (kernelRun0_A.sl.HS1_32 (F := Ideal) c i xt0 fh0 fh1) S512x128.size (by sl_kernel_rfl) y))
  unfold kernelRun0_A.sl.HS1_32 kernelRun0_A.sl.r kernelRun0_A.sl.r_1 kernelRun0_A.sl.r_2 kernelRun0_A.sl.r_3 kernelRun0_A.sl.r_4
  refine ⟨fun x => (congrFun (p40 _) x).trans (row_piece xt0 fh0 fh1 (i 0) 12295 1536 896 _ inb_S2048x1024_S512x128_1536_896 (by decide) (by decide) x), ?_⟩
  refine ⟨fun x => (congrFun (p39 _) x).trans (row_piece xt0 fh0 fh1 (i 0) 12294 1536 768 _ inb_S2048x1024_S512x128_1536_768 (by decide) (by decide) x), ?_⟩
  refine ⟨fun x => (congrFun (p38 _) x).trans (row_piece xt0 fh0 fh1 (i 0) 12293 1536 640 _ inb_S2048x1024_S512x128_1536_640 (by decide) (by decide) x), ?_⟩
  refine ⟨fun x => (congrFun (p37 _) x).trans (row_piece xt0 fh0 fh1 (i 0) 12292 1536 512 _ inb_S2048x1024_S512x128_1536_512 (by decide) (by decide) x), ?_⟩
  refine ⟨fun x => (congrFun (p35 _) x).trans (row_piece xt0 fh0 fh1 (i 0) 12291 1536 384 _ inb_S2048x1024_S512x128_1536_384 (by decide) (by decide) x), ?_⟩
  refine ⟨fun x => (congrFun (p34 _) x).trans (row_piece xt0 fh0 fh1 (i 0) 12290 1536 256 _ inb_S2048x1024_S512x128_1536_256 (by decide) (by decide) x), ?_⟩
  refine ⟨fun x => (congrFun (p33 _) x).trans (row_piece xt0 fh0 fh1 (i 0) 12289 1536 128 _ inb_S2048x1024_S512x128_1536_128 (by decide) (by decide) x), ?_⟩
  refine ⟨fun x => (congrFun (p32 _) x).trans (row_piece xt0 fh0 fh1 (i 0) 12288 1536 0 _ inb_S2048x1024_S512x128_1536_0 (by decide) (by decide) x), ?_⟩
  refine ⟨fun x => (congrFun (p31 _) x).trans (row_piece xt0 fh0 fh1 (i 0) 8199 1024 896 _ inb_S2048x1024_S512x128_1024_896 (by decide) (by decide) x), ?_⟩
  refine ⟨fun x => (congrFun (p30 _) x).trans (row_piece xt0 fh0 fh1 (i 0) 8198 1024 768 _ inb_S2048x1024_S512x128_1024_768 (by decide) (by decide) x), ?_⟩
  refine ⟨fun x => (congrFun (p28 _) x).trans (row_piece xt0 fh0 fh1 (i 0) 8197 1024 640 _ inb_S2048x1024_S512x128_1024_640 (by decide) (by decide) x), ?_⟩
  refine ⟨fun x => (congrFun (p27 _) x).trans (row_piece xt0 fh0 fh1 (i 0) 8196 1024 512 _ inb_S2048x1024_S512x128_1024_512 (by decide) (by decide) x), ?_⟩
  refine ⟨fun x => (congrFun (p26 _) x).trans (row_piece xt0 fh0 fh1 (i 0) 8195 1024 384 _ inb_S2048x1024_S512x128_1024_384 (by decide) (by decide) x), ?_⟩
  refine ⟨fun x => (congrFun (p25 _) x).trans (row_piece xt0 fh0 fh1 (i 0) 8194 1024 256 _ inb_S2048x1024_S512x128_1024_256 (by decide) (by decide) x), ?_⟩
  refine ⟨fun x => (congrFun (p24 _) x).trans (row_piece xt0 fh0 fh1 (i 0) 8193 1024 128 _ inb_S2048x1024_S512x128_1024_128 (by decide) (by decide) x), ?_⟩
  refine ⟨fun x => (congrFun (p23 _) x).trans (row_piece xt0 fh0 fh1 (i 0) 8192 1024 0 _ inb_S2048x1024_S512x128_1024_0 (by decide) (by decide) x), ?_⟩
  refine ⟨fun x => (congrFun (p21 _) x).trans (row_piece xt0 fh0 fh1 (i 0) 4103 512 896 _ inb_S2048x1024_S512x128_512_896 (by decide) (by decide) x), ?_⟩
  refine ⟨fun x => (congrFun (p20 _) x).trans (row_piece xt0 fh0 fh1 (i 0) 4102 512 768 _ inb_S2048x1024_S512x128_512_768 (by decide) (by decide) x), ?_⟩
  refine ⟨fun x => (congrFun (p19 _) x).trans (row_piece xt0 fh0 fh1 (i 0) 4101 512 640 _ inb_S2048x1024_S512x128_512_640 (by decide) (by decide) x), ?_⟩
  refine ⟨fun x => (congrFun (p18 _) x).trans (row_piece xt0 fh0 fh1 (i 0) 4100 512 512 _ inb_S2048x1024_S512x128_512_512 (by decide) (by decide) x), ?_⟩
  refine ⟨fun x => (congrFun (p17 _) x).trans (row_piece xt0 fh0 fh1 (i 0) 4099 512 384 _ inb_S2048x1024_S512x128_512_384 (by decide) (by decide) x), ?_⟩
  refine ⟨fun x => (congrFun (p16 _) x).trans (row_piece xt0 fh0 fh1 (i 0) 4098 512 256 _ inb_S2048x1024_S512x128_512_256 (by decide) (by decide) x), ?_⟩
  refine ⟨fun x => (congrFun (p14 _) x).trans (row_piece xt0 fh0 fh1 (i 0) 4097 512 128 _ inb_S2048x1024_S512x128_512_128 (by decide) (by decide) x), ?_⟩
  refine ⟨fun x => (congrFun (p13 _) x).trans (row_piece xt0 fh0 fh1 (i 0) 4096 512 0 _ inb_S2048x1024_S512x128_512_0 (by decide) (by decide) x), ?_⟩
  refine ⟨fun x => (congrFun (p12 _) x).trans (row_piece xt0 fh0 fh1 (i 0) 7 0 896 _ inb_S2048x1024_S512x128_0_896 (by decide) (by decide) x), ?_⟩
  refine ⟨fun x => (congrFun (p11 _) x).trans (row_piece xt0 fh0 fh1 (i 0) 6 0 768 _ inb_S2048x1024_S512x128_0_768 (by decide) (by decide) x), ?_⟩
  refine ⟨fun x => (congrFun (p10 _) x).trans (row_piece xt0 fh0 fh1 (i 0) 5 0 640 _ inb_S2048x1024_S512x128_0_640 (by decide) (by decide) x), ?_⟩
  refine ⟨fun x => (congrFun (p9 _) x).trans (row_piece xt0 fh0 fh1 (i 0) 4 0 512 _ inb_S2048x1024_S512x128_0_512 (by decide) (by decide) x), ?_⟩
  refine ⟨fun x => (congrFun (p7 _) x).trans (row_piece xt0 fh0 fh1 (i 0) 3 0 384 _ inb_S2048x1024_S512x128_0_384 (by decide) (by decide) x), ?_⟩
  refine ⟨fun x => (congrFun (p6 _) x).trans (row_piece xt0 fh0 fh1 (i 0) 2 0 256 _ inb_S2048x1024_S512x128_0_256 (by decide) (by decide) x), ?_⟩
  refine ⟨fun x => (congrFun (p5 _) x).trans (row_piece xt0 fh0 fh1 (i 0) 1 0 128 _ inb_S2048x1024_S512x128_0_128 (by decide) (by decide) x), ?_⟩
  refine ⟨fun x => (congrFun (p4 _) x).trans (row_piece xt0 fh0 fh1 (i 0) 0 0 0 _ inb_S2048x1024_S512x128_0_0 (by decide) (by decide) x), ?_⟩
  exact trivial

/-- The first point's scratch: the gathered rows. -/
theorem sout_A (c : Dev nD) (i : grid0.Coords) (arg5 : Memref sig .tc .vmem S2048x16 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S1x2112x1024 .f32) (harg9 : arg9.IsWhole) (arg11 : Memref sig .tc .vmem S2048x1024 .bf16) (harg11 : arg11.IsWhole) (hc0 : cond0_0 i) (hc1 : ¬cond0_1 i)
    (x0 : FVec Ideal S2048x16 .f32) (x1 : FVec Ideal S1x1024x256 .f32) (x2 : FVec Ideal S1x1024x256 .f32) (x3 : FVec Ideal S1x256x1024 .f32) (xt0 : TbBuf0 (F := Ideal) c tbM0_0) (hT : ∀ b k, tok xt0 b (i 0) k < 8192) (fh0 : HbBuf0 (F := Ideal) c hbM0_0) (fh1 : HbBuf0 (F := Ideal) c hbM0_1) :
    sout0_A_1 (F := Ideal) c i arg5 harg5 arg6 harg6 arg7 harg7 arg8 harg8 arg9 harg9 arg11 harg11 hc0 hc1 x0 x1 x2 x3 xt0 hT fh0 fh1 = rowsOf xt0 fh0 fh1 (i 0) := by
  unfold sout0_A_1
  rw [View.read_writes_junk_eq_canon]
  exact canon_rows c i xt0 fh0 fh1

end Cert.ExpertsIdeal.Value

end
-- ==== Proof.StepO.lean ====
module

public import proofs.«01_k».proof.Proof.StepA
public import Idealize.ShloMosaic.Lib.Pipeline.ReadBack

@[expose] public section

set_option maxRecDepth 16384
set_option maxHeartbeats 400000
set_option pp.maxSteps 300

noncomputable section

/-! # What an expert's first point leaves

The output: the padding cleared, the first tile on the first 2048 rows. -/

open Idealize.ShloMosaic Idealize.ShloMosaic.TcCoe Idealize.SL.Sem
open Idealize.ShloMosaic.Pipeline (Dat)

namespace Cert.ExpertsIdeal.Value

open Cert.ExpertsIdeal Cert.ExpertsIdeal.Gen

/-- The cleared output is zero everywhere. -/
theorem clear_at {κ : Kind} {sp : Space} (v : View sig κ sp S1x2112x1024 .f32) (f : v.ty.Contents (Elt Ideal)) (r : Fin 2112) (d : Fin 1024) :
    v.read (Elt Ideal) (v.writes (Elt Ideal) f [⟨Rect.unit ![0, 0, 0] S1x2112x1024.size inb_S1x2112x1024_S1x2112x1024_0_0_0, k0_pay41 (F := Ideal)⟩]) (ix3 0 r d) = 0 := by
  rw [View.read_writes_cons_unit_of_mem _ _ _ _ _ _ (ix3 0 r d) rfl (by intro a; fin_cases a <;> simp), pay41_at]

theorem v12_rows (c : Dev nD) (i : grid0.Coords) (arg11 : Memref sig .tc .vmem S2048x1024 .bf16) (xt0 : TbBuf0 (F := Ideal) c tbM0_0) (fh0 : HbBuf0 (F := Ideal) c hbM0_0) (fh1 : HbBuf0 (F := Ideal) c hbM0_1) (q : Fin 512) (k : Fin 1024) :
    kernelRun0_A.sl.v12 (F := Ideal) c i arg11 xt0 fh0 fh1 (ix2 q k) = rowsOf xt0 fh0 fh1 (i 0) (ix2 ⟨0 + q.val, by omega⟩ k) := by
  unfold kernelRun0_A.sl.v12
  rw [View.readCov_eq_canon', canon_rows]
  exact congrArg (rowsOf xt0 fh0 fh1 (i 0)) (funext fun a => Fin.ext (by fin_cases a <;> simp))

theorem v32_rows (c : Dev nD) (i : grid0.Coords) (arg11 : Memref sig .tc .vmem S2048x1024 .bf16) (xt0 : TbBuf0 (F := Ideal) c tbM0_0) (fh0 : HbBuf0 (F := Ideal) c hbM0_0) (fh1 : HbBuf0 (F := Ideal) c hbM0_1) (q : Fin 512) (k : Fin 1024) :
    kernelRun0_A.sl.v32 (F := Ideal) c i arg11 xt0 fh0 fh1 (ix2 q k) = rowsOf xt0 fh0 fh1 (i 0) (ix2 ⟨512 + q.val, by omega⟩ k) := by
  unfold kernelRun0_A.sl.v32
  rw [View.readCov_eq_canon', canon_rows]
  exact congrArg (rowsOf xt0 fh0 fh1 (i 0)) (funext fun a => Fin.ext (by fin_cases a <;> simp))

theorem v52_rows (c : Dev nD) (i : grid0.Coords) (arg11 : Memref sig .tc .vmem S2048x1024 .bf16) (xt0 : TbBuf0 (F := Ideal) c tbM0_0) (fh0 : HbBuf0 (F := Ideal) c hbM0_0) (fh1 : HbBuf0 (F := Ideal) c hbM0_1) (q : Fin 512) (k : Fin 1024) :
    kernelRun0_A.sl.v52 (F := Ideal) c i arg11 xt0 fh0 fh1 (ix2 q k) = rowsOf xt0 fh0 fh1 (i 0) (ix2 ⟨1024 + q.val, by omega⟩ k) := by
  unfold kernelRun0_A.sl.v52
  rw [View.readCov_eq_canon', canon_rows]
  exact congrArg (rowsOf xt0 fh0 fh1 (i 0)) (funext fun a => Fin.ext (by fin_cases a <;> simp))

theorem v72_rows (c : Dev nD) (i : grid0.Coords) (arg11 : Memref sig .tc .vmem S2048x1024 .bf16) (xt0 : TbBuf0 (F := Ideal) c tbM0_0) (fh0 : HbBuf0 (F := Ideal) c hbM0_0) (fh1 : HbBuf0 (F := Ideal) c hbM0_1) (q : Fin 512) (k : Fin 1024) :
    kernelRun0_A.sl.v72 (F := Ideal) c i arg11 xt0 fh0 fh1 (ix2 q k) = rowsOf xt0 fh0 fh1 (i 0) (ix2 ⟨1536 + q.val, by omega⟩ k) := by
  unfold kernelRun0_A.sl.v72
  rw [View.readCov_eq_canon', canon_rows]
  exact congrArg (rowsOf xt0 fh0 fh1 (i 0)) (funext fun a => Fin.ext (by fin_cases a <;> simp))

theorem v25_zero (c : Dev nD) (i : grid0.Coords) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S1x2112x1024 .f32) (arg11 : Memref sig .tc .vmem S2048x1024 .bf16)
    (x1 : FVec Ideal S1x1024x256 .f32) (x2 : FVec Ideal S1x1024x256 .f32) (x3 : FVec Ideal S1x256x1024 .f32) (xt0 : TbBuf0 (F := Ideal) c tbM0_0) (fh0 : HbBuf0 (F := Ideal) c hbM0_0) (fh1 : HbBuf0 (F := Ideal) c hbM0_1) (q : Fin 512) (d : Fin 1024) :
    kernelRun0_A.sl.v25 (F := Ideal) c arg9 (ix3 0 q d) = 0 := by
  unfold kernelRun0_A.sl.v25 View.readCov
  rw [View.readAt_apply]
  have hi : (Rect.unit (s := S1x2112x1024) ![0, 0, 0] S1x512x1024.size inb_S1x2112x1024_S1x512x1024_0_0_0).toLoadRect.idx (ix3 0 q d) = ix3 0 ⟨0 + q.val, by omega⟩ d :=
    funext fun a => Fin.ext (by fin_cases a <;> simp)
  rw [hi]
  unfold kernelRun0_A.sl.H4_1
  exact clear_at _ _ _ _

theorem v45_zero (c : Dev nD) (i : grid0.Coords) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S1x2112x1024 .f32) (arg11 : Memref sig .tc .vmem S2048x1024 .bf16)
    (x1 : FVec Ideal S1x1024x256 .f32) (x2 : FVec Ideal S1x1024x256 .f32) (x3 : FVec Ideal S1x256x1024 .f32) (xt0 : TbBuf0 (F := Ideal) c tbM0_0) (fh0 : HbBuf0 (F := Ideal) c hbM0_0) (fh1 : HbBuf0 (F := Ideal) c hbM0_1) (q : Fin 512) (d : Fin 1024) :
    kernelRun0_A.sl.v45 (F := Ideal) c i arg6 harg6 arg7 harg7 arg8 harg8 arg9 arg11 x1 x2 x3 xt0 fh0 fh1 (ix3 0 q d) = 0 := by
  unfold kernelRun0_A.sl.v45 View.readCov
  rw [View.readAt_apply]
  have hi : (Rect.unit (s := S1x2112x1024) ![0, 512, 0] S1x512x1024.size inb_S1x2112x1024_S1x512x1024_0_512_0).toLoadRect.idx (ix3 0 q d) = ix3 0 ⟨512 + q.val, by omega⟩ d :=
    funext fun a => Fin.ext (by fin_cases a <;> simp)
  rw [hi]
  unfold kernelRun0_A.sl.H4_2 kernelRun0_A.sl.H4_1
  iterate 1 rw [View.read_writes_cons_unit_of_not_mem _ _ _ _ _ _ rfl 1 (by right; simp; try omega)]
  exact clear_at _ _ _ _

theorem v65_zero (c : Dev nD) (i : grid0.Coords) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S1x2112x1024 .f32) (arg11 : Memref sig .tc .vmem S2048x1024 .bf16)
    (x1 : FVec Ideal S1x1024x256 .f32) (x2 : FVec Ideal S1x1024x256 .f32) (x3 : FVec Ideal S1x256x1024 .f32) (xt0 : TbBuf0 (F := Ideal) c tbM0_0) (fh0 : HbBuf0 (F := Ideal) c hbM0_0) (fh1 : HbBuf0 (F := Ideal) c hbM0_1) (q : Fin 512) (d : Fin 1024) :
    kernelRun0_A.sl.v65 (F := Ideal) c i arg6 harg6 arg7 harg7 arg8 harg8 arg9 arg11 x1 x2 x3 xt0 fh0 fh1 (ix3 0 q d) = 0 := by
  unfold kernelRun0_A.sl.v65 View.readCov
  rw [View.readAt_apply]
  have hi : (Rect.unit (s := S1x2112x1024) ![0, 1024, 0] S1x512x1024.size inb_S1x2112x1024_S1x512x1024_0_1024_0).toLoadRect.idx (ix3 0 q d) = ix3 0 ⟨1024 + q.val, by omega⟩ d :=
    funext fun a => Fin.ext (by fin_cases a <;> simp)
  rw [hi]
  unfold kernelRun0_A.sl.H4_3 kernelRun0_A.sl.H4_2 kernelRun0_A.sl.H4_1
  iterate 2 rw [View.read_writes_cons_unit_of_not_mem _ _ _ _ _ _ rfl 1 (by right; simp; try omega)]
  exact clear_at _ _ _ _

theorem v85_zero (c : Dev nD) (i : grid0.Coords) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S1x2112x1024 .f32) (arg11 : Memref sig .tc .vmem S2048x1024 .bf16)
    (x1 : FVec Ideal S1x1024x256 .f32) (x2 : FVec Ideal S1x1024x256 .f32) (x3 : FVec Ideal S1x256x1024 .f32) (xt0 : TbBuf0 (F := Ideal) c tbM0_0) (fh0 : HbBuf0 (F := Ideal) c hbM0_0) (fh1 : HbBuf0 (F := Ideal) c hbM0_1) (q : Fin 512) (d : Fin 1024) :
    kernelRun0_A.sl.v85 (F := Ideal) c i arg6 harg6 arg7 harg7 arg8 harg8 arg9 arg11 x1 x2 x3 xt0 fh0 fh1 (ix3 0 q d) = 0 := by
  unfold kernelRun0_A.sl.v85 View.readCov
  rw [View.readAt_apply]
  have hi : (Rect.unit (s := S1x2112x1024) ![0, 1536, 0] S1x512x1024.size inb_S1x2112x1024_S1x512x1024_0_1536_0).toLoadRect.idx (ix3 0 q d) = ix3 0 ⟨1536 + q.val, by omega⟩ d :=
    funext fun a => Fin.ext (by fin_cases a <;> simp)
  rw [hi]
  unfold kernelRun0_A.sl.H4_4 kernelRun0_A.sl.H4_3 kernelRun0_A.sl.H4_2 kernelRun0_A.sl.H4_1
  iterate 3 rw [View.read_writes_cons_unit_of_not_mem _ _ _ _ _ _ rfl 1 (by right; simp; try omega)]
  exact clear_at _ _ _ _

/-- An expert's first point. -/
theorem out_A (c : Dev nD) (i : grid0.Coords) (arg5 : Memref sig .tc .vmem S2048x16 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x256x1024 .f32) (harg8 : arg8.IsWhole) (arg9 : Memref sig .tc .vmem S1x2112x1024 .f32) (harg9 : arg9.IsWhole) (arg11 : Memref sig .tc .vmem S2048x1024 .bf16) (harg11 : arg11.IsWhole) (hc0 : cond0_0 i) (hc1 : ¬cond0_1 i)
    (x0 : FVec Ideal S2048x16 .f32) (x1 : FVec Ideal S1x1024x256 .f32) (x2 : FVec Ideal S1x1024x256 .f32) (x3 : FVec Ideal S1x256x1024 .f32) (xt0 : TbBuf0 (F := Ideal) c tbM0_0) (hT : ∀ b k, tok xt0 b (i 0) k < 8192) (fh0 : HbBuf0 (F := Ideal) c hbM0_0) (fh1 : HbBuf0 (F := Ideal) c hbM0_1) (r : Fin 2112) (d : Fin 1024) :
    out0_A_4 (F := Ideal) c i arg5 harg5 arg6 harg6 arg7 harg7 arg8 harg8 arg9 harg9 arg11 harg11 hc0 hc1 x0 x1 x2 x3 xt0 hT fh0 fh1 (ix3 0 r d)
      = step x1 x2 x3 (fun _ _ => 0) (rowsOf xt0 fh0 fh1 (i 0)) r d := by
  unfold out0_A_4 kernelRun0_A
  dsimp only
  unfold kernelRun0_A.sl.H4_4 kernelRun0_A.sl.H4_3 kernelRun0_A.sl.H4_2 kernelRun0_A.sl.H4_1 kernelRun0_A.sl.r_8 kernelRun0_A.sl.r_9
    kernelRun0_A.sl.r_5 kernelRun0_A.sl.r_6 kernelRun0_A.sl.r_7
  rw [whole3 arg6 harg6 x1 ![0, 0, 0] (by intro a; fin_cases a <;> rfl), whole3 arg7 harg7 x2 ![0, 0, 0] (by intro a; fin_cases a <;> rfl),
    whole3 arg8 harg8 x3 ![0, 0, 0] (by intro a; fin_cases a <;> rfl)]
  exact chunks VO0_4 _ x1 x2 x3 (fun _ _ => 0) (rowsOf xt0 fh0 fh1 (i 0)) _ _ _ _ _ _ _ _ _ r d
    (fun q k => v12_rows c i arg11 xt0 fh0 fh1 q k) (fun q k => v32_rows c i arg11 xt0 fh0 fh1 q k)
    (fun q k => v52_rows c i arg11 xt0 fh0 fh1 q k) (fun q k => v72_rows c i arg11 xt0 fh0 fh1 q k)
    (fun q => v25_zero c i arg6 harg6 arg7 harg7 arg8 harg8 arg9 arg11 x1 x2 x3 xt0 fh0 fh1 q d) (fun q => v45_zero c i arg6 harg6 arg7 harg7 arg8 harg8 arg9 arg11 x1 x2 x3 xt0 fh0 fh1 q d)
    (fun q => v65_zero c i arg6 harg6 arg7 harg7 arg8 harg8 arg9 arg11 x1 x2 x3 xt0 fh0 fh1 q d) (fun q => v85_zero c i arg6 harg6 arg7 harg7 arg8 harg8 arg9 arg11 x1 x2 x3 xt0 fh0 fh1 q d) fun _ => clear_at _ _ _ _

end Cert.ExpertsIdeal.Value

end
-- ==== Proof.Array.lean ====
module

public import proofs.«01_k».proof.Proof.StepO
public import Idealize.ShloMosaic.Lib.Pipeline.ValueKit

@[expose] public section

set_option maxRecDepth 16384
set_option maxHeartbeats 400000

noncomputable section

/-! # The output array after the call

An expert's points add their tiles one after the other; after the last the sum runs over all 2816 hidden
units, and each row is multiplied by its weight. The padding stays zero. -/

open Idealize.ShloMosaic Idealize.ShloMosaic.TcCoe Idealize.SL.Sem
open Idealize.ShloMosaic.Pipeline (Dat)

namespace Cert.ExpertsIdeal.Value

open Cert.ExpertsIdeal Cert.ExpertsIdeal.Gen

variable (m : (ℓ : Loc nD τ sig) → Buf (Elt Ideal) ℓ)

/-- The three weight arrays, the affinities, the two row arrays and the table, as the call finds them. -/
abbrev w1 (c : Dev nD) : S16x1024x2816.Idx → EReal := V m c main_v8
abbrev w3 (c : Dev nD) : S16x1024x2816.Idx → EReal := V m c main_v9
abbrev w2 (c : Dev nD) : S16x2816x1024.Idx → EReal := V m c main_v10
abbrev aff (c : Dev nD) : S2048x16.Idx → EReal := V m c main_v5
abbrev rows (c : Dev nD) (e : Fin 16) : FVec Ideal S2048x1024 .bf16 := rowsOf (tbl m 0) (V m c main_v6) (V m c main_v7) e

/-- Hidden unit `n` of expert `e` for the row `x`, times its row of the second weight. -/
def unit (c : Dev nD) (e : Fin 16) (x : Fin 1024 → EReal) (n : ℕ) (d : Fin 1024) : EReal :=
  if h : n < 2816 then
    gate (∑ k : Fin 1024, x k * w1 m c (ix3 e k ⟨n, h⟩)) * (∑ k : Fin 1024, x k * w3 m c (ix3 e k ⟨n, h⟩)) * w2 m c (ix3 e ⟨n, h⟩ d)
  else 0

theorem idx0 : ∀ t : Fin grid0.N, cc0_transform_2 (grid0.coords t) = ![0, 0] := by decide +kernel
theorem idx1 : ∀ t : Fin grid0.N, cc0_transform_3 (grid0.coords t) = ![t.val / 11, 0, t.val % 11] := by decide +kernel
theorem idx2 : ∀ t : Fin grid0.N, cc0_transform_4 (grid0.coords t) = ![t.val / 11, 0, t.val % 11] := by decide +kernel
theorem idx3 : ∀ t : Fin grid0.N, cc0_transform_5 (grid0.coords t) = ![t.val / 11, t.val % 11, 0] := by decide +kernel
theorem idx4 : ∀ t : Fin grid0.N, cc0_transform_6 (grid0.coords t) = ![t.val / 11, 0, 0] := by decide +kernel
theorem expert : ∀ t : Fin grid0.N, (grid0.coords t 0).val = t.val / 11 := by decide +kernel
theorem bound (t : Fin grid0.N) : t.val < 176 := t.isLt

variable (hO : Ok m) (hT : TokOk m)

theorem blk0 (c : Dev nD) (t : Fin grid0.N) (r : Fin 2048) (l : Fin 16) :
    (iblk m hO c 0 t : S2048x16.Idx → EReal) (ix2 r l) = aff m c (ix2 r l) := by
  refine congrArg (aff m c) (funext fun a => Fin.ext ?_)
  have h := idx0 t
  fin_cases a
  · show cc0_transform_2 (grid0.coords t) 0 * 2048 + 1 * r.val = r.val
    rw [h]; simp
  · show cc0_transform_2 (grid0.coords t) 1 * 16 + 1 * l.val = l.val
    rw [h]; simp

theorem blk1 (c : Dev nD) (t : Fin grid0.N) (k : Fin 1024) (f : Fin 256) (hf : 256 * (t.val % 11) + f.val < 2816) :
    (iblk m hO c 1 t : S1x1024x256.Idx → EReal) (ix3 0 k f) = w1 m c (ix3 (grid0.coords t 0) k ⟨256 * (t.val % 11) + f.val, hf⟩) := by
  refine congrArg (w1 m c) (funext fun a => Fin.ext ?_)
  have h := idx1 t
  fin_cases a
  · show cc0_transform_3 (grid0.coords t) 0 * 1 + 1 * 0 = (grid0.coords t 0).val
    rw [h, expert t]; simp
  · show cc0_transform_3 (grid0.coords t) 1 * 1024 + 1 * k.val = k.val
    rw [h]; simp
  · show cc0_transform_3 (grid0.coords t) 2 * 256 + 1 * f.val = 256 * (t.val % 11) + f.val
    rw [h]; simp; omega

theorem blk2 (c : Dev nD) (t : Fin grid0.N) (k : Fin 1024) (f : Fin 256) (hf : 256 * (t.val % 11) + f.val < 2816) :
    (iblk m hO c 2 t : S1x1024x256.Idx → EReal) (ix3 0 k f) = w3 m c (ix3 (grid0.coords t 0) k ⟨256 * (t.val % 11) + f.val, hf⟩) := by
  refine congrArg (w3 m c) (funext fun a => Fin.ext ?_)
  have h := idx2 t
  fin_cases a
  · show cc0_transform_4 (grid0.coords t) 0 * 1 + 1 * 0 = (grid0.coords t 0).val
    rw [h, expert t]; simp
  · show cc0_transform_4 (grid0.coords t) 1 * 1024 + 1 * k.val = k.val
    rw [h]; simp
  · show cc0_transform_4 (grid0.coords t) 2 * 256 + 1 * f.val = 256 * (t.val % 11) + f.val
    rw [h]; simp; omega

theorem blk3 (c : Dev nD) (t : Fin grid0.N) (f : Fin 256) (d : Fin 1024) (hf : 256 * (t.val % 11) + f.val < 2816) :
    (iblk m hO c 3 t : S1x256x1024.Idx → EReal) (ix3 0 f d) = w2 m c (ix3 (grid0.coords t 0) ⟨256 * (t.val % 11) + f.val, hf⟩ d) := by
  refine congrArg (w2 m c) (funext fun a => Fin.ext ?_)
  have h := idx3 t
  fin_cases a
  · show cc0_transform_5 (grid0.coords t) 0 * 1 + 1 * 0 = (grid0.coords t 0).val
    rw [h, expert t]; simp
  · show cc0_transform_5 (grid0.coords t) 1 * 256 + 1 * f.val = 256 * (t.val % 11) + f.val
    rw [h]; simp; omega
  · show cc0_transform_5 (grid0.coords t) 2 * 1024 + 1 * d.val = d.val
    rw [h]; simp

/-- A point's tile is its 256 hidden units. -/
theorem tile_eq (c : Dev nD) (t : Fin grid0.N) (x : Fin 1024 → EReal) (d : Fin 1024) :
    tile (iblk m hO c 1 t) (iblk m hO c 2 t) (iblk m hO c 3 t) x d
      = ∑ f ∈ Finset.range 256, unit m c (grid0.coords t 0) x (256 * (t.val % 11) + f) d := by
  rw [Finset.sum_range]
  unfold tile hid
  refine Finset.sum_congr rfl fun f _ => ?_
  have hf : 256 * (t.val % 11) + f.val < 2816 := by omega
  unfold unit
  rw [dif_pos hf, blk3 m hO c t f d hf]
  simp only [blk1 m hO c t _ f hf, blk2 m hO c t _ f hf]

/-- What the output block holds after point `t`. -/
def held (c : Dev nD) (t : Fin grid0.N) (r : Fin 2112) (d : Fin 1024) : EReal :=
  if h : r.val < 2048 then
    if t.val % 11 = 10 then
      (∑ n ∈ Finset.range (256 * (t.val % 11 + 1)), unit m c (grid0.coords t 0) (fun k => rows m c (grid0.coords t 0) (ix2 ⟨r.val, h⟩ k)) n d)
        * aff m c (ix2 ⟨r.val, h⟩ (grid0.coords t 0))
    else ∑ n ∈ Finset.range (256 * (t.val % 11 + 1)), unit m c (grid0.coords t 0) (fun k => rows m c (grid0.coords t 0) (ix2 ⟨r.val, h⟩ k)) n d
  else 0

theorem more (f : ℕ → EReal) (j : ℕ) : (∑ n ∈ Finset.range (256 * j), f n) + ∑ n ∈ Finset.range 256, f (256 * j + n)
    = ∑ n ∈ Finset.range (256 * (j + 1)), f n := by
  rw [Nat.mul_succ, Finset.sum_range_add]

/-- Two points of one expert. -/
theorem same_expert (n : ℕ) (hn : n + 1 < grid0.N) (h0 : ¬(n + 1) % 11 = 0) :
    grid0.coords ⟨n, Nat.lt_of_succ_lt hn⟩ 0 = grid0.coords ⟨n + 1, hn⟩ 0 :=
  Fin.ext (by rw [expert, expert]; show n / 11 = (n + 1) / 11; omega)

theorem point_A (c : Dev nD) (t : Fin grid0.N) (h0 : t.val % 11 = 0) :
    (outsAt0 m hO hT c t.val t.isLt).2 = rows m c (grid0.coords t 0)
      ∧ ∀ (r : Fin 2112) (d : Fin 1024), (outsAt0 m hO hT c t.val t.isLt).1 (ix3 0 r d) = held m c t r d := by
  have h1 : ¬t.val % 11 = 10 := by omega
  rw [outsAt0_A m hO hT c t h0 h1]
  dsimp only
  refine ⟨sout_A _ _ _ _ _ _ _ _ _ _ _ _ _ _ _ _ _ _ _ _ _ _ _ _, fun r d => (out_A _ _ _ _ _ _ _ _ _ _ _ _ _ _ _ _ _ _ _ _ _ _ _ _ r d).trans ?_⟩
  unfold step held
  by_cases hr : r.val < 2048
  · rw [dif_pos hr, dif_pos hr, if_neg h1, tile_eq m hO c t, ← more, h0, Nat.mul_zero, Finset.range_zero, Finset.sum_empty]
  · rw [dif_neg hr, dif_neg hr]

/-- Before an expert's later points the block holds the sum so far. -/
theorem held_before (c : Dev nD) (n : ℕ) (hn : n + 1 < grid0.N) (h0 : ¬(n + 1) % 11 = 0) (r : Fin 2112) (d : Fin 1024) :
    held m c ⟨n, Nat.lt_of_succ_lt hn⟩ r d
      = if h : r.val < 2048 then ∑ k ∈ Finset.range (256 * ((n + 1) % 11)), unit m c (grid0.coords ⟨n + 1, hn⟩ 0)
          (fun k => rows m c (grid0.coords ⟨n + 1, hn⟩ 0) (ix2 ⟨r.val, h⟩ k)) k d else 0 := by
  have e : n % 11 + 1 = (n + 1) % 11 := by omega
  have h1 : ¬n % 11 = 10 := by omega
  unfold held
  rw [same_expert n hn h0]
  show (if h : r.val < 2048 then if n % 11 = 10 then _ else _ else 0) = _
  simp only [if_neg h1, e]

theorem point_BC (c : Dev nD) (n : ℕ) (hn : n + 1 < grid0.N) (h0 : ¬(n + 1) % 11 = 0)
    (ih : (outsAt0 m hO hT c n (Nat.lt_of_succ_lt hn)).2 = rows m c (grid0.coords ⟨n, Nat.lt_of_succ_lt hn⟩ 0)
      ∧ ∀ (r : Fin 2112) (d : Fin 1024), (outsAt0 m hO hT c n (Nat.lt_of_succ_lt hn)).1 (ix3 0 r d) = held m c ⟨n, Nat.lt_of_succ_lt hn⟩ r d) :
    (outsAt0 m hO hT c (n + 1) hn).2 = rows m c (grid0.coords ⟨n + 1, hn⟩ 0)
      ∧ ∀ (r : Fin 2112) (d : Fin 1024), (outsAt0 m hO hT c (n + 1) hn).1 (ix3 0 r d) = held m c ⟨n + 1, hn⟩ r d := by
  have hx : (outsAt0 m hO hT c n (Nat.lt_of_succ_lt hn)).2 = rows m c (grid0.coords ⟨n + 1, hn⟩ 0) := by
    rw [ih.1, same_expert n hn h0]
  have hs : ∀ (r : Fin 2112) (d : Fin 1024),
      step (iblk m hO c 1 ⟨n + 1, hn⟩) (iblk m hO c 2 ⟨n + 1, hn⟩) (iblk m hO c 3 ⟨n + 1, hn⟩)
        (fun r d => (outsAt0 m hO hT c n (Nat.lt_of_succ_lt hn)).1 (ix3 0 r d)) (outsAt0 m hO hT c n (Nat.lt_of_succ_lt hn)).2 r d
      = if h : r.val < 2048 then ∑ k ∈ Finset.range (256 * ((n + 1) % 11 + 1)), unit m c (grid0.coords ⟨n + 1, hn⟩ 0)
          (fun k => rows m c (grid0.coords ⟨n + 1, hn⟩ 0) (ix2 ⟨r.val, h⟩ k)) k d else 0 := by
    intro r d
    rw [hx]
    unfold step
    by_cases hr : r.val < 2048
    · rw [dif_pos hr, dif_pos hr]
      show (outsAt0 m hO hT c n (Nat.lt_of_succ_lt hn)).1 (ix3 0 r d) + _ = _
      rw [ih.2, held_before m c n hn h0, dif_pos hr, tile_eq m hO c ⟨n + 1, hn⟩, more]
    · rw [dif_neg hr, dif_neg hr]
      show (outsAt0 m hO hT c n (Nat.lt_of_succ_lt hn)).1 (ix3 0 r d) = _
      rw [ih.2, held_before m c n hn h0, dif_neg hr]
  by_cases h1 : (n + 1) % 11 = 10
  · have e := outsAt0_C m hO hT c ⟨n + 1, hn⟩ h0 h1
    dsimp only at e
    rw [e]
    dsimp only
    refine ⟨hx, fun r d => (out_C _ _ _ _ _ _ _ _ _ _ _ _ _ _ _ _ _ _ _ _ _ _ _ _ _ r d).trans ?_⟩
    unfold held
    by_cases hr : r.val < 2048
    · rw [dif_pos hr, dif_pos hr, if_pos h1]
      refine congr (congrArg _ ((hs r d).trans (dif_pos hr))) ?_
      exact blk0 m hO c ⟨n + 1, hn⟩ ⟨r.val, hr⟩ (grid0.coords ⟨n + 1, hn⟩ 0)
    · rw [dif_neg hr, dif_neg hr]
      exact (hs r d).trans (dif_neg hr)
  · have e := outsAt0_B m hO hT c ⟨n + 1, hn⟩ h0 h1
    dsimp only at e
    rw [e]
    dsimp only
    refine ⟨hx, fun r d => (out_B _ _ _ _ _ _ _ _ _ _ _ _ _ _ _ _ _ _ _ _ _ _ _ _ _ r d).trans ?_⟩
    refine (hs r d).trans ?_
    unfold held
    simp only [if_neg h1]

theorem after_point (c : Dev nD) : ∀ (n : ℕ) (hn : n < grid0.N),
    (outsAt0 m hO hT c n hn).2 = rows m c (grid0.coords ⟨n, hn⟩ 0)
      ∧ ∀ (r : Fin 2112) (d : Fin 1024), (outsAt0 m hO hT c n hn).1 (ix3 0 r d) = held m c ⟨n, hn⟩ r d := by
  intro n
  induction n with
  | zero => exact fun hn => point_A m hO hT c ⟨0, hn⟩ rfl
  | succ n ih =>
    intro hn
    by_cases h0 : (n + 1) % 11 = 0
    · exact point_A m hO hT c ⟨n + 1, hn⟩ h0
    · exact point_BC m hO hT c n hn h0 (ih (Nat.lt_of_succ_lt hn))

/-- The array: expert, slot, coordinate. -/
def array (c : Dev nD) : S16x2112x1024.Idx → EReal := fun y =>
  if h : (y 1).val < 2048 then
    (∑ n ∈ Finset.range 2816, unit m c (y 0) (fun k => rows m c (y 0) (ix2 ⟨(y 1).val, h⟩ k)) n (y 2)) * aff m c (ix2 ⟨(y 1).val, h⟩ (y 0))
  else 0

theorem covers : ((cfgM m hO).win 4).Covers := by
  refine ⟨(by decide : ∀ a : Fin 3, 0 < S1x2112x1024.size a), fun β => ?_⟩
  have hβ0 : (β (0 : Fin 3)).val < 16 := lt_of_lt_of_eq (β (0 : Fin 3)).isLt (show (16 + 1 - 1) / 1 = 16 from by norm_num)
  have hβ1 : (β (1 : Fin 3)).val < 1 := lt_of_lt_of_eq (β (1 : Fin 3)).isLt (show (2112 + 2112 - 1) / 2112 = 1 from by norm_num)
  have hβ2 : (β (2 : Fin 3)).val < 1 := lt_of_lt_of_eq (β (2 : Fin 3)).isLt (show (1024 + 1024 - 1) / 1024 = 1 from by norm_num)
  refine ⟨(⟨11 * (β (0 : Fin 3)).val + 10, by show _ < 176; omega⟩ : Fin grid0.N), (flush0_4 _ _).mpr (by show (11 * (β (0 : Fin 3)).val + 10) % 11 = 10; omega), fun a => ⟨?_, Or.inl rfl⟩⟩
  show cc0_transform_6 (grid0.coords _) a = (β a).val
  rw [idx4]
  fin_cases a
  · show (11 * (β (0 : Fin 3)).val + 10) / 11 = (β (0 : Fin 3)).val
    omega
  · show 0 = (β (1 : Fin 3)).val
    omega
  · show 0 = (β (2 : Fin 3)).val
    omega

/-- The output array after the run. -/
theorem final (c : Dev nD) : (dats m hO hT 0 c).arrAt 4 (cfgM m hO).N = array m c := by
  refine (dats m hO hT 0 c).arrAt_eq_of_covers 4 (array m c) (covers m hO) fun t hf y => ?_
  have h1 : t.val % 11 = 10 := (flush0_4 _ t).mp hf
  have ht : t.val < 176 := t.isLt
  have key : ∀ y : S1x2112x1024.Idx, (outsAt0 m hO hT c t.val t.isLt).1 y = array m c (((cfgM m hO).win 4 |>.blk t).view.emb y) := by
    intro y
    have he : ((((cfgM m hO).win 4 |>.blk t).view.emb y) : S16x2112x1024.Idx) = ix3 (grid0.coords t 0) (y 1) (y 2) := by
      funext a
      refine Fin.ext ?_
      have h := idx4 t
      have hz : (y 0).val < 1 := (y 0).isLt
      fin_cases a
      · show cc0_transform_6 (grid0.coords t) 0 * 1 + 1 * (y 0).val = (grid0.coords t 0).val
        rw [h, expert t]; simp
      · show cc0_transform_6 (grid0.coords t) 1 * 2112 + 1 * (y 1).val = (y 1).val
        rw [h]; simp
      · show cc0_transform_6 (grid0.coords t) 2 * 1024 + 1 * (y 2).val = (y 2).val
        rw [h]; simp
    have hy : y = ix3 0 (y 1) (y 2) := by
      funext a
      fin_cases a
      · exact Subsingleton.elim (α := Fin 1) _ _
      · rfl
      · rfl
    have e1 := (after_point m hO hT c t.val t.isLt).2 (y 1) (y 2)
    rw [he]
    refine (congrArg (outsAt0 m hO hT c t.val t.isLt).1 hy).trans (e1.trans ?_)
    unfold held array
    simp only [if_pos h1, h1]
    rfl
  show (dats m hO hT 0 c).after 4 t y = array m c (((cfgM m hO).win 4 |>.blk t).view.emb y)
  rw [after0_4]
  exact key y

end Cert.ExpertsIdeal.Value

end
-- ==== Proof.Host.lean ====
module

public import proofs.«01_k».proof.Proof.Frame
public import proofs.«01_k».proof.Proof.Gen.Pre_tokens
public import Idealize.ShloMosaic.Lib.Pointwise
public import Idealize.ShloMosaic.Lib.ReduceAll

@[expose] public section

set_option maxRecDepth 16384
set_option maxHeartbeats 400000

noncomputable section

/-! # What the call reads: the host operations before it

The two tables of token rows are stacked, the two tables of weights are transposed and stacked, the
activations are cut into rows of 128 lanes, and the weights lose their leading axis. -/

open Idealize.ShloMosaic Idealize.ShloMosaic.TcCoe Idealize.SL.Sem

namespace Cert.ExpertsIdeal.Gen

variable {F : FTy → Type} [FloatOps F] [∀ e, Nonempty (Elt F e)]
variable (m : (ℓ : Loc nD τ sig) → Buf (Elt F) ℓ)

/-- The stacked table: its first half is the prompt's. -/
theorem v2_prompt (c : Dev nD) (e : Fin 16) (k : Fin 1024) :
    (V m c main_v2 : IVec S2x16x1024 32) (ix3 0 e k) = (m ((c.tc : Thread nD τ).loc main_arg0) : IVec S16x1024 32) (ix2 e k) := by
  have h : (V m c main_v2 : IVec S2x16x1024 32) =
      concatenate S2x16x1024 0 [⟨S1x16x1024, broadcastInDim S1x16x1024 ![1, 2] bcast_S16x1024_S1x16x1024_1_2 (m ((c.tc : Thread nD τ).loc main_arg0) : IVec S16x1024 32)⟩,
        ⟨S1x16x1024, broadcastInDim S1x16x1024 ![1, 2] bcast_S16x1024_S1x16x1024_1_2 (m ((c.tc : Thread nD τ).loc main_arg1) : IVec S16x1024 32)⟩]
        concatenates_S1x16x1024_S1x16x1024_S2x16x1024_d0 := by
    show StableHlo.after hostOps0 (fun b => m (c, b)) main_v2 = _
    after_results
  rw [h]
  generalize (m ((c.tc : Thread nD τ).loc main_arg0) : IVec S16x1024 32) = A
  generalize (m ((c.tc : Thread nD τ).loc main_arg1) : IVec S16x1024 32) = B
  pointwise

/-- The stacked table: its second half is the samples'. -/
theorem v2_sample (c : Dev nD) (e : Fin 16) (k : Fin 1024) :
    (V m c main_v2 : IVec S2x16x1024 32) (ix3 1 e k) = (m ((c.tc : Thread nD τ).loc main_arg1) : IVec S16x1024 32) (ix2 e k) := by
  have h : (V m c main_v2 : IVec S2x16x1024 32) =
      concatenate S2x16x1024 0 [⟨S1x16x1024, broadcastInDim S1x16x1024 ![1, 2] bcast_S16x1024_S1x16x1024_1_2 (m ((c.tc : Thread nD τ).loc main_arg0) : IVec S16x1024 32)⟩,
        ⟨S1x16x1024, broadcastInDim S1x16x1024 ![1, 2] bcast_S16x1024_S1x16x1024_1_2 (m ((c.tc : Thread nD τ).loc main_arg1) : IVec S16x1024 32)⟩]
        concatenates_S1x16x1024_S1x16x1024_S2x16x1024_d0 := by
    show StableHlo.after hostOps0 (fun b => m (c, b)) main_v2 = _
    after_results
  rw [h]
  generalize (m ((c.tc : Thread nD τ).loc main_arg0) : IVec S16x1024 32) = A
  generalize (m ((c.tc : Thread nD τ).loc main_arg1) : IVec S16x1024 32) = B
  pointwise

/-- The stacked weights, first half. -/
theorem v5_prompt (c : Dev nD) (k : Fin 1024) (e : Fin 16) :
    (V m c main_v5 : FVec F S2048x16 .f32) (ix2 ⟨k.val, by omega⟩ e) = (m ((c.tc : Thread nD τ).loc main_arg2) : FVec F S16x1024 .f32) (ix2 e k) := by
  have h : (V m c main_v5 : FVec F S2048x16 .f32) =
      concatenate S2048x16 0 [⟨S1024x16, transpose S1024x16 [1, 0] (m ((c.tc : Thread nD τ).loc main_arg2) : FVec F S16x1024 .f32) transposes_S16x1024_S1024x16_1_0⟩,
        ⟨S1024x16, transpose S1024x16 [1, 0] (m ((c.tc : Thread nD τ).loc main_arg3) : FVec F S16x1024 .f32) transposes_S16x1024_S1024x16_1_0⟩]
        concatenates_S1024x16_S1024x16_S2048x16_d0 := by
    show StableHlo.after hostOps0 (fun b => m (c, b)) main_v5 = _
    after_results
  rw [h]
  generalize (m ((c.tc : Thread nD τ).loc main_arg2) : FVec F S16x1024 .f32) = A
  generalize (m ((c.tc : Thread nD τ).loc main_arg3) : FVec F S16x1024 .f32) = B
  pointwise

/-- The stacked weights, second half. -/
theorem v5_sample (c : Dev nD) (k : Fin 1024) (e : Fin 16) :
    (V m c main_v5 : FVec F S2048x16 .f32) (ix2 ⟨1024 + k.val, by omega⟩ e) = (m ((c.tc : Thread nD τ).loc main_arg3) : FVec F S16x1024 .f32) (ix2 e k) := by
  have h : (V m c main_v5 : FVec F S2048x16 .f32) =
      concatenate S2048x16 0 [⟨S1024x16, transpose S1024x16 [1, 0] (m ((c.tc : Thread nD τ).loc main_arg2) : FVec F S16x1024 .f32) transposes_S16x1024_S1024x16_1_0⟩,
        ⟨S1024x16, transpose S1024x16 [1, 0] (m ((c.tc : Thread nD τ).loc main_arg3) : FVec F S16x1024 .f32) transposes_S16x1024_S1024x16_1_0⟩]
        concatenates_S1024x16_S1024x16_S2048x16_d0 := by
    show StableHlo.after hostOps0 (fun b => m (c, b)) main_v5 = _
    after_results
  rw [h]
  generalize (m ((c.tc : Thread nD τ).loc main_arg2) : FVec F S16x1024 .f32) = A
  generalize (m ((c.tc : Thread nD τ).loc main_arg3) : FVec F S16x1024 .f32) = B
  pointwise

/-- A row of 1024 lanes cut into 8 rows of 128: the prompt's activations. -/
theorem cut8 (A : FVec F S8192x1024 .f32) (n : Fin 8192) (k : Fin 1024) :
    shapeCast S65536x128 A shapeCasts_S8192x1024_S65536x128 (ix2 ⟨8 * n.val + k.val / 128, by omega⟩ ⟨k.val % 128, by omega⟩) = A (ix2 n k) := by
  pointwise

theorem v6_at (c : Dev nD) (n : Fin 8192) (k : Fin 1024) :
    (V m c main_v6 : FVec F S65536x128 .f32) (ix2 ⟨8 * n.val + k.val / 128, by omega⟩ ⟨k.val % 128, by omega⟩)
      = (m ((c.tc : Thread nD τ).loc main_arg4) : FVec F S8192x1024 .f32) (ix2 n k) := by
  have h : (V m c main_v6 : FVec F S65536x128 .f32) = shapeCast S65536x128 (m ((c.tc : Thread nD τ).loc main_arg4) : FVec F S8192x1024 .f32) shapeCasts_S8192x1024_S65536x128 := by
    show StableHlo.after hostOps0 (fun b => m (c, b)) main_v6 = _
    after_results
    rfl
  rw [h]
  exact cut8 _ n k

theorem v7_at (c : Dev nD) (n : Fin 8192) (k : Fin 1024) :
    (V m c main_v7 : FVec F S65536x128 .f32) (ix2 ⟨8 * n.val + k.val / 128, by omega⟩ ⟨k.val % 128, by omega⟩)
      = (m ((c.tc : Thread nD τ).loc main_arg5) : FVec F S8192x1024 .f32) (ix2 n k) := by
  have h : (V m c main_v7 : FVec F S65536x128 .f32) = shapeCast S65536x128 (m ((c.tc : Thread nD τ).loc main_arg5) : FVec F S8192x1024 .f32) shapeCasts_S8192x1024_S65536x128 := by
    show StableHlo.after hostOps0 (fun b => m (c, b)) main_v7 = _
    after_results
    rfl
  rw [h]
  exact cut8 _ n k

theorem up_at (A : FVec F S1x16x1024x2816 .f32) (e : Fin 16) (k : Fin 1024) (n : Fin 2816) :
    shapeCast S16x1024x2816 A shapeCasts_S1x16x1024x2816_S16x1024x2816 (ix3 e k n) = A (ix4 0 e k n) := by
  pointwise

theorem down_at (A : FVec F S1x16x2816x1024 .f32) (e : Fin 16) (n : Fin 2816) (d : Fin 1024) :
    shapeCast S16x2816x1024 A shapeCasts_S1x16x2816x1024_S16x2816x1024 (ix3 e n d) = A (ix4 0 e n d) := by
  pointwise

theorem v8_at (c : Dev nD) (e : Fin 16) (k : Fin 1024) (n : Fin 2816) :
    (V m c main_v8 : FVec F S16x1024x2816 .f32) (ix3 e k n) = (m ((c.tc : Thread nD τ).loc main_arg6) : FVec F S1x16x1024x2816 .f32) (ix4 0 e k n) := by
  have h : (V m c main_v8 : FVec F S16x1024x2816 .f32) = shapeCast S16x1024x2816 (m ((c.tc : Thread nD τ).loc main_arg6) : FVec F S1x16x1024x2816 .f32) shapeCasts_S1x16x1024x2816_S16x1024x2816 := by
    show StableHlo.after hostOps0 (fun b => m (c, b)) main_v8 = _
    after_results
    rfl
  rw [h]
  exact up_at _ e k n

theorem v9_at (c : Dev nD) (e : Fin 16) (k : Fin 1024) (n : Fin 2816) :
    (V m c main_v9 : FVec F S16x1024x2816 .f32) (ix3 e k n) = (m ((c.tc : Thread nD τ).loc main_arg7) : FVec F S1x16x1024x2816 .f32) (ix4 0 e k n) := by
  have h : (V m c main_v9 : FVec F S16x1024x2816 .f32) = shapeCast S16x1024x2816 (m ((c.tc : Thread nD τ).loc main_arg7) : FVec F S1x16x1024x2816 .f32) shapeCasts_S1x16x1024x2816_S16x1024x2816 := by
    show StableHlo.after hostOps0 (fun b => m (c, b)) main_v9 = _
    after_results
    rfl
  rw [h]
  exact up_at _ e k n

theorem v10_at (c : Dev nD) (e : Fin 16) (n : Fin 2816) (d : Fin 1024) :
    (V m c main_v10 : FVec F S16x2816x1024 .f32) (ix3 e n d) = (m ((c.tc : Thread nD τ).loc main_arg8) : FVec F S1x16x2816x1024 .f32) (ix4 0 e n d) := by
  have h : (V m c main_v10 : FVec F S16x2816x1024 .f32) = shapeCast S16x2816x1024 (m ((c.tc : Thread nD τ).loc main_arg8) : FVec F S1x16x2816x1024 .f32) shapeCasts_S1x16x2816x1024_S16x2816x1024 := by
    show StableHlo.after hostOps0 (fun b => m (c, b)) main_v10 = _
    after_results
    rfl
  rw [h]
  exact down_at _ e n d

end Cert.ExpertsIdeal.Gen

end
-- ==== Proof.Pre.lean ====
module

public import proofs.«01_k».proof.Proof.Host

@[expose] public section

set_option maxRecDepth 16384
set_option maxHeartbeats 400000

noncomputable section

/-! # Reading the precondition: every token row is a row of the activations -/

open Idealize.ShloMosaic Idealize.ShloMosaic.TcCoe Idealize.SL.Sem

namespace Cert.ExpertsIdeal.Gen

/-- A word that is at least 0 and below 8192 as a signed word. -/
theorem word_range (x : BitVec 32) (h : IntOp.andi (IntOp.cmpi .sge x 0#32) (IntOp.cmpi .slt x 8192#32) = 1#1) : x.toNat < 8192 := by
  obtain ⟨h0, h1⟩ := IntOp.andi_eq_one.1 h
  change BitVec.ofBool (decide ((0#32 : BitVec 32).toInt ≤ x.toInt)) = 1#1 at h0
  change BitVec.ofBool (decide (x.toInt < (8192#32 : BitVec 32).toInt)) = 1#1 at h1
  have a : (0#32 : BitVec 32).toInt ≤ x.toInt := by
    by_contra hc
    rw [decide_eq_false hc] at h0
    exact absurd h0 (by decide)
  have b : x.toInt < (8192#32 : BitVec 32).toInt := by
    by_contra hc
    rw [decide_eq_false hc] at h1
    exact absurd h1 (by decide)
  have e0 : (0#32 : BitVec 32).toInt = 0 := by decide
  have e1 : (8192#32 : BitVec 32).toInt = 8192 := by decide
  rw [e0] at a
  rw [e1] at b
  have := BitVec.toInt_eq_toNat_cond x
  have := x.isLt
  split at * <;> omega

/-- One table's conjunct. -/
theorem range_of_all (x : IVec S16x1024 32) (hb : Cert.Pre_tokens.S_.BroadcastsInDim S16x1024 (![] : Fin 0 → Fin S16x1024.rank))
    (h : S16x1024.ReducesTo [0, 1] Cert.Pre_tokens.S_) (hu : 0 < Cert.Pre_tokens.S_.numel) (j : Cert.Pre_tokens.S_.Idx)
    (e : Host.reduce IntOp.andi (andi (cmpi .sge x (broadcastInDim S16x1024 ![] hb (constantI Cert.Pre_tokens.S_ 32 0#32)))
      (cmpi .slt x (broadcastInDim S16x1024 ![] hb (constantI Cert.Pre_tokens.S_ 32 8192#32)))) (constantI Cert.Pre_tokens.S_ 1 1#1) h hu j = 1#1)
    (i : S16x1024.Idx) : (x i).toNat < 8192 :=
  word_range _ (Host.reduce_andi_all _ _ _ _ j e i)

variable {F : FTy → Type} [FloatOps F] [∀ e, Nonempty (Elt F e)]

/-- The precondition at one program's arguments: both tables hold rows of the activations. -/
theorem tokens_range (a0 a1 : IVec S16x1024 32) (a2 a3 : FVec F S16x1024 .f32) (a4 a5 : FVec F S8192x1024 .f32)
    (a6 a7 : FVec F S1x16x1024x2816 .f32) (a8 : FVec F S1x16x2816x1024 .f32)
    (h : Cert.Pre_tokens.fn (F := F) a0 a1 a2 a3 a4 a5 a6 a7 a8 = fun _ => 1#1) :
    (∀ i, (a0 i).toNat < 8192) ∧ ∀ i, (a1 i).toNat < 8192 := by
  have j : Cert.Pre_tokens.S_.Idx := fun a => a.elim0
  have h0 := congrFun h j
  unfold Cert.Pre_tokens.fn at h0
  obtain ⟨h1, h2⟩ := IntOp.andi_eq_one.1 h0
  exact ⟨range_of_all a0 _ _ _ j h1, range_of_all a1 _ _ _ j h2⟩

variable (m : (ℓ : Loc nD τ sig) → Buf (Elt F) ℓ)

/-- With both tables in range, every copy of the kernel reads inside its source. -/
theorem tokOk (h0 : ∀ i, ((m (((0 : Dev nD).tc : Thread nD τ).loc main_arg0) : IVec S16x1024 32) i).toNat < 8192)
    (h1 : ∀ i, ((m (((0 : Dev nD).tc : Thread nD τ).loc main_arg1) : IVec S16x1024 32) i).toNat < 8192) : TokOk m := by
  intro i b k
  have key : ∀ (e : Fin 16) (q : Fin 1024), ((V m 0 main_v2 : IVec S2x16x1024 32) (ix3 b e q)).toNat < 8192 := by
    intro e q
    match b with
    | ⟨0, _⟩ => exact lt_of_eq_of_lt (congrArg BitVec.toNat (v2_prompt m 0 e q)) (h0 _)
    | ⟨1, _⟩ => exact lt_of_eq_of_lt (congrArg BitVec.toNat (v2_sample m 0 e q)) (h1 _)
  exact key (i 0) ⟨k % 1024, Nat.mod_lt _ (by decide)⟩

end Cert.ExpertsIdeal.Gen

end
-- ==== Proof.Ref.lean ====
module

public import proofs.«01_k».proof.Proof.Gen.ExpertsReferenceIdeal.Run
public import Idealize.ShloMosaic.Lib.Pointwise
public import Idealize.ShloMosaic.Lib.StackMember
public import Idealize.ShloMosaic.Lib.ValueIdxCore

@[expose] public section

set_option maxRecDepth 16384
set_option maxHeartbeats 400000

noncomputable section

/-! # The reference, step by step

The steps of the reference are named for one batch, the result is shown to be these steps composed, and
each step is read at an index. -/

open Idealize.ShloMosaic Idealize.ShloMosaic.TcCoe Idealize.SL.Sem

namespace Cert.ExpertsReferenceIdeal.Value

open Cert.ExpertsReferenceIdeal Cert.ExpertsReferenceIdeal.Gen

/-- The gathered token rows of one batch. -/
def rowsT (I : IVec S16x1024 32) (H : FVec Ideal S8192x1024 .f32) : FVec Ideal S16x1024x1024 .f32 :=
  Host.gather gather_S8192x1024_S16x1024x1_S16x1024x1024_2_0_n_n_0_2_11024 H (broadcastInDim S16x1024x1 ![0, 1] bcast_S16x1024_S16x1024x1_0_1 (select (cmpi .slt I (broadcastInDim S16x1024 ![] bcast_S_S16x1024 (constantI S_ 32 0#32))) (addi I (broadcastInDim S16x1024 ![] bcast_S_S16x1024 (constantI S_ 32 8192#32))) I))

/-- One of the two projections up. -/
def upT (X : FVec Ideal S16x1024x1024 .f32) (W : FVec Ideal S1x16x1024x2816 .f32) : FVec Ideal S16x1024x2816 .f32 :=
  Host.dotGeneral dot_S16x1024x1024_S16x1024x2816_S16x1024x2816_2_1_1_2_0_0 none X (shapeCast _ W shapeCasts_S1x16x1024x2816_S16x1024x2816)

/-- The gate. -/
def siluT (A : FVec Ideal S16x1024x2816 .f32) : FVec Ideal S16x1024x2816 .f32 :=
  mulf A (Host.divf (broadcastInDim S16x1024x2816 ![] bcast_S_S16x1024x2816 (constant S_ .f32 0x3F800000#32)) (addf (broadcastInDim S16x1024x2816 ![] bcast_S_S16x1024x2816 (constant S_ .f32 0x3F800000#32)) (Host.exp (Host.negf A))))

/-- The projection down, each row times its weight. -/
def downT (A : FVec Ideal S16x1024x2816 .f32) (W : FVec Ideal S1x16x2816x1024 .f32) (G : FVec Ideal S16x1024 .f32) : FVec Ideal S16x1024x1024 .f32 :=
  mulf (Host.dotGeneral dot_S16x1024x2816_S16x2816x1024_S16x1024x1024_2_1_1_2_0_0 none A (shapeCast _ W shapeCasts_S1x16x2816x1024_S16x2816x1024)) (broadcastInDim S16x1024x1024 ![0, 1, 2] bcast_S16x1024x1_S16x1024x1024_0_1_2 (broadcastInDim S16x1024x1 ![0, 1] bcast_S16x1024_S16x1024x1_0_1 G))

/-- One batch. -/
def batchT (I : IVec S16x1024 32) (G : FVec Ideal S16x1024 .f32) (H : FVec Ideal S8192x1024 .f32) (W1 W3 : FVec Ideal S1x16x1024x2816 .f32)
    (W2 : FVec Ideal S1x16x2816x1024 .f32) : FVec Ideal S16x1024x1024 .f32 :=
  downT (mulf (siluT (upT (rowsT I H) W1)) (upT (rowsT I H) W3)) W2 G

/-- The two batches one above the other, and the padding. -/
def stackT (A B : FVec Ideal S16x1024x1024 .f32) : FVec Ideal S16x2112x1024 .f32 :=
  pad S16x2112x1024 ![0, 0, 0] ![0, 64, 0] ![0, 0, 0] (concatenate S16x2048x1024 1 [⟨S16x1024x1024, A⟩, ⟨S16x1024x1024, B⟩] concatenates_S16x1024x1024_S16x1024x1024_S16x2048x1024_d1) (sitofp .f32 (constantI S_ 32 0#32)) pads_S16x2048x1024_S16x2112x1024_000_0640_000 h_S_

/-- The reference's result is these steps composed. -/
theorem res_eq (m : (ℓ : Loc nD τ sig) → Buf (Elt Ideal) ℓ) (c : Dev nD) :
    res_main_v37 m c = stackT
      (batchT (m ((c.tc : Thread nD τ).loc main_arg0)) (m ((c.tc : Thread nD τ).loc main_arg2)) (m ((c.tc : Thread nD τ).loc main_arg4))
        (m ((c.tc : Thread nD τ).loc main_arg6)) (m ((c.tc : Thread nD τ).loc main_arg7)) (m ((c.tc : Thread nD τ).loc main_arg8)))
      (batchT (m ((c.tc : Thread nD τ).loc main_arg1)) (m ((c.tc : Thread nD τ).loc main_arg3)) (m ((c.tc : Thread nD τ).loc main_arg5))
        (m ((c.tc : Thread nD τ).loc main_arg6)) (m ((c.tc : Thread nD τ).loc main_arg7)) (m ((c.tc : Thread nD τ).loc main_arg8))) := rfl

/-- The gather of whole rows, read at an index: the row named by the word, clamped into the operand. -/
theorem gather_at (H : FVec Ideal S8192x1024 .f32) (J : IVec S16x1024x1 32) (e : Fin 16) (s k : Fin 1024) :
    Host.gather gather_S8192x1024_S16x1024x1_S16x1024x1024_2_0_n_n_0_2_11024 H J (ix3 e s k)
      = H (ix2 ⟨min (J (ix3 e s 0)).toInt.toNat 8191, by omega⟩ k) := by
  unfold Host.gather
  congr 1
  funext a
  refine Fin.ext ?_
  show gather_S8192x1024_S16x1024x1_S16x1024x1024_2_0_n_n_0_2_11024.start (ix3 e s k) J a
    + gather_S8192x1024_S16x1024x1_S16x1024x1024_2_0_n_n_0_2_11024.batchCoord (ix3 e s k) a
    + gather_S8192x1024_S16x1024x1_S16x1024x1024_2_0_n_n_0_2_11024.offCoord (ix3 e s k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x1024_S16x1024x1_S16x1024x1024_2_0_n_n_0_2_11024.startIndexMap from List.mem_singleton.mpr rfl)]
    have hsi : gather_S8192x1024_S16x1024x1_S16x1024x1024_2_0_n_n_0_2_11024.siIdx (ix3 e s k)
        ⟨List.idxOf (0 : Fin 2) gather_S8192x1024_S16x1024x1_S16x1024x1024_2_0_n_n_0_2_11024.startIndexMap,
          List.idxOf_lt_length_iff.2 (List.mem_singleton.mpr rfl)⟩ = ix3 e s 0 := by
      funext b; refine Fin.ext ?_
      match b with
      | ⟨0, _⟩ => rfl
      | ⟨1, _⟩ => rfl
      | ⟨2, _⟩ => rfl
    rw [hsi]
    rfl
  · have h0 : gather_S8192x1024_S16x1024x1_S16x1024x1024_2_0_n_n_0_2_11024.start (ix3 e s k) J 1 = 0 := by
      unfold GatherDims.start
      exact dif_neg (by decide)
    have h1 : gather_S8192x1024_S16x1024x1_S16x1024x1024_2_0_n_n_0_2_11024.offCoord (ix3 e s k) 1 = k.val := by
      unfold GatherDims.offCoord
      exact dif_pos (by decide : (1 : Fin 2) ∈ gather_S8192x1024_S16x1024x1_S16x1024x1024_2_0_n_n_0_2_11024.sKept)
    rw [h0, h1, Nat.zero_add]
    rfl

/-- A gathered row, of a word that is a row's number. -/
theorem rowsT_at (I : IVec S16x1024 32) (H : FVec Ideal S8192x1024 .f32) (e : Fin 16) (s k : Fin 1024) (hI : (I (ix2 e s)).toNat < 8192) :
    rowsT I H (ix3 e s k) = H (ix2 ⟨(I (ix2 e s)).toNat, hI⟩ k) := by
  unfold rowsT
  rw [gather_at]
  have hw : (broadcastInDim S16x1024x1 ![0, 1] bcast_S16x1024_S16x1024x1_0_1 (select (cmpi .slt I (broadcastInDim S16x1024 ![] bcast_S_S16x1024 (constantI S_ 32 0#32))) (addi I (broadcastInDim S16x1024 ![] bcast_S_S16x1024 (constantI S_ 32 8192#32))) I) : IVec S16x1024x1 32) (ix3 e s 0) = I (ix2 e s) := by
    have h1 : (broadcastInDim S16x1024x1 ![0, 1] bcast_S16x1024_S16x1024x1_0_1 (select (cmpi .slt I (broadcastInDim S16x1024 ![] bcast_S_S16x1024 (constantI S_ 32 0#32))) (addi I (broadcastInDim S16x1024 ![] bcast_S_S16x1024 (constantI S_ 32 8192#32))) I) : IVec S16x1024x1 32) (ix3 e s 0)
        = (select (cmpi .slt I (broadcastInDim S16x1024 ![] bcast_S_S16x1024 (constantI S_ 32 0#32))) (addi I (broadcastInDim S16x1024 ![] bcast_S_S16x1024 (constantI S_ 32 8192#32))) I) (ix2 e s) := by
      generalize (select (cmpi .slt I (broadcastInDim S16x1024 ![] bcast_S_S16x1024 (constantI S_ 32 0#32))) (addi I (broadcastInDim S16x1024 ![] bcast_S_S16x1024 (constantI S_ 32 8192#32))) I : IVec S16x1024 32) = J
      pointwise
    rw [h1]
    have h2 : cmpi .slt I (broadcastInDim S16x1024 ![] bcast_S_S16x1024 (constantI S_ 32 0#32)) (ix2 e s) = 0#1 := by
      show BitVec.ofBool (decide ((I (ix2 e s)).toInt < (0#32 : BitVec 32).toInt)) = 0#1
      have e0 : (0#32 : BitVec 32).toInt = 0 := by decide
      have hc := BitVec.toInt_eq_toNat_cond (I (ix2 e s))
      rw [e0, decide_eq_false (by split at hc <;> omega)]
      rfl
    show (if cmpi .slt I (broadcastInDim S16x1024 ![] bcast_S_S16x1024 (constantI S_ 32 0#32)) (ix2 e s) = 1#1 then _ else _) = _
    rw [h2]
    rfl
  refine congrArg H ?_
  refine congrArg (fun r => ix2 r k) (Fin.ext ?_)
  show min (BitVec.toInt _).toNat 8191 = _
  rw [hw]
  have hc := BitVec.toInt_eq_toNat_cond (I (ix2 e s))
  show min (I (ix2 e s)).toInt.toNat 8191 = (I (ix2 e s)).toNat
  split at hc <;> omega

/-- A projection up, read at an index. -/
theorem upT_at (X : FVec Ideal S16x1024x1024 .f32) (W : FVec Ideal S1x16x1024x2816 .f32) (e : Fin 16) (s : Fin 1024) (n : Fin 2816) :
    upT X W (ix3 e s n) = ∑ k : Fin 1024, X (ix3 e s k) * W (ix4 0 e k n) := by
  refine (StackMember.dotGeneral_stack_apply (G := 16) (m := 1024) (k := 1024) (n := 2816) dot_S16x1024x1024_S16x1024x2816_S16x1024x2816_2_1_1_2_0_0_wf none X _ e s n).trans ?_
  refine Finset.sum_congr rfl fun k _ => congrArg (X (ix3 e s k) * ·) ?_
  pointwise

/-- The gate, read at an index. -/
theorem siluT_at (A : FVec Ideal S16x1024x2816 .f32) (j : S16x1024x2816.Idx) :
    siluT A j = A j * Ideal.div (Ideal.ofBits .f32 0x3F800000#32) (Ideal.ofBits .f32 0x3F800000#32 + Ideal.exp (-(A j))) := by
  unfold siluT
  pointwise

/-- The projection down, read at an index. -/
theorem downT_at (A : FVec Ideal S16x1024x2816 .f32) (W : FVec Ideal S1x16x2816x1024 .f32) (G : FVec Ideal S16x1024 .f32) (e : Fin 16) (s d : Fin 1024) :
    downT A W G (ix3 e s d) = (∑ n : Fin 2816, A (ix3 e s n) * W (ix4 0 e n d)) * G (ix2 e s) := by
  have h1 : (Host.dotGeneral dot_S16x1024x2816_S16x2816x1024_S16x1024x1024_2_1_1_2_0_0 none A (shapeCast _ W shapeCasts_S1x16x2816x1024_S16x2816x1024) : FVec Ideal S16x1024x1024 .f32) (ix3 e s d)
      = ∑ n : Fin 2816, A (ix3 e s n) * W (ix4 0 e n d) := by
    refine (StackMember.dotGeneral_stack_apply (G := 16) (m := 1024) (k := 2816) (n := 1024) dot_S16x1024x2816_S16x2816x1024_S16x1024x1024_2_1_1_2_0_0_wf none A _ e s d).trans ?_
    refine Finset.sum_congr rfl fun k _ => congrArg (A (ix3 e s k) * ·) ?_
    pointwise
  have h2 : (broadcastInDim S16x1024x1024 ![0, 1, 2] bcast_S16x1024x1_S16x1024x1024_0_1_2 (broadcastInDim S16x1024x1 ![0, 1] bcast_S16x1024_S16x1024x1_0_1 G) : FVec Ideal S16x1024x1024 .f32) (ix3 e s d) = G (ix2 e s) := by
    pointwise
  unfold downT
  exact congrArg₂ (· * ·) h1 h2

/-- The stack at the prompt's rows. -/
theorem stackT_prompt (A B : FVec Ideal S16x1024x1024 .f32) (e : Fin 16) (s d : Fin 1024) :
    stackT A B (ix3 e ⟨s.val, by omega⟩ d) = A (ix3 e s d) := by
  unfold stackT
  pointwise
  exact dif_pos (by omega)

/-- The stack at the samples' rows. -/
theorem stackT_sample (A B : FVec Ideal S16x1024x1024 .f32) (e : Fin 16) (s d : Fin 1024) :
    stackT A B (ix3 e ⟨1024 + s.val, by omega⟩ d) = B (ix3 e s d) := by
  unfold stackT
  pointwise
  exact dif_pos (by omega)

/-- The stack at the padding. -/
theorem stackT_pad (A B : FVec Ideal S16x1024x1024 .f32) (e : Fin 16) (s : Fin 64) (d : Fin 1024) :
    stackT A B (ix3 e ⟨2048 + s.val, by omega⟩ d) = 0 := by
  unfold stackT
  pointwise
  show (((0#32 : BitVec 32).toInt : ℝ) : EReal) = 0
  simp

end Cert.ExpertsReferenceIdeal.Value

end
-- ==== Proof.Equation.lean ====
module

public import proofs.«01_k».proof.Proof.Array
public import proofs.«01_k».proof.Proof.Pre
public import proofs.«01_k».proof.Proof.Ref

@[expose] public section

set_option maxRecDepth 16384
set_option maxHeartbeats 400000

noncomputable section

/-! # The kernel's array is the reference's result

Both are read at an index: the rows the kernel gathers are the reference's, the sum over the hidden units
is one sum, and the padding is zero on both sides. -/

open Idealize.ShloMosaic Idealize.ShloMosaic.TcCoe Idealize.SL.Sem

namespace Cert.ExpertsIdeal.Value

open Cert.ExpertsIdeal Cert.ExpertsIdeal.Gen
open Cert.ExpertsReferenceIdeal.Value (batchT stackT upT siluT downT rowsT rowsT_at upT_at siluT_at downT_at stackT_prompt stackT_sample stackT_pad)

/-- The float word of one. -/
theorem ofBits_one : Ideal.ofBits .f32 0x3F800000#32 = 1 := by
  have h : Ideal.ofBits .f32 0x3F800000#32 = ((1 : ℝ) : EReal) := by
    simp [Ideal.ofBits, Ideal.ieee, -EReal.coe_mul, -EReal.coe_one]; norm_num
  exact h

/-- One batch of the reference, read at an index. -/
theorem batch_at (I : IVec S16x1024 32) (G : FVec Ideal S16x1024 .f32) (H : FVec Ideal S8192x1024 .f32) (W1 W3 : FVec Ideal S1x16x1024x2816 .f32)
    (W2 : FVec Ideal S1x16x2816x1024 .f32) (e : Fin 16) (s d : Fin 1024) (hI : (I (ix2 e s)).toNat < 8192) :
    batchT I G H W1 W3 W2 (ix3 e s d)
      = (∑ n : Fin 2816, gate (∑ k : Fin 1024, H (ix2 ⟨(I (ix2 e s)).toNat, hI⟩ k) * W1 (ix4 0 e k n))
          * (∑ k : Fin 1024, H (ix2 ⟨(I (ix2 e s)).toNat, hI⟩ k) * W3 (ix4 0 e k n)) * W2 (ix4 0 e n d)) * G (ix2 e s) := by
  have hu : ∀ (W : FVec Ideal S1x16x1024x2816 .f32) (n : Fin 2816), upT (rowsT I H) W (ix3 e s n)
      = ∑ k : Fin 1024, H (ix2 ⟨(I (ix2 e s)).toNat, hI⟩ k) * W (ix4 0 e k n) := fun W n =>
    (upT_at (rowsT I H) W e s n).trans (Finset.sum_congr rfl fun k _ => congrArg (· * W (ix4 0 e k n)) (rowsT_at I H e s k hI))
  refine (downT_at (mulf (siluT (upT (rowsT I H) W1)) (upT (rowsT I H) W3)) W2 G e s d).trans ?_
  refine congrArg (· * G (ix2 e s)) (Finset.sum_congr rfl fun n _ => congrArg (· * W2 (ix4 0 e n d)) ?_)
  refine congrArg₂ (· * ·) ?_ (hu W3 n)
  refine (siluT_at (upT (rowsT I H) W1) (ix3 e s n)).trans ?_
  rw [hu W1 n, ofBits_one]
  unfold gate
  rw [zero_sub]

variable (m : (ℓ : Loc nD τ sig) → Buf (Elt Ideal) ℓ)

/-- Row `n`, lane `k` of a source cut into rows of 128 lanes. -/
theorem src_at (A : S65536x128.Idx → EReal) (B : S8192x1024.Idx → EReal)
    (h : ∀ (n : Fin 8192) (k : Fin 1024), A (ix2 ⟨8 * n.val + k.val / 128, by omega⟩ ⟨k.val % 128, by omega⟩) = B (ix2 n k))
    (t : ℕ) (ht : t < 8192) (n : ℕ) (k : Fin 1024) (hn : n = 8 * t + k.val / 128) (l : Fin 128) (hl : l.val = k.val % 128) :
    A (srcIdx n l) = B (ix2 ⟨t, ht⟩ k) := by
  refine Eq.trans (congrArg A ?_) (h ⟨t, ht⟩ k)
  unfold srcIdx
  refine congrArg₂ ix2 (Fin.ext ?_) (Fin.ext hl)
  show n % 65536 = 8 * t + k.val / 128
  omega

/-- A row the kernel gathers in its first half is the prompt's token. -/
theorem rows_prompt (c : Dev nD) (e : Fin 16) (s k : Fin 1024)
    (hI : ((m ((c.tc : Thread nD τ).loc main_arg0) : IVec S16x1024 32) (ix2 e s)).toNat < 8192) :
    rows m c e (ix2 ⟨s.val, by omega⟩ k)
      = (m ((c.tc : Thread nD τ).loc main_arg4) : FVec Ideal S8192x1024 .f32) (ix2 ⟨((m ((c.tc : Thread nD τ).loc main_arg0) : IVec S16x1024 32) (ix2 e s)).toNat, hI⟩ k) := by
  obtain rfl : c = 0 := Subsingleton.elim _ _
  have ht : ∀ q : ℕ, q = s.val → tok (tbl m 0) 0 e q = ((m (((0 : Dev nD).tc : Thread nD τ).loc main_arg0) : IVec S16x1024 32) (ix2 e s)).toNat := by
    rintro q rfl
    refine congrArg BitVec.toNat (Eq.trans ?_ (v2_prompt m 0 e s))
    exact congrArg (fun z => (V m 0 main_v2 : IVec S2x16x1024 32) (ix3 0 e z)) (Fin.ext (Nat.mod_eq_of_lt s.isLt))
  have h1 : (8 * s.val + k.val / 128) / 8 = s.val := by omega
  have h2 : (8 * s.val + k.val / 128) % 8 = k.val / 128 := by omega
  show (if (8 * s.val + k.val / 128) / 8 < 1024 then
      (V m 0 main_v6 : S65536x128.Idx → EReal) (srcIdx (8 * tok (tbl m 0) 0 e ((8 * s.val + k.val / 128) / 8) + (8 * s.val + k.val / 128) % 8) ⟨k.val % 128, _⟩)
    else (V m 0 main_v7 : S65536x128.Idx → EReal) (srcIdx (8 * tok (tbl m 0) 1 e ((8 * s.val + k.val / 128) / 8 - 1024) + (8 * s.val + k.val / 128) % 8) ⟨k.val % 128, _⟩)) = _
  rw [if_pos (by omega)]
  refine src_at _ _ (v6_at m 0) _ hI _ k ?_ _ rfl
  rw [ht _ h1, h2]

/-- A row the kernel gathers in its second half is the samples' token. -/
theorem rows_sample (c : Dev nD) (e : Fin 16) (s k : Fin 1024)
    (hI : ((m ((c.tc : Thread nD τ).loc main_arg1) : IVec S16x1024 32) (ix2 e s)).toNat < 8192) :
    rows m c e (ix2 ⟨1024 + s.val, by omega⟩ k)
      = (m ((c.tc : Thread nD τ).loc main_arg5) : FVec Ideal S8192x1024 .f32) (ix2 ⟨((m ((c.tc : Thread nD τ).loc main_arg1) : IVec S16x1024 32) (ix2 e s)).toNat, hI⟩ k) := by
  obtain rfl : c = 0 := Subsingleton.elim _ _
  have ht : ∀ q : ℕ, q = s.val → tok (tbl m 0) 1 e q = ((m (((0 : Dev nD).tc : Thread nD τ).loc main_arg1) : IVec S16x1024 32) (ix2 e s)).toNat := by
    rintro q rfl
    refine congrArg BitVec.toNat (Eq.trans ?_ (v2_sample m 0 e s))
    exact congrArg (fun z => (V m 0 main_v2 : IVec S2x16x1024 32) (ix3 1 e z)) (Fin.ext (Nat.mod_eq_of_lt s.isLt))
  have h1 : (8 * (1024 + s.val) + k.val / 128) / 8 - 1024 = s.val := by omega
  have h2 : (8 * (1024 + s.val) + k.val / 128) % 8 = k.val / 128 := by omega
  show (if (8 * (1024 + s.val) + k.val / 128) / 8 < 1024 then
      (V m 0 main_v6 : S65536x128.Idx → EReal) (srcIdx (8 * tok (tbl m 0) 0 e ((8 * (1024 + s.val) + k.val / 128) / 8) + (8 * (1024 + s.val) + k.val / 128) % 8) ⟨k.val % 128, _⟩)
    else (V m 0 main_v7 : S65536x128.Idx → EReal) (srcIdx (8 * tok (tbl m 0) 1 e ((8 * (1024 + s.val) + k.val / 128) / 8 - 1024) + (8 * (1024 + s.val) + k.val / 128) % 8) ⟨k.val % 128, _⟩)) = _
  rw [if_neg (by omega)]
  refine src_at _ _ (v7_at m 0) _ hI _ k ?_ _ rfl
  rw [ht _ h1, h2]

/-- A row of the kernel's array below the padding, its gathered row and its weight given. -/
theorem array_row (c : Dev nD) (e : Fin 16) (s : ℕ) (hs : s < 2048) (d : Fin 1024) (x : Fin 1024 → EReal) (g : EReal)
    (hx : ∀ k, rows m c e (ix2 ⟨s, hs⟩ k) = x k) (hg : aff m c (ix2 ⟨s, hs⟩ e) = g) :
    array m c (ix3 e ⟨s, by omega⟩ d)
      = (∑ n : Fin 2816, gate (∑ k : Fin 1024, x k * (m ((c.tc : Thread nD τ).loc main_arg6) : FVec Ideal S1x16x1024x2816 .f32) (ix4 0 e k n))
          * (∑ k : Fin 1024, x k * (m ((c.tc : Thread nD τ).loc main_arg7) : FVec Ideal S1x16x1024x2816 .f32) (ix4 0 e k n))
          * (m ((c.tc : Thread nD τ).loc main_arg8) : FVec Ideal S1x16x2816x1024 .f32) (ix4 0 e n d)) * g := by
  obtain rfl : x = fun k => rows m c e (ix2 ⟨s, hs⟩ k) := funext fun k => (hx k).symm
  subst hg
  unfold array
  refine (dif_pos hs).trans ?_
  refine congrArg (· * aff m c (ix2 ⟨s, hs⟩ e)) ?_
  rw [Finset.sum_range]
  refine Finset.sum_congr rfl fun n _ => ?_
  unfold unit
  refine (dif_pos n.isLt).trans ?_
  refine congrArg₂ (· * ·) (congrArg₂ (· * ·) (congrArg gate ?_) ?_) (v10_at m c e n d)
  · exact Finset.sum_congr rfl fun k _ => congrArg (rows m c e (ix2 ⟨s, hs⟩ k) * ·) (v8_at m c e k n)
  · exact Finset.sum_congr rfl fun k _ => congrArg (rows m c e (ix2 ⟨s, hs⟩ k) * ·) (v9_at m c e k n)

/-- The padding of the kernel's array. -/
theorem array_pad (c : Dev nD) (e : Fin 16) (s : Fin 64) (d : Fin 1024) : array m c (ix3 e ⟨2048 + s.val, by omega⟩ d) = 0 := by
  unfold array
  exact dif_neg (by show ¬ 2048 + s.val < 2048; omega)

/-- The kernel's array is the reference's two batches, stacked and padded. -/
theorem array_eq (c : Dev nD) (h0 : ∀ i, ((m ((c.tc : Thread nD τ).loc main_arg0) : IVec S16x1024 32) i).toNat < 8192)
    (h1 : ∀ i, ((m ((c.tc : Thread nD τ).loc main_arg1) : IVec S16x1024 32) i).toNat < 8192) :
    array m c = stackT
      (batchT (m ((c.tc : Thread nD τ).loc main_arg0)) (m ((c.tc : Thread nD τ).loc main_arg2)) (m ((c.tc : Thread nD τ).loc main_arg4))
        (m ((c.tc : Thread nD τ).loc main_arg6)) (m ((c.tc : Thread nD τ).loc main_arg7)) (m ((c.tc : Thread nD τ).loc main_arg8)))
      (batchT (m ((c.tc : Thread nD τ).loc main_arg1)) (m ((c.tc : Thread nD τ).loc main_arg3)) (m ((c.tc : Thread nD τ).loc main_arg5))
        (m ((c.tc : Thread nD τ).loc main_arg6)) (m ((c.tc : Thread nD τ).loc main_arg7)) (m ((c.tc : Thread nD τ).loc main_arg8))) := by
  funext y
  obtain ⟨e, r, d, rfl⟩ : ∃ (e : Fin 16) (r : Fin 2112) (d : Fin 1024), y = ix3 e r d := ⟨y 0, y 1, y 2, eq_ix3 y⟩
  obtain ⟨r, hr⟩ := r
  rcases Nat.lt_or_ge r 1024 with hp | hp
  · refine (array_row m c e r (by omega) d _ _ (fun k => rows_prompt m c e ⟨r, hp⟩ k (h0 _)) (v5_prompt m c ⟨r, hp⟩ e)).trans ?_
    refine Eq.trans ?_ (stackT_prompt _ _ e ⟨r, hp⟩ d).symm
    exact (batch_at _ _ _ _ _ _ e ⟨r, hp⟩ d (h0 _)).symm
  rcases Nat.lt_or_ge r 2048 with hq | hq
  · obtain ⟨s, rfl⟩ : ∃ s, r = 1024 + s := ⟨r - 1024, by omega⟩
    have hs : s < 1024 := by omega
    refine (array_row m c e (1024 + s) hq d _ _ (fun k => rows_sample m c e ⟨s, hs⟩ k (h1 _)) (v5_sample m c ⟨s, hs⟩ e)).trans ?_
    refine Eq.trans ?_ (stackT_sample _ _ e ⟨s, hs⟩ d).symm
    exact (batch_at _ _ _ _ _ _ e ⟨s, hs⟩ d (h1 _)).symm
  · obtain ⟨s, rfl⟩ : ∃ s, r = 2048 + s := ⟨r - 2048, by omega⟩
    have hs : s < 64 := by omega
    exact (array_pad m c e ⟨s, hs⟩ d).trans (stackT_pad _ _ e ⟨s, hs⟩ d).symm

end Cert.ExpertsIdeal.Value

end
-- ==== Proof.Value.lean ====
module

public import proofs.«01_k».proof.Proof.Equation
public import proofs.«01_k».proof.Defs

@[expose] public section

set_option maxRecDepth 16384
set_option maxHeartbeats 400000

noncomputable section

/-! # The value claim

From the precondition the token rows are in range; with that the kernel runs to its array, which is the
reference's result. -/

open Idealize.ShloMosaic Idealize.ShloMosaic.TcCoe Idealize.SL.Sem

namespace Cert.ExpertsIdeal.Value

open Cert.ExpertsIdeal Cert.ExpertsIdeal.Gen

variable (m : (ℓ : Loc nD τ sig) → Buf (Elt Ideal) ℓ) (ρ : Dev nD → PrngReg)

/-- The run: the result is the array, the arguments are kept. -/
theorem run (hO : Ok m) (hT : TokOk m) : θ_run defs (onTc (τ := τ) (main (F := Ideal))) ⟨m, fun _ => 0, ρ⟩ (fun r => ∀ c : Dev nD,
      r.2.mem ((c.tc : Thread nD τ).loc main_v11) = array m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 4).trans (final m hO hT c),
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c)⟩) (run_main m ρ hO hT)

/-- The kernel and the reference leave one array. -/
theorem value : Cert.algebraic_ExpertsIdeal_ExpertsReferenceIdeal := by
  intro m g m' g' hp hm
  have hr : ∀ c : Dev nD, _ ∧ _ := fun c => tokens_range (F := Ideal) _ _ _ _ _ _ _ _ _ (hp c)
  have hT : TokOk m := tokOk m (hr 0).1 (hr 0).2
  refine ⟨fun c => array m c, run m g trivial hT, ?_⟩
  refine (θ_run Cert.ExpertsReferenceIdeal.defs _ _).mono (fun r h c => ⟨(h c).1.trans ?_, (h c).2⟩)
    (Cert.ExpertsReferenceIdeal.Value.run (F := Ideal) m' g')
  obtain ⟨e0, e1, e2, e3, e4, e5, e6, e7, e8⟩ := hm c
  refine (Cert.ExpertsReferenceIdeal.Value.res_eq m' c).trans ?_
  rw [e0, e1, e2, e3, e4, e5, e6, e7, e8]
  exact (array_eq m c (hr c).1 (hr c).2).symm

end Cert.ExpertsIdeal.Value

end
-- ==== Proof.Layer.Ada.lean ====
module

public import proofs.«01_k».proof.Proof.Gen.KernelIdeal.Frame
public import Idealize.ShloMosaic.Lib.Pipeline.ValueKit
public import Idealize.ShloMosaic.Lib.Pointwise

@[expose] public section

set_option maxRecDepth 16384

noncomputable section

/-! # The modulation call: what its result array holds

The first call multiplies `silu` of the conditioning rows by the modulation weights and adds the bias. -/

open Idealize.ShloMosaic Idealize.ShloMosaic.TcCoe Idealize.SL.Sem
open Idealize.ShloMosaic.Pipeline (Dat)

namespace Cert.KernelIdeal.Value

open Cert.KernelIdeal Cert.KernelIdeal.Gen

/-- `silu` as the call writes it. -/
def siluK (x : EReal) : EReal := x * Ideal.div 1 (1 + Ideal.exp (0 - x))

/-- One entry of the modulation: a product and a bias. -/
def adaK (C : FVec Ideal S16x1024 .f32) (Wt : FVec Ideal S1024x6144 .f32) (B : FVec Ideal S1x6144 .f32) :
    FVec Ideal S16x6144 .f32 := fun j =>
  ∑ k : Fin 1024, siluK (C (ix2 (j 0) k)) * Wt (ix2 k (j 1)) + B (ix2 0 (j 1))

variable (V : (c : Dev nD) → (b : Ref sig .tc) → Buf (Elt Ideal) ((c : Thread nD τ).loc b))

theorem idx0 : ∀ t : Fin cfg0.N, win0_0.index t = ![0, 0] ∧ win0_1.index t = ![0, t.val]
    ∧ win0_2.index t = ![0, t.val] ∧ win0_3.index t = ![0, t.val] ∧ t.val < 6 :=
  (by decide +kernel : ∀ t : Fin grid0.N, _)

theorem point0 (c : Dev nD) (t : Fin cfg0.N) (y) :
    k0_pay1 (iblk0 V c 0 t) (iblk0 V c 1 t) (iblk0 V c 2 t) y
      = adaK (V c main_v4) (V c main_v5) (V c main_v7) (((cfg0.win 3).blk t).view.emb y) := by
  pointwise [k0_pay1, adaK, siluK]
  blk_point [iblk0, idx0 t]

/-- The result array of the modulation call. -/
theorem final0 (c : Dev nD) : (dat0 V c).arrAt 3 cfg0.N = adaK (V c main_v4) (V c main_v5) (V c main_v7) := by
  refine (dat0 V c).arrAt_eq_of_covers 3 _ (by decide +kernel) fun t _ y => ?_
  blk_simp
  rw [after0_3]; frame_out
  exact point0 V c t y

end Cert.KernelIdeal.Value

end
-- ==== Proof.Layer.InProj.lean ====
module

public import proofs.«01_k».proof.Proof.Gen.KernelIdeal.Frame
public import Idealize.ShloMosaic.Lib.Pipeline.ValueKit
public import Idealize.ShloMosaic.Lib.Pointwise

@[expose] public section

set_option maxRecDepth 16384
set_option maxHeartbeats 4000000

noncomputable section

/-! # The in-projection call: what its four result arrays hold

Each grid point takes two sequences, normalises and modulates their rows, multiplies by the projection
weights, and stores the queries (scaled), keys and values side by side, the Hyena input, and the keys and
values once more, head by head. -/

open Idealize.ShloMosaic Idealize.ShloMosaic.TcCoe Idealize.SL.Sem
open Idealize.ShloMosaic.Pipeline (Dat)

namespace Cert.KernelIdeal.Value

open Cert.KernelIdeal Cert.KernelIdeal.Gen

/-- One element of a normalised and modulated row, from the row, the scale of the mean, the small constant,
    the gain, the shift and the scale. -/
def modRow (x : Fin 1024 → EReal) (g sh sc : Fin 1024 → EReal) (j : Fin 1024) : EReal :=
  x j * Ideal.rsqrt ((∑ k : Fin 1024, x k * x k) * Ideal.ofBits .f32 0x3A800000#32 + Ideal.ofBits .f32 0x358637BD#32)
    * g j * (1 + sc j) + sh j

/-- The projection of sequence `b`'s row `t`, column `n`, from the call's four arrays. -/
def projK (X : FVec Ideal S32x256x1024 .f32) (M : FVec Ideal S16x1x6144 .f32) (G : FVec Ideal S1x1024 .f32)
    (Wt : FVec Ideal S1024x3072 .bf16) (b : Fin 32) (t : Fin 256) (n : Fin 3072) : EReal :=
  ∑ k : Fin 1024, modRow (fun k => X (ix3 b t k)) (fun k => G (ix2 0 k))
    (fun k => M (ix3 0 0 ⟨k.val, by omega⟩)) (fun k => M (ix3 0 0 ⟨1024 + k.val, by omega⟩)) k * Wt (ix2 k n)

variable (V : (c : Dev nD) → (b : Ref sig .tc) → Buf (Elt Ideal) ((c : Thread nD τ).loc b))

theorem idx1 : ∀ t : Fin cfg1.N, win1_0.index t = ![t.val, 0, 0] ∧ win1_1.index t = ![0, 0, 0]
    ∧ win1_2.index t = ![0, 0] ∧ win1_3.index t = ![0, 0] ∧ win1_4.index t = ![t.val, 0, 0]
    ∧ win1_5.index t = ![t.val, 0, 0] ∧ win1_6.index t = ![t.val, 0, 0, 0] ∧ win1_7.index t = ![t.val, 0, 0, 0]
    ∧ t.val < 16 :=
  (by decide +kernel : ∀ t : Fin grid1.N, _)

/-- The product every store of the call cuts: entry `i` of the block's projection. -/
theorem core1 (c : Dev nD) (t : Fin cfg1.N) (r : Fin 512) (n : Fin 3072) (b : Fin 32) (q : Fin 256) (n' : Fin 3072)
    (hb : (b : ℕ) = 2 * t.val + r / 256) (hr : (q : ℕ) = r % 256) (hn : (n' : ℕ) = n) :
    k1_pay2 (F := Ideal) (iblk1 V c 0 t) (iblk1 V c 1 t) (iblk1 V c 2 t) (iblk1 V c 3 t) (ix2 r n)
      = projK (V c main_arg0) (V c main_v9) (V c main_v13) (V c main_v11) b q n' := by
  pointwise [k1_pay2, projK, modRow]
  blk_point [iblk1, idx1 t]

/-- The stored queries, keys and values: the first third is scaled. -/
def qkvArr (X : FVec Ideal S32x256x1024 .f32) (M : FVec Ideal S16x1x6144 .f32) (G : FVec Ideal S1x1024 .f32)
    (Wt : FVec Ideal S1024x3072 .bf16) : FVec Ideal S32x256x1536 .f32 := fun j =>
  if (j 2).val < 512 then projK X M G Wt (j 0) (j 1) ⟨(j 2).val, by have := (j 2).isLt; change (j 2).val < 1536 at this; omega⟩
      * Ideal.ofBits .f32 0x3E000000#32
  else projK X M G Wt (j 0) (j 1) ⟨(j 2).val, by have := (j 2).isLt; change (j 2).val < 1536 at this; omega⟩

/-- The Hyena input: the last half of the projection. -/
def hyArr (X : FVec Ideal S32x256x1024 .f32) (M : FVec Ideal S16x1x6144 .f32) (G : FVec Ideal S1x1024 .f32)
    (Wt : FVec Ideal S1024x3072 .bf16) : FVec Ideal S32x256x1536 .f32 := fun j =>
  projK X M G Wt (j 0) (j 1) ⟨1536 + (j 2).val, by have := (j 2).isLt; change (j 2).val < 1536 at this; omega⟩

/-- The keys (`o = 512`) or values (`o = 1024`), head by head. -/
def stateArr (o : ℕ) (ho : o ≤ 1024) (X : FVec Ideal S32x256x1024 .f32) (M : FVec Ideal S16x1x6144 .f32) (G : FVec Ideal S1x1024 .f32)
    (Wt : FVec Ideal S1024x3072 .bf16) : FVec Ideal S32x8x256x64 .f32 := fun j =>
  projK X M G Wt (j 0) (j 2) ⟨o + (j 1).val * 64 + (j 3).val, by
    have h1 := (j 1).isLt; have h3 := (j 3).isLt; change (j 1).val < 8 at h1; change (j 3).val < 64 at h3; omega⟩

/-- The block of queries, keys and values is the array read at the block. -/
theorem point1_4 (c : Dev nD) (t : Fin cfg1.N) (y) :
    out1_4 (iblk1 V c 0 t) (iblk1 V c 1 t) (iblk1 V c 2 t) (iblk1 V c 3 t) y
      = qkvArr (V c main_arg0) (V c main_v9) (V c main_v13) (V c main_v11) (((cfg1.win 4).blk t).view.emb y) := by
  unfold_out out1_4
  frame_out
  canon_tiles x h
  case piece0 =>
    pointwise [k1_pay7, k1_pay4]
    unfold qkvArr
    rw [if_neg (by blk_simp [idx1 t]; omega)]
    refine core1 V c t _ _ _ _ _ ?_ ?_ ?_ <;> blk_simp [idx1 t] <;> (try simp only []) <;> omega
  case piece1 =>
    pointwise [k1_pay6, k1_pay3]
    unfold qkvArr
    rw [if_neg (by blk_simp [idx1 t]; omega)]
    refine core1 V c t _ _ _ _ _ ?_ ?_ ?_ <;> blk_simp [idx1 t] <;> (try simp only []) <;> omega
  case piece2 =>
    pointwise [k1_pay5]
    unfold qkvArr
    rw [if_pos (by blk_simp [idx1 t]; omega)]
    refine congrArg (fun z : EReal => z * Ideal.ofBits .f32 0x3E000000#32) (core1 V c t _ _ _ _ _ ?_ ?_ ?_) <;> blk_simp [idx1 t] <;> (try simp only []) <;> omega

/-- The block of the Hyena input is the array read at the block. -/
theorem point1_5 (c : Dev nD) (t : Fin cfg1.N) (y) :
    out1_5 (iblk1 V c 0 t) (iblk1 V c 1 t) (iblk1 V c 2 t) (iblk1 V c 3 t) y
      = hyArr (V c main_arg0) (V c main_v9) (V c main_v13) (V c main_v11) (((cfg1.win 5).blk t).view.emb y) := by
  unfold_out out1_5
  frame_out
  pointwise [k1_pay8]
  unfold hyArr
  refine core1 V c t _ _ _ _ _ ?_ ?_ ?_ <;> blk_simp [idx1 t] <;> (try simp only []) <;> omega

/-- The block of the keys, head by head, is the array read at the block. -/
theorem point1_6 (c : Dev nD) (t : Fin cfg1.N) (y) :
    out1_6 (iblk1 V c 0 t) (iblk1 V c 1 t) (iblk1 V c 2 t) (iblk1 V c 3 t) y
      = stateArr 512 (by omega) (V c main_arg0) (V c main_v9) (V c main_v13) (V c main_v11) (((cfg1.win 6).blk t).view.emb y) := by
  unfold_out out1_6
  frame_out
  canon_tiles x h
  all_goals
    pointwise [k1_pay1, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay3, k1_pay4, stateArr]
    refine core1 V c t _ _ _ _ _ ?_ ?_ ?_ <;> blk_simp [idx1 t] <;> (try simp only []) <;> omega

/-- The block of the values, head by head, is the array read at the block. -/
theorem point1_7 (c : Dev nD) (t : Fin cfg1.N) (y) :
    out1_7 (iblk1 V c 0 t) (iblk1 V c 1 t) (iblk1 V c 2 t) (iblk1 V c 3 t) y
      = stateArr 1024 (by omega) (V c main_arg0) (V c main_v9) (V c main_v13) (V c main_v11) (((cfg1.win 7).blk t).view.emb y) := by
  unfold_out out1_7
  frame_out
  canon_tiles x h
  all_goals
    pointwise [k1_pay1, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay3, k1_pay4, stateArr]
    refine core1 V c t _ _ _ _ _ ?_ ?_ ?_ <;> blk_simp [idx1 t] <;> (try simp only []) <;> omega

theorem final1_4 (c : Dev nD) : (dat1 V c).arrAt 4 cfg1.N
    = qkvArr (V c main_arg0) (V c main_v9) (V c main_v13) (V c main_v11) := by
  refine (dat1 V c).arrAt_eq_of_covers 4 _ (by decide +kernel) fun t _ y => ?_
  blk_simp
  rw [after1_4]
  exact point1_4 V c t y

theorem final1_5 (c : Dev nD) : (dat1 V c).arrAt 5 cfg1.N
    = hyArr (V c main_arg0) (V c main_v9) (V c main_v13) (V c main_v11) := by
  refine (dat1 V c).arrAt_eq_of_covers 5 _ (by decide +kernel) fun t _ y => ?_
  blk_simp
  rw [after1_5]
  exact point1_5 V c t y

theorem final1_6 (c : Dev nD) : (dat1 V c).arrAt 6 cfg1.N
    = stateArr 512 (by omega) (V c main_arg0) (V c main_v9) (V c main_v13) (V c main_v11) := by
  refine (dat1 V c).arrAt_eq_of_covers 6 _ (by decide +kernel) fun t _ y => ?_
  blk_simp
  rw [after1_6]
  exact point1_6 V c t y

theorem final1_7 (c : Dev nD) : (dat1 V c).arrAt 7 cfg1.N
    = stateArr 1024 (by omega) (V c main_arg0) (V c main_v9) (V c main_v13) (V c main_v11) := by
  refine (dat1 V c).arrAt_eq_of_covers 7 _ (by decide +kernel) fun t _ y => ?_
  blk_simp
  rw [after1_7]
  exact point1_7 V c t y

end Cert.KernelIdeal.Value

end
-- ==== Proof.Layer.Attn.lean ====
module

public import proofs.«01_k».proof.Proof.Gen.KernelIdeal.Frame
public import Idealize.ShloMosaic.Lib.Pipeline.ValueKit
public import Idealize.ShloMosaic.Lib.Pointwise

@[expose] public section

set_option maxRecDepth 16384
set_option maxHeartbeats 4000000

noncomputable section

/-! # The context attention call: what its result array holds

Each grid point takes one sequence. Heads go in pairs of 64 lanes. For each head of a pair the other head's
lanes of the queries and of the values are set to zero, and the two results are added: on a head's own lanes
the other head's term is a sum of products with zero, which is zero whatever the exponentials are. -/

open Idealize.ShloMosaic Idealize.ShloMosaic.TcCoe Idealize.SL.Sem
open Idealize.ShloMosaic.Pipeline (Dat)

namespace Cert.KernelIdeal.Value

open Cert.KernelIdeal Cert.KernelIdeal.Gen

/-- One lane of one row of one head's attention, as the call computes it: the sum of exponentials times values,
    times one over the sum of exponentials. -/
def attnRow (q : Fin 64 → EReal) (k : Fin 256 → Fin 64 → EReal) (v : Fin 256 → EReal) : EReal :=
  (∑ t : Fin 256, Ideal.exp ((∑ d : Fin 64, q d * k t d)
      - Finset.fold max (Ideal.ofBits .f32 0xFF800000#32) (fun t => ∑ d : Fin 64, q d * k t d) Finset.univ) * v t)
    * Ideal.div 1 (∑ t : Fin 256, Ideal.exp ((∑ d : Fin 64, q d * k t d)
      - Finset.fold max (Ideal.ofBits .f32 0xFF800000#32) (fun t => ∑ d : Fin 64, q d * k t d) Finset.univ))

theorem slt64 (x : Fin 128) : IntOp.cmpi .slt (BitVec.ofNat 32 (x : ℕ)) 64#32 = BitVec.ofBool (decide ((x : ℕ) < 64)) := by
  revert x; decide +kernel

theorem sge64 (x : Fin 128) : IntOp.cmpi .sge (BitVec.ofNat 32 (x : ℕ)) 64#32 = BitVec.ofBool (decide (¬ (x : ℕ) < 64)) := by
  revert x; decide +kernel

/-- A sum of 128 terms kept on the first 64 lanes. -/
theorem sum_lo (f : Fin 128 → EReal) :
    (∑ x : Fin 128, Scalar.select (IntOp.cmpi .slt (BitVec.ofNat 32 (x : ℕ)) 64#32) (f x) 0)
      = ∑ d : Fin 64, f ⟨d.val, by omega⟩ := by
  rw [Fin.sum_univ_two_halves 64 64 rfl]
  have h2 : ∀ d : Fin 64, Scalar.select (IntOp.cmpi .slt (BitVec.ofNat 32 (64 + d.val)) 64#32)
      (f ⟨64 + d.val, by omega⟩) 0 = 0 := fun d => by
    rw [slt64 ⟨64 + d.val, by omega⟩]; simp [Scalar.select]
  have h1 : ∀ d : Fin 64, Scalar.select (IntOp.cmpi .slt (BitVec.ofNat 32 d.val) 64#32)
      (f ⟨d.val, by omega⟩) 0 = f ⟨d.val, by omega⟩ := fun d => by
    rw [slt64 ⟨d.val, by omega⟩]; simp [Scalar.select]
  simp only [h1, h2, Finset.sum_const_zero, add_zero]

/-- A sum of 128 terms kept on the last 64 lanes. -/
theorem sum_hi (f : Fin 128 → EReal) :
    (∑ x : Fin 128, Scalar.select (IntOp.cmpi .sge (BitVec.ofNat 32 (x : ℕ)) 64#32) (f x) 0)
      = ∑ d : Fin 64, f ⟨64 + d.val, by omega⟩ := by
  rw [Fin.sum_univ_two_halves 64 64 rfl]
  have h2 : ∀ d : Fin 64, Scalar.select (IntOp.cmpi .sge (BitVec.ofNat 32 (64 + d.val)) 64#32)
      (f ⟨64 + d.val, by omega⟩) 0 = f ⟨64 + d.val, by omega⟩ := fun d => by
    rw [sge64 ⟨64 + d.val, by omega⟩]; simp [Scalar.select]
  have h1 : ∀ d : Fin 64, Scalar.select (IntOp.cmpi .sge (BitVec.ofNat 32 d.val) 64#32)
      (f ⟨d.val, by omega⟩) 0 = 0 := fun d => by
    rw [sge64 ⟨d.val, by omega⟩]; simp [Scalar.select]
  simp only [h1, h2, Finset.sum_const_zero, zero_add]

/-- One pair of heads as the body computes it, from the pair's queries, keys and values. -/
def pairOut (q k v : FVec Ideal S1x256x128 .f32) : FVec Ideal S1x256x128 .f32 :=
  k2_pay9 (k2_pay3 k) (k2_pay5 q k v) (k2_pay7 q) (k2_pay8 v)

/-- One pair of heads: what the call stores for it, at row `r` and lane `l` of the pair. -/
theorem pair_at (q k v : FVec Ideal S1x256x128 .f32) (r : Fin 256) (l : Fin 128) :
    pairOut q k v (ix3 0 r l)
      = attnRow (fun d => q (ix3 0 r ⟨l.val / 64 * 64 + d.val, by omega⟩))
          (fun t d => k (ix3 0 t ⟨l.val / 64 * 64 + d.val, by omega⟩)) (fun t => v (ix3 0 t l)) := by
  pointwise [pairOut, k2_pay9, k2_pay3, k2_pay5, k2_pay7, k2_pay8, k2_pay6, k2_pay2, k2_pay4, attnRow]
  simp only [sum_lo, sum_hi]
  rw [slt64, sge64]
  by_cases h : (l : ℕ) < 64
  · have h0 : (l : ℕ) / 64 * 64 = 0 := by omega
    simp only [h, decide_true, h0, zero_add, Scalar.select]
    simp
  · have h0 : (l : ℕ) / 64 * 64 = 64 := by omega
    simp only [h, decide_false, h0, Scalar.select]
    simp

variable (V : (c : Dev nD) → (b : Ref sig .tc) → Buf (Elt Ideal) ((c : Thread nD τ).loc b))

theorem idx2 : ∀ t : Fin cfg2.N, win2_0.index t = ![t.val, 0, 0] ∧ win2_1.index t = ![t.val, 0, 0] ∧ t.val < 32 :=
  (by decide +kernel : ∀ t : Fin grid2.N, _)

/-- The whole result of the call, from its operand. -/
def attnArr (Q : FVec Ideal S32x256x1536 .f32) : FVec Ideal S32x256x512 .f32 := fun j =>
  attnRow (fun d => Q (ix3 (j 0) (j 1) ⟨(j 2).val / 64 * 64 + d.val, by have := (j 2).isLt; change (j 2).val < 512 at this; omega⟩))
    (fun t d => Q (ix3 (j 0) t ⟨512 + (j 2).val / 64 * 64 + d.val, by have := (j 2).isLt; change (j 2).val < 512 at this; omega⟩))
    (fun t => Q (ix3 (j 0) t ⟨1024 + (j 2).val, by have := (j 2).isLt; change (j 2).val < 512 at this; omega⟩))

theorem attnRow_congr {q q' : Fin 64 → EReal} {k k' : Fin 256 → Fin 64 → EReal} {v v' : Fin 256 → EReal}
    (hq : ∀ d, q d = q' d) (hk : ∀ t d, k t d = k' t d) (hv : ∀ t, v t = v' t) : attnRow q k v = attnRow q' k' v' := by
  rw [funext hq, funext fun t => funext (hk t), funext hv]

/-- A pair's stored entry is the result array's, once the pair's three blocks are read off the operand. -/
theorem pair_core (q k v : FVec Ideal S1x256x128 .f32) (Q : FVec Ideal S32x256x1536 .f32)
    (x : S1x256x128.Idx) (j : S32x256x512.Idx) (p : ℕ) (hp : p < 4)
    (hj1 : (j 1 : ℕ) = x 1) (hj2 : (j 2 : ℕ) = p * 128 + x 2)
    (hq : ∀ (r : Fin 256) (l : Fin 128), q (ix3 0 r l) = Q (ix3 (j 0) r ⟨p * 128 + l.val, by omega⟩))
    (hk : ∀ (r : Fin 256) (l : Fin 128), k (ix3 0 r l) = Q (ix3 (j 0) r ⟨512 + p * 128 + l.val, by omega⟩))
    (hv : ∀ (r : Fin 256) (l : Fin 128), v (ix3 0 r l) = Q (ix3 (j 0) r ⟨1024 + p * 128 + l.val, by omega⟩)) :
    pairOut q k v x = attnArr Q j := by
  obtain ⟨a, r, l, rfl⟩ : ∃ (a : Fin 1) (r : Fin 256) (l : Fin 128), x = ix3 a r l := ⟨x 0, x 1, x 2, eq_ix3 x⟩
  obtain rfl : a = 0 := Subsingleton.elim _ _
  idx_vars j
  replace hj1 : (j1 : ℕ) = r := hj1
  replace hj2 : (j2 : ℕ) = p * 128 + l := hj2
  rw [pair_at, attnArr]
  refine attnRow_congr (fun d => ?_) (fun t d => ?_) fun t => ?_
  · rw [hq]; blk_ext
  · rw [hk]; blk_ext
  · rw [hv]; blk_ext

/-! The four stores compute the same function of their three blocks. -/

theorem piece0 (q k v : FVec Ideal S1x256x128 .f32) :
    k2_pay9 (F := Ideal) (k2_pay3 k) (k2_pay5 q k v) (k2_pay7 q) (k2_pay8 v) = pairOut q k v := rfl
theorem piece1 (q k v : FVec Ideal S1x256x128 .f32) :
    k2_pay17 (F := Ideal) (k2_pay10 q) (k2_pay11 k) (k2_pay12 v) (k2_pay14 v) (k2_pay15 q k) (k2_pay16 q k)
      = pairOut q k v := rfl
theorem piece2 (q k v : FVec Ideal S1x256x128 .f32) :
    k2_pay25 (F := Ideal) (k2_pay21 (k2_pay18 q) k v) (k2_pay23 v) (k2_pay24 (k2_pay18 q) k) = pairOut q k v := rfl
theorem piece3 (q k v : FVec Ideal S1x256x128 .f32) :
    k2_pay1 (F := Ideal) (k2_pay26 q) (k2_pay27 k) (k2_pay28 v) (k2_pay30 v) (k2_pay32 q k) (k2_pay33 q k)
      (constant S256x128 .f32 0x00000000#32) = pairOut q k v := rfl

/-- What the body leaves in the result's block is the result array read at the block. -/
theorem point2 (c : Dev nD) (t : Fin cfg2.N) (y) :
    out2_1 (iblk2 V c 0 t) y = attnArr (V c main_v14_0) (((cfg2.win 1).blk t).view.emb y) := by
  unfold out2_1 k2_pay34
  rw [piece0, piece1, piece2, piece3]
  canon_tiles x h
  case piece0 =>
    refine pair_core _ _ _ _ x _ 3 (by omega) ?_ ?_ (fun r l => ?_) (fun r l => ?_) (fun r l => ?_)
    · blk_simp [idx2 t]; omega
    · blk_simp [idx2 t]; omega
    · pointwise; blk_ext [iblk2, idx2 t]
    · pointwise; blk_ext [iblk2, idx2 t]
    · pointwise; blk_ext [iblk2, idx2 t]
  case piece1 =>
    refine pair_core _ _ _ _ x _ 2 (by omega) ?_ ?_ (fun r l => ?_) (fun r l => ?_) (fun r l => ?_)
    · blk_simp [idx2 t]; omega
    · blk_simp [idx2 t]; omega
    · pointwise; blk_ext [iblk2, idx2 t]
    · pointwise; blk_ext [iblk2, idx2 t]
    · pointwise; blk_ext [iblk2, idx2 t]
  case piece2 =>
    refine pair_core _ _ _ _ x _ 1 (by omega) ?_ ?_ (fun r l => ?_) (fun r l => ?_) (fun r l => ?_)
    · blk_simp [idx2 t]; omega
    · blk_simp [idx2 t]; omega
    · pointwise; blk_ext [iblk2, idx2 t]
    · pointwise; blk_ext [iblk2, idx2 t]
    · pointwise; blk_ext [iblk2, idx2 t]
  case piece3 =>
    refine pair_core _ _ _ _ x _ 0 (by omega) ?_ ?_ (fun r l => ?_) (fun r l => ?_) (fun r l => ?_)
    · blk_simp [idx2 t]; omega
    · blk_simp [idx2 t]; omega
    · pointwise; blk_ext [iblk2, idx2 t]
    · pointwise; blk_ext [iblk2, idx2 t]
    · pointwise; blk_ext [iblk2, idx2 t]

/-- The result array of the context attention call. -/
theorem final2 (c : Dev nD) : (dat2 V c).arrAt 1 cfg2.N = attnArr (V c main_v14_0) := by
  refine (dat2 V c).arrAt_eq_of_covers 1 _ (by decide +kernel) fun t _ y => ?_
  blk_simp
  rw [after2_1]
  exact point2 V c t y

end Cert.KernelIdeal.Value

end
-- ==== Proof.Layer.Host.lean ====
module

public import proofs.«01_k».proof.Proof.Layer.Ada
public import proofs.«01_k».proof.Proof.Layer.InProj
public import proofs.«01_k».proof.Proof.Layer.Attn
public import Idealize.ShloMosaic.Lib.Claim
public import Idealize.ShloMosaic.Lib.Routing.OpsOne

@[expose] public section

set_option maxRecDepth 16384
set_option maxHeartbeats 4000000

noncomputable section

/-! # What the calls read: the host operations between them

The conditioning rows are written into a table of 16 rows (the context's row is row 0), weights lose their
leading axis, and the first call's result gains one. -/

open Idealize.ShloMosaic Idealize.ShloMosaic.TcCoe Idealize.SL.Sem
open Idealize.ShloMosaic.Pipeline (Dat)
open Idealize.ShloMosaic.Routing

namespace Cert.KernelIdeal.Value

open Cert.KernelIdeal Cert.KernelIdeal.Gen

/-- Writing one row of the table: row 0 holds the row written. -/
theorem scatter_row (x0 : FVec Ideal S16x1024 .f32) (idx : IVec S1 32) (u : FVec Ideal S1024 .f32)
    (hidx : (idx (ix1 0)).toInt = 0) (k : Fin 1024) :
    Host.scatter scatter_S16x1024_S1_S1024_0_0_0_0 (fun _ b => b) x0 idx u (ix2 0 k) = u (ix1 k) := by
  have key : ∀ j : S1024.Idx, scatter_S16x1024_S1_S1024_0_0_0_0.resultIdx? j idx = some (ix2 0 k) ↔ j = ix1 k := by
    intro j
    obtain ⟨q, rfl⟩ : ∃ q : Fin 1024, j = ix1 q := ⟨j 0, eq_ix1 j⟩
    refine (resultIdx?_ix2 (R := 16) (C := 1024) scatter_S16x1024_S1_S1024_0_0_0_0 (ix1 q) idx 0 k).trans ?_
    have h1 : scatter_S16x1024_S1_S1024_0_0_0_0.start (ix1 q) idx 0 = 0 := by
      unfold ScatterDims.start
      rw [dif_pos (show (0 : Fin 2) ∈ scatter_S16x1024_S1_S1024_0_0_0_0.scatterDimsToOperandDims from List.mem_singleton.2 rfl)]
      refine Eq.trans (congrArg (fun z => (idx z).toInt) ?_) hidx
      funext b'
      match b' with
      | ⟨0, _⟩ => exact Subsingleton.elim (α := Fin 1) _ _
    have h2 : scatter_S16x1024_S1_S1024_0_0_0_0.start (ix1 q) idx 1 = 0 := rfl
    have h3 : scatter_S16x1024_S1_S1024_0_0_0_0.window (ix1 q) 0 = 0 := rfl
    have h4 : scatter_S16x1024_S1_S1024_0_0_0_0.window (ix1 q) 1 = q.val := rfl
    rw [h1, h2, h3, h4]
    constructor
    · rintro ⟨-, h⟩
      have : q = k := Fin.ext (by omega)
      rw [this]
    · intro h
      have : q = k := congrFun h 0
      subst this
      exact ⟨rfl, by omega⟩
  exact scatter_set_hit _ x0 idx u _ _ (fun j hj => congrArg u ((key j).1 hj)) (ix1 k) ((key _).2 rfl)

/-- Writing eight rows of the table from row 1 on leaves row 0. -/
theorem scatter_rows (x0 : FVec Ideal S16x1024 .f32) (idx : IVec S1 32) (u : FVec Ideal S8x1024 .f32)
    (hidx : (idx (ix1 0)).toInt = 1) (k : Fin 1024) :
    Host.scatter scatter_S16x1024_S1_S8x1024_01_n_0_0 (fun _ b => b) x0 idx u (ix2 0 k) = x0 (ix2 0 k) := by
  refine scatter_set_miss _ x0 idx u _ fun j hj => ?_
  obtain ⟨p, q, rfl⟩ : ∃ (p : Fin 8) (q : Fin 1024), j = ix2 p q := ⟨j 0, j 1, eq_ix2 j⟩
  replace hj := (resultIdx?_ix2 (R := 16) (C := 1024) scatter_S16x1024_S1_S8x1024_01_n_0_0 (ix2 p q) idx 0 k).1 hj
  have h1 : scatter_S16x1024_S1_S8x1024_01_n_0_0.start (ix2 p q) idx 0 = 1 := by
      unfold ScatterDims.start
      rw [dif_pos (show (0 : Fin 2) ∈ scatter_S16x1024_S1_S8x1024_01_n_0_0.scatterDimsToOperandDims from List.mem_singleton.2 rfl)]
      refine Eq.trans (congrArg (fun z => (idx z).toInt) ?_) hidx
      funext b'
      match b' with
      | ⟨0, _⟩ => exact Subsingleton.elim (α := Fin 1) _ _
  have h3 : scatter_S16x1024_S1_S8x1024_01_n_0_0.window (ix2 p q) 0 = p.val := rfl
  rw [h1, h3] at hj
  have := hj.1
  simp at this
  omega

theorem cast5 (A : FVec Ideal S1x1024x6144 .f32) (k : Fin 1024) (n : Fin 6144) :
    shapeCast S1024x6144 A shapeCasts_S1x1024x6144_S1024x6144 (ix2 k n) = A (ix3 0 k n) := by
  pointwise

variable (m : (ℓ : Loc nD τ sig) → Buf (Elt Ideal) ℓ) (ρ : Dev nD → PrngReg)

/-- Row 0 of the table of conditioning rows is the context's row. -/
theorem v4_row (c : Dev nD) (k : Fin 1024) :
    (V1 m ρ c main_v4 : FVec Ideal S16x1024 .f32) (ix2 0 k) = (m ((c.tc : Thread nD τ).loc main_arg2) : FVec Ideal S1024 .f32) (ix1 k) := by
  have h : (V1 m ρ c main_v4 : FVec Ideal S16x1024 .f32) =
      (Host.scatter scatter_S16x1024_S1_S8x1024_01_n_0_0 (fun _ b => b)
        (Host.scatter scatter_S16x1024_S1_S1024_0_0_0_0 (fun _ b => b) (broadcastInDim S16x1024 ![] bcast_S_S16x1024 (constant S_ .f32 0x00000000#32))
          (broadcastInDim S1 ![] bcast_S_S1 (constantI S_ 32 0#32)) (m ((c.tc : Thread nD τ).loc main_arg2) : FVec Ideal S1024 .f32))
        (broadcastInDim S1 ![] bcast_S_S1 (constantI S_ 32 1#32)) (m ((c.tc : Thread nD τ).loc main_arg1) : FVec Ideal S8x1024 .f32) : FVec Ideal S16x1024 .f32) := by
    show StableHlo.after hostOps0 (W0 m ρ c) main_v4 = _
    after_results
  rw [h, scatter_rows _ _ _ rfl, scatter_row _ _ _ rfl]

theorem v5_at (c : Dev nD) (k : Fin 1024) (n : Fin 6144) :
    (V1 m ρ c main_v5 : FVec Ideal S1024x6144 .f32) (ix2 k n) = (m ((c.tc : Thread nD τ).loc main_arg4) : FVec Ideal S1x1024x6144 .f32) (ix3 0 k n) := by
  have h : (V1 m ρ c main_v5 : FVec Ideal S1024x6144 .f32) = shapeCast _ (m ((c.tc : Thread nD τ).loc main_arg4) : FVec Ideal S1x1024x6144 .f32) shapeCasts_S1x1024x6144_S1024x6144 := by
    show StableHlo.after hostOps0 (W0 m ρ c) main_v5 = _
    after_results
    rfl
  rw [h]
  exact cast5 _ k n

theorem v7_at (c : Dev nD) (n : Fin 6144) :
    (V1 m ρ c main_v7 : FVec Ideal S1x6144 .f32) (ix2 0 n) = (m ((c.tc : Thread nD τ).loc main_arg5) : FVec Ideal S1x6144 .f32) (ix2 0 n) := by
  have h : (V1 m ρ c main_v7 : FVec Ideal S1x6144 .f32) = shapeCast _ (shapeCast _ (m ((c.tc : Thread nD τ).loc main_arg5) : FVec Ideal S1x6144 .f32) shapeCasts_S1x6144_S6144) shapeCasts_S6144_S1x6144 := by
    show StableHlo.after hostOps0 (W0 m ρ c) main_v7 = _
    after_results
    rfl
  rw [h]
  generalize (m ((c.tc : Thread nD τ).loc main_arg5) : FVec Ideal S1x6144 .f32) = A
  pointwise

/-- The modulation table the second call reads. -/
theorem v9_at (c : Dev nD) (n : Fin 6144) :
    (V3 m ρ c main_v9 : FVec Ideal S16x1x6144 .f32) (ix3 0 0 n) = adaK (V1 m ρ c main_v4) (V1 m ρ c main_v5) (V1 m ρ c main_v7) (ix2 0 n) := by
  have h : (V3 m ρ c main_v9 : FVec Ideal S16x1x6144 .f32) = shapeCast _ (W2 m ρ c (Proc.devRef .tc main_v8) : FVec Ideal S16x6144 .f32) shapeCasts_S16x6144_S16x1x6144 := by
    show StableHlo.after hostOps1 (W2 m ρ c) main_v9 = _
    after_results
    rfl
  have h8 : (W2 m ρ c (Proc.devRef .tc main_v8) : FVec Ideal S16x6144 .f32) = adaK (V1 m ρ c main_v4) (V1 m ρ c main_v5) (V1 m ρ c main_v7) :=
    (W2_arr m ρ c 3).trans (final0 (V1 m ρ) c)
  rw [h, h8]
  generalize adaK (V1 m ρ c main_v4) (V1 m ρ c main_v5) (V1 m ρ c main_v7) = A
  pointwise

theorem v11_at (c : Dev nD) (k : Fin 1024) (n : Fin 3072) :
    (V3 m ρ c main_v11 : FVec Ideal S1024x3072 .bf16) (ix2 k n) = (m ((c.tc : Thread nD τ).loc main_arg6) : FVec Ideal S1x1024x3072 .f32) (ix3 0 k n) := by
  have h : (V3 m ρ c main_v11 : FVec Ideal S1024x3072 .bf16) = truncf (F := Ideal) (φ := .f32) .bf16 (shapeCast S1024x3072 (W2 m ρ c (Proc.devRef .tc main_arg6) : FVec Ideal S1x1024x3072 .f32) shapeCasts_S1x1024x3072_S1024x3072) := by
    show StableHlo.after hostOps1 (W2 m ρ c) main_v11 = _
    after_results
    rfl
  have h6 : (W2 m ρ c (Proc.devRef .tc main_arg6) : FVec Ideal S1x1024x3072 .f32) = m ((c.tc : Thread nD τ).loc main_arg6) :=
    W2_args m ρ c main_arg6 (by decide)
  rw [h, h6]
  generalize (m ((c.tc : Thread nD τ).loc main_arg6) : FVec Ideal S1x1024x3072 .f32) = A
  pointwise

theorem v13_at (c : Dev nD) (k : Fin 1024) :
    (V3 m ρ c main_v13 : FVec Ideal S1x1024 .f32) (ix2 0 k) = (m ((c.tc : Thread nD τ).loc main_arg3) : FVec Ideal S1x1024 .f32) (ix2 0 k) := by
  have h : (V3 m ρ c main_v13 : FVec Ideal S1x1024 .f32) = shapeCast _ (shapeCast _ (W2 m ρ c (Proc.devRef .tc main_arg3) : FVec Ideal S1x1024 .f32) shapeCasts_S1x1024_S1024) shapeCasts_S1024_S1x1024 := by
    show StableHlo.after hostOps1 (W2 m ρ c) main_v13 = _
    after_results
    rfl
  have h6 : (W2 m ρ c (Proc.devRef .tc main_arg3) : FVec Ideal S1x1024 .f32) = m ((c.tc : Thread nD τ).loc main_arg3) :=
    W2_args m ρ c main_arg3 (by decide)
  rw [h, h6]
  generalize (m ((c.tc : Thread nD τ).loc main_arg3) : FVec Ideal S1x1024 .f32) = A
  pointwise

theorem x_eq (c : Dev nD) : (V3 m ρ c main_arg0 : FVec Ideal S32x256x1024 .f32) = m ((c.tc : Thread nD τ).loc main_arg0) :=
  W3_args m ρ c main_arg0 (by decide)

end Cert.KernelIdeal.Value

end
-- ==== Proof.Layer.Ref.lean ====
module

public import proofs.«01_k».proof.Proof.Gen.ReferenceIdeal.Run
public import Idealize.ShloMosaic.Lib.Pointwise

@[expose] public section

set_option maxRecDepth 16384
set_option maxHeartbeats 4000000

noncomputable section

/-! # The reference, step by step

The steps of the reference are named, its results are shown to be these steps composed, and each step is
read at an index. -/

open Idealize.ShloMosaic Idealize.ShloMosaic.TcCoe Idealize.SL.Sem

namespace Cert.ReferenceIdeal.Value

open Cert.ReferenceIdeal Cert.ReferenceIdeal.Gen

/-- The modulation of the context's conditioning vector. -/
def modT (C : FVec Ideal S1024 .f32) (Wa : FVec Ideal S1x1024x6144 .f32) (Ba : FVec Ideal S1x6144 .f32) : FVec Ideal S1x1x6144 .f32 :=
  addf (Host.dotGeneral dot_S1x1x1024_S1024x6144_S1x1x6144_2_0_01_1_n_n none (mulf (broadcastInDim S1x1x1024 ![2] bcast_S1024_S1x1x1024_2 C) (Host.divf (broadcastInDim S1x1x1024 ![] bcast_S_S1x1x1024 (constant S_ .f32 0x3F800000#32)) (addf (broadcastInDim S1x1x1024 ![] bcast_S_S1x1x1024 (constant S_ .f32 0x3F800000#32)) (Host.exp (Host.negf (broadcastInDim S1x1x1024 ![2] bcast_S1024_S1x1x1024_2 C)))))) (shapeCast _ Wa shapeCasts_S1x1024x6144_S1024x6144)) (broadcastInDim S1x1x6144 ![2] bcast_S6144_S1x1x6144_2 (shapeCast _ Ba shapeCasts_S1x6144_S6144))

/-- The normalised and modulated input. -/
def hT (X : FVec Ideal S32x256x1024 .f32) (C : FVec Ideal S1024 .f32) (G : FVec Ideal S1x1024 .f32) (Wa : FVec Ideal S1x1024x6144 .f32) (Ba : FVec Ideal S1x6144 .f32) : FVec Ideal S32x256x1024 .f32 :=
  addf (mulf (mulf (mulf X (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf X X) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (shapeCast _ G shapeCasts_S1x1024_S1024)))) (broadcastInDim S32x256x1024 ![0, 1, 2] bcast_S1x1x1024_S32x256x1024_0_1_2 (addf (broadcastInDim S1x1x1024 ![] bcast_S_S1x1x1024 (constant S_ .f32 0x3F800000#32)) (extractStridedSlice S1x1x1024 ![0, 0, 1024] (modT C Wa Ba) slices_S1x1x6144_S1x1x1024_0_0_1024)))) (broadcastInDim S32x256x1024 ![0, 1, 2] bcast_S1x1x1024_S32x256x1024_0_1_2 (extractStridedSlice S1x1x1024 ![0, 0, 0] (modT C Wa Ba) slices_S1x1x6144_S1x1x1024_0_0_0))

/-- The projection. -/
def projT (X : FVec Ideal S32x256x1024 .f32) (C : FVec Ideal S1024 .f32) (G : FVec Ideal S1x1024 .f32) (Wa : FVec Ideal S1x1024x6144 .f32) (Ba : FVec Ideal S1x6144 .f32)
    (Wi : FVec Ideal S1x1024x3072 .f32) : FVec Ideal S32x256x3072 .f32 :=
  Host.dotGeneral dot_S32x256x1024_S1024x3072_S32x256x3072_2_0_01_1_n_n none (hT X C G Wa Ba) (shapeCast _ Wi shapeCasts_S1x1024x3072_S1024x3072)

/-- The Hyena input cut from the projection. -/
def hyT (Y : FVec Ideal S32x256x3072 .f32) : FVec Ideal S32x256x1536 .f32 :=
  extractStridedSlice S32x256x1536 ![0, 0, 1536] Y slices_S32x256x3072_S32x256x1536_0_0_1536

/-- The keys cut from the projection, head by head. -/
def keysT (Y : FVec Ideal S32x256x3072 .f32) : FVec Ideal S32x8x256x64 .f32 :=
  transpose S32x8x256x64 [0, 2, 1, 3] (shapeCast _ (extractStridedSlice S32x256x512 ![0, 0, 512] Y slices_S32x256x3072_S32x256x512_0_0_512) shapeCasts_S32x256x512_S32x256x8x64) transposes_S32x256x8x64_S32x8x256x64_0_2_1_3

/-- The values cut from the projection, head by head. -/
def valsT (Y : FVec Ideal S32x256x3072 .f32) : FVec Ideal S32x8x256x64 .f32 :=
  transpose S32x8x256x64 [0, 2, 1, 3] (shapeCast _ (extractStridedSlice S32x256x512 ![0, 0, 1024] Y slices_S32x256x3072_S32x256x512_0_0_1024) shapeCasts_S32x256x512_S32x256x8x64) transposes_S32x256x8x64_S32x8x256x64_0_2_1_3

/-- The scaled scores. -/
def scoreT (Y : FVec Ideal S32x256x3072 .f32) : FVec Ideal S32x8x256x256 .f32 :=
  Host.dotGeneral dot_S32x8x256x64_S32x8x256x64_S32x8x256x256_3_3_2_2_01_01 none (mulf (transpose S32x8x256x64 [0, 2, 1, 3] (shapeCast _ (extractStridedSlice S32x256x512 ![0, 0, 0] Y slices_S32x256x3072_S32x256x512_0_0_0) shapeCasts_S32x256x512_S32x256x8x64) transposes_S32x256x8x64_S32x8x256x64_0_2_1_3) (broadcastInDim S32x8x256x64 ![] bcast_S_S32x8x256x64 (constant S_ .f32 0x3E000000#32))) (keysT Y)

/-- The exponentials of the scores minus their row maximum. -/
def expT (S : FVec Ideal S32x8x256x256 .f32) : FVec Ideal S32x8x256x256 .f32 :=
  Host.exp (subf S (broadcastInDim S32x8x256x256 ![0, 1, 2, 3] bcast_S32x8x256x1_S32x8x256x256_0_1_2_3 (broadcastInDim S32x8x256x1 ![0, 1, 2] bcast_S32x8x256_S32x8x256x1_0_1_2 (maximumf (broadcastInDim S32x8x256 ![] bcast_S_S32x8x256 (constant S_ .f32 0xFF800000#32)) (Host.reduce FloatOps.maximumf S (constant S_ .f32 0xFF800000#32) reducesTo_S32x8x256x256_S32x8x256_d3 h_S_)))))

/-- Exponentials over their row sums, times the values, heads side by side. -/
def outT (E : FVec Ideal S32x8x256x256 .f32) (Y : FVec Ideal S32x256x3072 .f32) : FVec Ideal S32x256x512 .f32 :=
  shapeCast _ (transpose S32x256x8x64 [0, 2, 1, 3] (Host.dotGeneral dot_S32x8x256x256_S32x8x256x64_S32x8x256x64_3_2_2_3_01_01 none (Host.divf E (broadcastInDim S32x8x256x256 ![0, 1, 2, 3] bcast_S32x8x256x1_S32x8x256x256_0_1_2_3 (broadcastInDim S32x8x256x1 ![0, 1, 2] bcast_S32x8x256_S32x8x256x1_0_1_2 (Host.reduceAdd E (constant S_ .f32 0x00000000#32) reducesTo_S32x8x256x256_S32x8x256_d3 h_S_)))) (valsT Y)) transposes_S32x8x256x64_S32x256x8x64_0_2_1_3) shapeCasts_S32x256x8x64_S32x256x512

/-- The projection of a memory's arguments. -/
def projM (m : (ℓ : Loc nD τ sig) → Buf (Elt Ideal) ℓ) (c : Dev nD) : FVec Ideal S32x256x3072 .f32 :=
  projT (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

theorem res_att (m : (ℓ : Loc nD τ sig) → Buf (Elt Ideal) ℓ) (c : Dev nD) :
    res_main_v61 m c = outT (expT (scoreT (projM m c))) (projM m c) := rfl

/-- The reference's run, its results as the steps above. -/
theorem run_steps (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61) = outT (expT (scoreT (projM m c))) (projM m c)
      ∧ r.2.mem ((c.tc : Thread nD τ).loc main_v38) = hyT (projM m c)
      ∧ r.2.mem ((c.tc : Thread nD τ).loc main_v44) = keysT (projM m c)
      ∧ r.2.mem ((c.tc : Thread nD τ).loc main_v46) = valsT (projM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  run m ρ

/-- The row maximum. -/
theorem rowMax_at (S : FVec Ideal S32x8x256x256 .f32) (b : Fin 32) (h : Fin 8) (t : Fin 256) :
    Host.reduce FloatOps.maximumf S (constant S_ .f32 0xFF800000#32) reducesTo_S32x8x256x256_S32x8x256_d3 h_S_ (ix3 b h t)
      = Finset.fold max (Ideal.ofBits .f32 0xFF800000#32) (fun x => S (ix4 b h t x)) Finset.univ := by
  pointwise

/-- A row quantity spread along its row. -/
theorem spread_at (S : FVec Ideal S32x8x256 .f32) (b : Fin 32) (h : Fin 8) (t u : Fin 256) :
    broadcastInDim S32x8x256x256 ![0, 1, 2, 3] bcast_S32x8x256x1_S32x8x256x256_0_1_2_3
      (broadcastInDim S32x8x256x1 ![0, 1, 2] bcast_S32x8x256_S32x8x256x1_0_1_2 S) (ix4 b h t u) = S (ix3 b h t) := by
  pointwise

theorem maxConst_at (S : FVec Ideal S32x8x256 .f32) (b : Fin 32) (h : Fin 8) (t : Fin 256) :
    maximumf (broadcastInDim S32x8x256 ![] bcast_S_S32x8x256 (constant S_ .f32 0xFF800000#32)) S (ix3 b h t)
      = max (Ideal.ofBits .f32 0xFF800000#32) (S (ix3 b h t)) := by
  pointwise

/-- An element of the reference's normalised and modulated row. -/
def rowR (x g sh sc : Fin 1024 → EReal) (j : Fin 1024) : EReal :=
  x j * Ideal.rsqrt (Ideal.div (∑ k : Fin 1024, x k * x k) (Ideal.ofBits .f32 0x44800000#32) + Ideal.ofBits .f32 0x358637BD#32)
    * g j * (1 + sc j) + sh j

/-- The modulation at a column. -/
def modR (C : FVec Ideal S1024 .f32) (Wa : FVec Ideal S1x1024x6144 .f32) (Ba : FVec Ideal S1x6144 .f32) (n : Fin 6144) : EReal :=
  ∑ x : Fin 1024, C (ix1 x) * Ideal.div 1 (1 + Ideal.exp (-C (ix1 x))) * Wa (ix3 0 x n) + Ba (ix2 0 n)

theorem modT_at (C : FVec Ideal S1024 .f32) (Wa : FVec Ideal S1x1024x6144 .f32) (Ba : FVec Ideal S1x6144 .f32) (n : Fin 6144) :
    modT C Wa Ba (ix3 0 0 n) = modR C Wa Ba n := by
  pointwise [modT, modR]

theorem hT_at (X : FVec Ideal S32x256x1024 .f32) (C : FVec Ideal S1024 .f32) (G : FVec Ideal S1x1024 .f32) (Wa : FVec Ideal S1x1024x6144 .f32)
    (Ba : FVec Ideal S1x6144 .f32) (b : Fin 32) (t : Fin 256) (n : Fin 1024) :
    hT X C G Wa Ba (ix3 b t n) = rowR (fun k => X (ix3 b t k)) (fun k => G (ix2 0 k))
      (fun k => modR C Wa Ba ⟨k.val, by omega⟩) (fun k => modR C Wa Ba ⟨1024 + k.val, by omega⟩) n := by
  pointwise [hT, rowR]
  rw [modT_at, modT_at]

/-- The projection at an index. -/
theorem projT_at (X : FVec Ideal S32x256x1024 .f32) (C : FVec Ideal S1024 .f32) (G : FVec Ideal S1x1024 .f32) (Wa : FVec Ideal S1x1024x6144 .f32)
    (Ba : FVec Ideal S1x6144 .f32) (Wi : FVec Ideal S1x1024x3072 .f32) (b : Fin 32) (t : Fin 256) (n : Fin 3072) :
    projT X C G Wa Ba Wi (ix3 b t n) = ∑ k : Fin 1024, rowR (fun k => X (ix3 b t k)) (fun k => G (ix2 0 k))
      (fun k => modR C Wa Ba ⟨k.val, by omega⟩) (fun k => modR C Wa Ba ⟨1024 + k.val, by omega⟩) k * Wi (ix3 0 k n) := by
  pointwise [projT]
  simp only [hT_at]

theorem hyT_at (Y : FVec Ideal S32x256x3072 .f32) (b : Fin 32) (t : Fin 256) (n : Fin 1536) :
    hyT Y (ix3 b t n) = Y (ix3 b t ⟨1536 + n.val, by omega⟩) := by
  pointwise [hyT]

theorem keysT_at (Y : FVec Ideal S32x256x3072 .f32) (b : Fin 32) (h : Fin 8) (t : Fin 256) (d : Fin 64) :
    keysT Y (ix4 b h t d) = Y (ix3 b t ⟨512 + (h.val * 64 + d.val), by omega⟩) := by
  pointwise [keysT]

theorem valsT_at (Y : FVec Ideal S32x256x3072 .f32) (b : Fin 32) (h : Fin 8) (t : Fin 256) (d : Fin 64) :
    valsT Y (ix4 b h t d) = Y (ix3 b t ⟨1024 + (h.val * 64 + d.val), by omega⟩) := by
  pointwise [valsT]

theorem scoreT_at (Y : FVec Ideal S32x256x3072 .f32) (b : Fin 32) (h : Fin 8) (t u : Fin 256) :
    scoreT Y (ix4 b h t u) = ∑ d : Fin 64, Y (ix3 b t ⟨h.val * 64 + d.val, by omega⟩) * Ideal.ofBits .f32 0x3E000000#32
      * Y (ix3 b u ⟨512 + (h.val * 64 + d.val), by omega⟩) := by
  pointwise [scoreT, keysT]

theorem expT_at (S : FVec Ideal S32x8x256x256 .f32) (b : Fin 32) (h : Fin 8) (t u : Fin 256) :
    expT S (ix4 b h t u) = Ideal.exp (S (ix4 b h t u) - max (Ideal.ofBits .f32 0xFF800000#32)
      (Finset.fold max (Ideal.ofBits .f32 0xFF800000#32) (fun x => S (ix4 b h t x)) Finset.univ)) := by
  refine congrArg (fun z : EReal => Ideal.exp (S (ix4 b h t u) - z)) ?_
  rw [spread_at, maxConst_at, rowMax_at]

theorem outT_at (E : FVec Ideal S32x8x256x256 .f32) (Y : FVec Ideal S32x256x3072 .f32) (b : Fin 32) (t : Fin 256) (l : Fin 512) :
    outT E Y (ix3 b t l) = ∑ u : Fin 256, Ideal.div (E (ix4 b ⟨l.val / 64, by omega⟩ t u)) (∑ w : Fin 256, E (ix4 b ⟨l.val / 64, by omega⟩ t w))
      * Y (ix3 b u ⟨1024 + l.val, by omega⟩) := by
  pointwise [outT, valsT]

end Cert.ReferenceIdeal.Value

end
-- ==== Proof.Layer.Equation.lean ====
module

public import proofs.«01_k».proof.Proof.Layer.Ada
public import proofs.«01_k».proof.Proof.Layer.InProj
public import proofs.«01_k».proof.Proof.Layer.Attn
public import proofs.«01_k».proof.Proof.Layer.Ref
public import proofs.«01_k».proof.Proof.Layer.Real

@[expose] public section

set_option maxRecDepth 16384
set_option maxHeartbeats 4000000

noncomputable section

/-! # The two programs compute the same values

The calls' formulas against the reference's steps, for finite weights and any input. -/

open Idealize.ShloMosaic

namespace Cert.Layer

open Cert.KernelIdeal (S16x1024 S1024x6144 S1x6144 S16x1x6144 S1x1024 S1024x3072 S32x256x1024 S32x256x512 S32x256x1536 S32x8x256x64)
open Cert.KernelIdeal.Value Cert.ReferenceIdeal.Value
open Cert.ReferenceIdeal (S1024 S1x1024x6144 S1x1024x3072 S32x256x3072)

section

variable {X : FVec Ideal S32x256x1024 .f32} {C : FVec Ideal S1024 .f32} {G : FVec Ideal S1x1024 .f32} {Wa : FVec Ideal S1x1024x6144 .f32}
  {Ba : FVec Ideal S1x6144 .f32} {Wi : FVec Ideal S1x1024x3072 .f32}

theorem silu_eq (x : EReal) : siluK x = x * Ideal.div 1 (1 + Ideal.exp (-x)) := by
  unfold siluK
  rw [zero_sub]

/-- The call's modulation, read at the row the context's vector stands in, is the reference's. -/
theorem mod_eq {Ct : FVec Ideal S16x1024 .f32} {Wt : FVec Ideal S1024x6144 .f32} {B : FVec Ideal S1x6144 .f32}
    (h1 : ∀ k, Ct (ix2 0 k) = C (ix1 k)) (h2 : ∀ k n, Wt (ix2 k n) = Wa (ix3 0 k n)) (h3 : ∀ n, B (ix2 0 n) = Ba (ix2 0 n))
    (n : Fin 6144) : adaK Ct Wt B (ix2 0 n) = modR C Wa Ba n := by
  show ∑ k : Fin 1024, siluK (Ct (ix2 0 k)) * Wt (ix2 k n) + B (ix2 0 n) = _
  simp only [h1, h2, h3, silu_eq]
  rfl

theorem mod_fin (hC : ∀ k, Fin' (C (ix1 k))) (hW : ∀ k n, Fin' (Wa (ix3 0 k n))) (hB : ∀ n, Fin' (Ba (ix2 0 n))) (n : Fin 6144) :
    Fin' (modR C Wa Ba n) :=
  (Fin'.sum _ fun k => (hC k).silu.mul (hW k n)).add (hB n)

theorem row_eq (x g sh sc : Fin 1024 → EReal) (j : Fin 1024) : rowR x g sh sc j = modRow x g sh sc j := by
  unfold rowR modRow
  rw [div_1024]

theorem row_fin (x g sh sc : Fin 1024 → EReal) (hg : ∀ k, Fin' (g k)) (hsh : ∀ k, Fin' (sh k)) (hsc : ∀ k, Fin' (sc k)) (j : Fin 1024) :
    Fin' (modRow x g sh sc j) :=
  (((norm_fin x j).mul (hg j)).mul (Fin'.one.add (hsc j))).add (hsh j)

/-- The call's projection is the reference's. -/
theorem proj_eq {M : FVec Ideal S16x1x6144 .f32} {Gt : FVec Ideal S1x1024 .f32} {Wt : FVec Ideal S1024x3072 .bf16}
    (hM : ∀ n, M (ix3 0 0 n) = modR C Wa Ba n) (hG : ∀ k, Gt (ix2 0 k) = G (ix2 0 k)) (hW : ∀ k n, Wt (ix2 k n) = Wi (ix3 0 k n))
    (b : Fin 32) (t : Fin 256) (n : Fin 3072) : projK X M Gt Wt b t n = projT X C G Wa Ba Wi (ix3 b t n) := by
  rw [projT_at]
  unfold projK
  simp only [hM, hG, hW, row_eq]

theorem proj_fin (hC : ∀ k, Fin' (C (ix1 k))) (hWa : ∀ k n, Fin' (Wa (ix3 0 k n))) (hB : ∀ n, Fin' (Ba (ix2 0 n)))
    (hG : ∀ k, Fin' (G (ix2 0 k))) (hW : ∀ k n, Fin' (Wi (ix3 0 k n))) (b : Fin 32) (t : Fin 256) (n : Fin 3072) :
    Fin' (projT X C G Wa Ba Wi (ix3 b t n)) := by
  rw [projT_at]
  refine Fin'.sum _ fun k => ?_
  rw [row_eq]
  exact (row_fin _ _ _ _ hG (fun _ => mod_fin hC hWa hB _) (fun _ => mod_fin hC hWa hB _) k).mul (hW k n)

end

section

variable {X : FVec Ideal S32x256x1024 .f32} {M : FVec Ideal S16x1x6144 .f32} {G : FVec Ideal S1x1024 .f32} {Wt : FVec Ideal S1024x3072 .bf16}
  {Y : FVec Ideal S32x256x3072 .f32} (h : ∀ b t n, projK X M G Wt b t n = Y (ix3 b t n))

include h

theorem hy_eq : hyArr X M G Wt = hyT Y := by
  funext j
  obtain ⟨b, t, n, rfl⟩ : ∃ (b : Fin 32) (t : Fin 256) (n : Fin 1536), j = ix3 b t n := ⟨j 0, j 1, j 2, eq_ix3 j⟩
  rw [hyT_at, ← h]
  rfl

theorem keys_eq : stateArr 512 (by omega) X M G Wt = keysT Y := by
  funext j
  obtain ⟨b, p, t, d, rfl⟩ : ∃ (b : Fin 32) (p : Fin 8) (t : Fin 256) (d : Fin 64), j = ix4 b p t d := ⟨j 0, j 1, j 2, j 3, eq_ix4 j⟩
  rw [keysT_at, ← h]
  unfold stateArr
  exact congrArg (projK X M G Wt b t) (Fin.ext (Nat.add_assoc _ _ _))

theorem vals_eq : stateArr 1024 (by omega) X M G Wt = valsT Y := by
  funext j
  obtain ⟨b, p, t, d, rfl⟩ : ∃ (b : Fin 32) (p : Fin 8) (t : Fin 256) (d : Fin 64), j = ix4 b p t d := ⟨j 0, j 1, j 2, j 3, eq_ix4 j⟩
  rw [valsT_at, ← h]
  unfold stateArr
  exact congrArg (projK X M G Wt b t) (Fin.ext (Nat.add_assoc _ _ _))

theorem q_eq (b : Fin 32) (t : Fin 256) (n : Fin 1536) (hn : (n : ℕ) < 512) :
    qkvArr X M G Wt (ix3 b t n) = Y (ix3 b t ⟨n.val, by omega⟩) * Ideal.ofBits .f32 0x3E000000#32 := by
  rw [← h]
  exact if_pos hn

theorem kv_eq (b : Fin 32) (t : Fin 256) (n : Fin 1536) (hn : ¬ (n : ℕ) < 512) :
    qkvArr X M G Wt (ix3 b t n) = Y (ix3 b t ⟨n.val, by omega⟩) := by
  rw [← h]
  exact if_neg hn

/-- The attention call's result is the reference's, for a finite projection. -/
theorem att_eq (hY : ∀ b t n, Fin' (Y (ix3 b t n))) : attnArr (qkvArr X M G Wt) = outT (expT (scoreT Y)) Y := by
  funext j
  obtain ⟨b, t, l, rfl⟩ : ∃ (b : Fin 32) (t : Fin 256) (l : Fin 512), j = ix3 b t l := ⟨j 0, j 1, j 2, eq_ix3 j⟩
  have hq : ∀ d : Fin 64, qkvArr X M G Wt (ix3 b t ⟨l.val / 64 * 64 + d.val, by omega⟩)
      = Y (ix3 b t ⟨l.val / 64 * 64 + d.val, by omega⟩) * Ideal.ofBits .f32 0x3E000000#32 :=
    fun d => q_eq h b t _ (by show l.val / 64 * 64 + d.val < 512; omega)
  have hk : ∀ (u : Fin 256) (d : Fin 64), qkvArr X M G Wt (ix3 b u ⟨512 + l.val / 64 * 64 + d.val, by omega⟩)
      = Y (ix3 b u ⟨512 + (l.val / 64 * 64 + d.val), by omega⟩) :=
    fun u d => (kv_eq h b u _ (by show ¬ 512 + l.val / 64 * 64 + d.val < 512; omega)).trans
      (congrArg (fun n => Y (ix3 b u n)) (Fin.ext (Nat.add_assoc _ _ _)))
  have hv : ∀ u : Fin 256, qkvArr X M G Wt (ix3 b u ⟨1024 + l.val, by omega⟩) = Y (ix3 b u ⟨1024 + l.val, by omega⟩) :=
    fun u => kv_eq h b u _ (by show ¬ 1024 + l.val < 512; omega)
  refine (attnRow_congr hq hk hv).trans ?_
  rw [outT_at]
  simp only [expT_at, scoreT_at]
  have hs : ∀ u : Fin 256, Fin' (∑ d : Fin 64, Y (ix3 b t ⟨l.val / 64 * 64 + d.val, by omega⟩) * Ideal.ofBits .f32 0x3E000000#32
      * Y (ix3 b u ⟨512 + (l.val / 64 * 64 + d.val), by omega⟩)) := fun u =>
    Fin'.sum _ fun d => ((hY _ _ _).mul ⟨_, ofBits_eighth⟩).mul (hY _ _ _)
  have hM : Fin' (Finset.fold max (Ideal.ofBits .f32 0xFF800000#32) (fun u : Fin 256 => ∑ d : Fin 64, Y (ix3 b t ⟨l.val / 64 * 64 + d.val, by omega⟩)
      * Ideal.ofBits .f32 0x3E000000#32 * Y (ix3 b u ⟨512 + (l.val / 64 * 64 + d.val), by omega⟩)) Finset.univ) := by
    choose r hr using hs
    simp only [hr]
    exact fold_max_fin (by omega) r
  have hmax : ∀ z : EReal, max (Ideal.ofBits .f32 0xFF800000#32) z = z := fun z => by
    rw [ofBits_neg_inf]; exact max_eq_right bot_le
  simp only [hmax]
  exact softmax_eq (by omega) _ _ hs (fun u => hY _ _ _) _ hM

end

end Cert.Layer

end
-- ==== Proof.Layer.Run.lean ====
module

public import proofs.«01_k».proof.Proof.Layer.Host
public import proofs.«01_k».proof.Proof.Layer.Equation

@[expose] public section

set_option maxRecDepth 16384
set_option maxHeartbeats 4000000

noncomputable section

/-! # The kernel's run: its four results

The launch of the three calls, read at the four result arrays, and these results as the reference's steps. -/

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Value

open Cert.KernelIdeal Cert.KernelIdeal.Gen Cert.Layer

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with the result arrays at what the calls leave and the arguments as launched. -/
theorem run : θ_run defs (onTc (τ := τ) (main (F := Ideal))) ⟨m, fun _ => 0, ρ⟩ (fun r => ∀ c : Dev nD,
      r.2.mem ((c.tc : Thread nD τ).loc main_v15) = W5 m ρ c (Proc.devRef .tc main_v15)
      ∧ r.2.mem ((c.tc : Thread nD τ).loc main_v14_1) = W5 m ρ c (Proc.devRef .tc main_v14_1)
      ∧ r.2.mem ((c.tc : Thread nD τ).loc main_v14_2) = W5 m ρ c (Proc.devRef .tc main_v14_2)
      ∧ r.2.mem ((c.tc : Thread nD τ).loc main_v14_3) = W5 m ρ c (Proc.devRef .tc main_v14_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v15 (by decide)), h c _ (mem_uc main_v14_1 (by decide)), h c _ (mem_uc main_v14_2 (by decide)),
       h c _ (mem_uc main_v14_3 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

/-- The modulation table, the gain and the weights as the second call reads them. -/
abbrev T9 (c : Dev nD) : FVec Ideal S16x1x6144 .f32 := V3 m ρ c main_v9
abbrev T13 (c : Dev nD) : FVec Ideal S1x1024 .f32 := V3 m ρ c main_v13
abbrev T11 (c : Dev nD) : FVec Ideal S1024x3072 .bf16 := V3 m ρ c main_v11
abbrev T0 (c : Dev nD) : FVec Ideal S32x256x1024 .f32 := V3 m ρ c main_arg0

theorem end_hy (c : Dev nD) : (W5 m ρ c (Proc.devRef .tc main_v14_1) : FVec Ideal S32x256x1536 .f32)
    = hyArr (T0 m ρ c) (T9 m ρ c) (T13 m ρ c) (T11 m ρ c) :=
  (W5_of m ρ c main_v14_1 (by decide)).trans ((W4_arr m ρ c 5).trans (final1_5 (V3 m ρ) c))

theorem end_k (c : Dev nD) : (W5 m ρ c (Proc.devRef .tc main_v14_2) : FVec Ideal S32x8x256x64 .f32)
    = stateArr 512 (by omega) (T0 m ρ c) (T9 m ρ c) (T13 m ρ c) (T11 m ρ c) :=
  (W5_of m ρ c main_v14_2 (by decide)).trans ((W4_arr m ρ c 6).trans (final1_6 (V3 m ρ) c))

theorem end_v (c : Dev nD) : (W5 m ρ c (Proc.devRef .tc main_v14_3) : FVec Ideal S32x8x256x64 .f32)
    = stateArr 1024 (by omega) (T0 m ρ c) (T9 m ρ c) (T13 m ρ c) (T11 m ρ c) :=
  (W5_of m ρ c main_v14_3 (by decide)).trans ((W4_arr m ρ c 7).trans (final1_7 (V3 m ρ) c))

theorem end_att (c : Dev nD) : (W5 m ρ c (Proc.devRef .tc main_v15) : FVec Ideal S32x256x512 .f32)
    = attnArr (qkvArr (T0 m ρ c) (T9 m ρ c) (T13 m ρ c) (T11 m ρ c)) :=
  (W5_arr m ρ c 1).trans ((final2 (V4 m ρ) c).trans (congrArg attnArr ((W4_arr m ρ c 4).trans (final1_4 (V3 m ρ) c))))

end Cert.KernelIdeal.Value

end
-- ==== Proof.Layer.Pre.lean ====
module

public import proofs.«01_k».proof.Proof.Layer.Real
public import proofs.«01_k».proof.Proof.Gen.Pre_finite
public import Idealize.ShloMosaic.Lib.ReduceAll

@[expose] public section

noncomputable section

/-! # Reading the precondition: every entry of the weights is a real number -/

open Idealize.ShloMosaic

namespace Cert.Layer

open Cert.Pre_finite

/-- An absolute value below infinity is a real's. -/
theorem fin_of_abs (x : EReal) (h : Ideal.cmp .olt (max x (-x)) (Ideal.ofBits .f32 0x7F800000#32) = 1#1) : Fin' x := by
  rw [ofBits_inf] at h
  by_cases hx : max x (-x) < ⊤
  · rw [max_lt_iff] at hx
    refine .of_ne hx.1.ne fun e => ?_
    rw [e] at hx
    exact absurd hx.2 (by simp)
  · unfold Ideal.cmp at h
    simp [hx] at h

/-- One array's conjunct. -/
theorem fin_of_all {s : Shape} {d : List (Fin s.rank)} (x : FVec Ideal s .f32) (hb : S_.BroadcastsInDim s (![] : Fin 0 → Fin s.rank))
    (h : s.ReducesTo d S_) (hu : 0 < S_.numel) (j : S_.Idx)
    (e : Host.reduce IntOp.andi (cmpf .olt (Host.absf x) (broadcastInDim s ![] hb (constant S_ .f32 0x7F800000#32))) (constantI S_ 1 1#1) h hu j = 1#1)
    (i : s.Idx) : Fin' (x i) :=
  fin_of_abs _ (Host.reduce_andi_all _ _ _ _ j e i)

theorem finite_all (a0 : FVec Ideal S32x256x1024 .f32) (a1 : FVec Ideal S8x1024 .f32) (a2 : FVec Ideal S1024 .f32) (a3 : FVec Ideal S1x1024 .f32)
    (a4 : FVec Ideal S1x1024x6144 .f32) (a5 : FVec Ideal S1x6144 .f32) (a6 : FVec Ideal S1x1024x3072 .f32)
    (h : Cert.Pre_finite.fn (F := Ideal) a0 a1 a2 a3 a4 a5 a6 = fun _ => 1#1) :
    (∀ i, Fin' (a2 i)) ∧ (∀ i, Fin' (a3 i)) ∧ (∀ i, Fin' (a4 i)) ∧ (∀ i, Fin' (a5 i)) ∧ (∀ i, Fin' (a6 i)) := by
  have j : S_.Idx := fun a => a.elim0
  have h0 := congrFun h j
  unfold Cert.Pre_finite.fn Cert.Pre_finite.fn_part1 at h0
  obtain ⟨h1, h6⟩ := IntOp.andi_eq_one.1 h0
  obtain ⟨h2, h5⟩ := IntOp.andi_eq_one.1 h1
  obtain ⟨h3, h4⟩ := IntOp.andi_eq_one.1 h2
  obtain ⟨hc, hg⟩ := IntOp.andi_eq_one.1 h3
  exact ⟨fin_of_all a2 _ _ _ j hc, fin_of_all a3 _ _ _ j hg, fin_of_all a4 _ _ _ j h4, fin_of_all a5 _ _ _ j h5, fin_of_all a6 _ _ _ j h6⟩

end Cert.Layer

end
-- ==== Proof.Layer.Value.lean ====
module

public import proofs.«01_k».proof.Defs
public import proofs.«01_k».proof.Proof.Layer.Run
public import proofs.«01_k».proof.Proof.Layer.Pre

@[expose] public section

set_option maxRecDepth 16384
set_option maxHeartbeats 4000000

noncomputable section

/-! # The value claim

Under the precondition the kernel's four results are the reference's. -/

open Idealize.ShloMosaic Idealize.ShloMosaic.TcCoe Idealize.SL.Sem

namespace Cert.Proof

open Cert.KernelIdeal.Value Cert.ReferenceIdeal.Value Cert.Layer

section

variable (m : (ℓ : Loc Cert.KernelIdeal.nD Cert.KernelIdeal.τ Cert.KernelIdeal.sig) → Buf (Elt Ideal) ℓ) (ρ : Dev Cert.KernelIdeal.nD → PrngReg)

/-- The reference's projection of the kernel's arguments. -/
def projOf (c : Dev Cert.KernelIdeal.nD) : FVec Ideal Cert.ReferenceIdeal.S32x256x3072 .f32 :=
  projT (m ((c.tc : Thread Cert.KernelIdeal.nD Cert.KernelIdeal.τ).loc Cert.KernelIdeal.main_arg0))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))

theorem proj_call (c : Dev Cert.KernelIdeal.nD) (b : Fin 32) (t : Fin 256) (n : Fin 3072) :
    projK (T0 m ρ c) (T9 m ρ c) (T13 m ρ c) (T11 m ρ c) b t n = projOf m c (ix3 b t n) := by
  have hx : T0 m ρ c = m ((c.tc : Thread Cert.KernelIdeal.nD Cert.KernelIdeal.τ).loc Cert.KernelIdeal.main_arg0) := x_eq m ρ c
  rw [hx]
  exact proj_eq (fun n => (v9_at m ρ c n).trans (mod_eq (v4_row m ρ c) (v5_at m ρ c) (v7_at m ρ c) n))
    (v13_at m ρ c) (v11_at m ρ c) b t n

variable (hm : Cert.Pre_KernelIdeal_finite m)
include hm

theorem proj_call_fin (c : Dev Cert.KernelIdeal.nD) (b : Fin 32) (t : Fin 256) (n : Fin 3072) : Fin' (projOf m c (ix3 b t n)) := by
  obtain ⟨f2, f3, f4, f5, f6⟩ := finite_all _ _ _ _ _ _ _ (hm c)
  exact proj_fin (fun k => f2 _) (fun k n => f4 _) (fun n => f5 _) (fun k => f3 _) (fun k n => f6 _) b t n

end

/-- From memories agreeing on the arguments, with finite weights, the kernel and the reference end with equal results. -/
theorem value : Cert.algebraic_KernelIdeal_ReferenceIdeal_pre_finite := by
  intro m g m' g' hm hargs
  have hp : ∀ c, projM m' c = projOf m c := fun c => by
    obtain ⟨h0, h1, h2, h3, h4, h5, h6⟩ := hargs c
    unfold projM projOf
    rw [h0, h2, h3, h4, h5, h6]
  refine ⟨fun c => outT (expT (scoreT (projOf m c))) (projOf m c), fun c => hyT (projOf m c), fun c => keysT (projOf m c),
    fun c => valsT (projOf m c), ?_, ?_⟩
  · refine (θ_run _ _ _).mono (fun r h c => ?_) (Cert.KernelIdeal.Value.run m g)
    obtain ⟨a0, a1, a2, a3, ha⟩ := h c
    have hY := proj_call m g c
    exact ⟨a0.trans ((end_att m g c).trans (att_eq hY (proj_call_fin m hm c))), a1.trans ((end_hy m g c).trans (hy_eq hY)),
      a2.trans ((end_k m g c).trans (keys_eq hY)), a3.trans ((end_v m g c).trans (vals_eq hY)), ha⟩
  · refine (θ_run _ _ _).mono (fun r h c => ?_) (Cert.ReferenceIdeal.Value.run_steps m' g')
    have hc := h c
    rw [hp c] at hc
    exact hc

end Cert.Proof

end
-- ==== Proof.lean ====
module
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Output
public import proofs.«01_k».proof.Proof.Gen.OutputIdeal
public import proofs.«01_k».proof.Proof.Gen.OutputIdeal.Skeleton
public import proofs.«01_k».proof.Proof.Gen.OutputIdeal.Launch
public import proofs.«01_k».proof.Proof.Gen.OutputIdeal.Points
public import proofs.«01_k».proof.Proof.Gen.OutputReferenceIdeal
public import proofs.«01_k».proof.Proof.Gen.OutputReferenceIdeal.Run
public import proofs.«01_k».proof.Proof.Gen.Experts
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Loops
public import proofs.«01_k».proof.Proof.Gen.ExpertsReferenceIdeal.Run
public import proofs.«01_k».proof.Proof.Gen.Pre_tokens
public import proofs.«01_k».proof.Proof.Bits
public import proofs.«01_k».proof.Proof.Output.Bits
public import proofs.«01_k».proof.Proof.Output.Value
public import proofs.«01_k».proof.Proof.Value
public import proofs.«01_k».proof.Proof.Layer.Value

@[expose] public section

noncomputable section

-- The frames also say that every semaphore counter ends at zero.

namespace Cert.Proof

open Idealize.ShloMosaic Idealize.SL.Sem

/-- The idealized program's text, read at bits, keeps its arguments when the token rows are in range. -/
theorem frame_bits : FrameBits := fun m ρ h =>
  Cert.ExpertsIdeal.Gen.frame (F := Bits) m ρ trivial
    (Cert.ExpertsIdeal.Gen.tokOk m
      (Cert.ExpertsIdeal.Gen.tokens_range (F := Bits) _ _ _ _ _ _ _ _ _ (h 0)).1
      (Cert.ExpertsIdeal.Gen.tokens_range (F := Bits) _ _ _ _ _ _ _ _ _ (h 0)).2)

/-- The program as printed keeps its arguments when the token rows are in range. -/
theorem frame_p : Cert.quiescent_Experts := Eq.mpr frame_bits_eq frame_bits

/-- The idealized program keeps its arguments when the token rows are in range. -/
theorem frame_pi : Cert.quiescent_ExpertsIdeal := fun m ρ h =>
  Cert.ExpertsIdeal.Gen.frame (F := Ideal) m ρ trivial
    (Cert.ExpertsIdeal.Gen.tokOk m
      (Cert.ExpertsIdeal.Gen.tokens_range (F := Ideal) _ _ _ _ _ _ _ _ _ (h 0)).1
      (Cert.ExpertsIdeal.Gen.tokens_range (F := Ideal) _ _ _ _ _ _ _ _ _ (h 0)).2)

/-- The experts' reference leaves its arguments, and it has no counter. -/
theorem frame_ri : Cert.quiescent_ExpertsReferenceIdeal := by
  intro m ρ _
  exact (θ_run Cert.ExpertsReferenceIdeal.defs _ _).mono (fun r h => ⟨fun c => (h c).2,
      Idealize.ShloMosaic.sem_eq_zero_of_no_sems (by decide) r.2⟩)
    (Cert.ExpertsReferenceIdeal.Value.run (F := Ideal) m ρ)

/-- The attention half's reference leaves its arguments, and it has no counter. -/
theorem frame_layer_ri : Cert.quiescent_ReferenceIdeal := by
  intro m ρ _
  exact (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The out-projection's reference leaves its arguments, and it has no counter. -/
theorem frame_out_ri : Cert.quiescent_OutputReferenceIdeal := by
  intro m ρ _
  exact (θ_run Cert.OutputReferenceIdeal.defs _ _).mono (fun r h => ⟨fun c => (h c).2.2.2,
      Idealize.ShloMosaic.sem_eq_zero_of_no_sems (by decide) r.2⟩)
    (Cert.OutputReferenceIdeal.Value.run_steps m ρ)

theorem claim : Cert.Claim := ⟨Cert.Kernel.Gen.facts, Cert.KernelIdeal.Gen.facts, Cert.ReferenceIdeal.Gen.facts,
  Cert.Output.Gen.facts, Cert.OutputIdeal.Gen.facts, Cert.OutputReferenceIdeal.Gen.facts,
  Cert.Experts.Gen.facts, Cert.ExpertsIdeal.Gen.facts, Cert.ExpertsReferenceIdeal.Gen.facts,
  Cert.Pre_finite.Gen.facts, Cert.Pre_tokens.Gen.facts,
  fun m ρ _ => Cert.Kernel.Gen.frame m ρ, fun m ρ _ => Cert.KernelIdeal.Gen.frame m ρ, fun m ρ _ => Cert.KernelIdeal.Gen.frame m ρ,
  frame_layer_ri, fun m ρ _ => frame_layer_ri m ρ trivial,
  Cert.Output.frame_p, fun m ρ _ => Cert.OutputIdeal.Body.frame (F := Ideal) m ρ, frame_out_ri,
  frame_p, frame_pi, frame_ri, fun m ρ _ => frame_ri m ρ trivial,
  trivial, value, trivial, Cert.OutputIdeal.Body.value, trivial, Cert.ExpertsIdeal.Value.value⟩

end Cert.Proof

end
